-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v22_0)) (v1 : (c : Dev Cert.Kernel4Ideal.nD) → Buf (Elt Ideal) ((c.tc : Thread Cert.Kernel4Ideal.nD Cert.Kernel4Ideal.τ).loc Cert.Kernel4Ideal.main_v22_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v22_0) = v0 c
          ∧ r.2.mem ((c.tc : Thread Cert.Kernel4Ideal.nD Cert.Kernel4Ideal.τ).loc Cert.Kernel4Ideal.main_v22_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v143) = v0 c
          ∧ r.2.mem ((c.tc : Thread Cert.Reference4Ideal.nD Cert.Reference4Ideal.τ).loc Cert.Reference4Ideal.main_v145) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S16x2048x2048 : Shape := ⟨3, ![16, 2048, 2048]⟩
abbrev S2048 : Shape := ⟨1, ![2048]⟩
abbrev S16x2048 : Shape := ⟨2, ![16, 2048]⟩
abbrev S2048x8192 : Shape := ⟨2, ![2048, 8192]⟩
abbrev S8192 : Shape := ⟨1, ![8192]⟩
abbrev S4096 : Shape := ⟨1, ![4096]⟩
abbrev S16x128x128 : Shape := ⟨3, ![16, 128, 128]⟩
abbrev S16x128 : Shape := ⟨2, ![16, 128]⟩
abbrev S4096x2048 : Shape := ⟨2, ![4096, 2048]⟩
abbrev S16x1x2048 : Shape := ⟨3, ![16, 1, 2048]⟩
abbrev S1x2048 : Shape := ⟨2, ![1, 2048]⟩
abbrev S1x8192 : Shape := ⟨2, ![1, 8192]⟩
abbrev S1x4096 : Shape := ⟨2, ![1, 4096]⟩
abbrev S16x128x1 : Shape := ⟨3, ![16, 128, 1]⟩
abbrev S1x512x2048 : Shape := ⟨3, ![1, 512, 2048]⟩
abbrev S1x1x2048 : Shape := ⟨3, ![1, 1, 2048]⟩
abbrev S1x1x512 : Shape := ⟨3, ![1, 1, 512]⟩
abbrev S2048x1024 : Shape := ⟨2, ![2048, 1024]⟩
abbrev S1x1024 : Shape := ⟨2, ![1, 1024]⟩
abbrev S4096x512 : Shape := ⟨2, ![4096, 512]⟩
abbrev S1x512 : Shape := ⟨2, ![1, 512]⟩
abbrev S1x512x512 : Shape := ⟨3, ![1, 512, 512]⟩
abbrev S512x2048 : Shape := ⟨2, ![512, 2048]⟩
abbrev S512x4096 : Shape := ⟨2, ![512, 4096]⟩
abbrev S512x1 : Shape := ⟨2, ![512, 1]⟩
abbrev S512 : Shape := ⟨1, ![512]⟩
abbrev S2048x512 : Shape := ⟨2, ![2048, 512]⟩
abbrev S512x512 : Shape := ⟨2, ![512, 512]⟩
abbrev S128x128 : Shape := ⟨2, ![128, 128]⟩
abbrev S2048x256 : Shape := ⟨2, ![2048, 256]⟩
abbrev S512x256 : Shape := ⟨2, ![512, 256]⟩
abbrev S1x256 : Shape := ⟨2, ![1, 256]⟩
abbrev S1x128x128 : Shape := ⟨3, ![1, 128, 128]⟩
abbrev S128x256 : Shape := ⟨2, ![128, 256]⟩
abbrev S1x128x1 : Shape := ⟨3, ![1, 128, 1]⟩
abbrev S128x1 : Shape := ⟨2, ![128, 1]⟩
abbrev S4096x256 : Shape := ⟨2, ![4096, 256]⟩
abbrev S1x512x256 : Shape := ⟨3, ![1, 512, 256]⟩
abbrev S1x1x256 : Shape := ⟨3, ![1, 1, 256]⟩

abbrev nBuf : Space → Nat
  | .hbm => 25
  | .vmem => 30
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S16x2048, .f32⟩
  | .hbm, ⟨3, _⟩ => ⟨S16x2048, .f32⟩
  | .hbm, ⟨4, _⟩ => ⟨S16x2048, .f32⟩
  | .hbm, ⟨5, _⟩ => ⟨S2048x8192, .f32⟩
  | .hbm, ⟨6, _⟩ => ⟨S8192, .f32⟩
  | .hbm, ⟨7, _⟩ => ⟨S4096, .f32⟩
  | .hbm, ⟨8, _⟩ => ⟨S4096, .f32⟩
  | .hbm, ⟨9, _⟩ => ⟨S16x128x128, .f32⟩
  | .hbm, ⟨10, _⟩ => ⟨S16x128, .f32⟩
  | .hbm, ⟨11, _⟩ => ⟨S4096x2048, .f32⟩
  | .hbm, ⟨12, _⟩ => ⟨S2048, .f32⟩
  | .hbm, ⟨13, _⟩ => ⟨S16x1x2048, .f32⟩
  | .hbm, ⟨14, _⟩ => ⟨S16x1x2048, .f32⟩
  | .hbm, ⟨15, _⟩ => ⟨S16x1x2048, .f32⟩
  | .hbm, ⟨16, _⟩ => ⟨S2048x8192, .bf16⟩
  | .hbm, ⟨17, _⟩ => ⟨S4096x2048, .bf16⟩
  | .hbm, ⟨18, _⟩ => ⟨S1x2048, .f32⟩
  | .hbm, ⟨19, _⟩ => ⟨S1x8192, .f32⟩
  | .hbm, ⟨20, _⟩ => ⟨S1x4096, .f32⟩
  | .hbm, ⟨21, _⟩ => ⟨S1x4096, .f32⟩
  | .hbm, ⟨22, _⟩ => ⟨S16x128x1, .f32⟩
  | .hbm, ⟨23, _⟩ => ⟨S1x2048, .f32⟩
  | .hbm, ⟨24, _⟩ => ⟨S16x2048x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x512, .f32⟩
  | .local _ .vmem, ⟨8, _⟩ => ⟨S1x1x512, .f32⟩
  | .local _ .vmem, ⟨9, _⟩ => ⟨S2048x1024, .bf16⟩
  | .local _ .vmem, ⟨10, _⟩ => ⟨S2048x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S16x128x128, .f32⟩
  | .local _ .vmem, ⟨18, _⟩ => ⟨S16x128x1, .f32⟩
  | .local _ .vmem, ⟨19, _⟩ => ⟨S4096x512, .bf16⟩
  | .local _ .vmem, ⟨20, _⟩ => ⟨S4096x512, .bf16⟩
  | .local _ .vmem, ⟨21, _⟩ => ⟨S1x512, .f32⟩
  | .local _ .vmem, ⟨22, _⟩ => ⟨S1x512, .f32⟩
  | .local _ .vmem, ⟨23, _⟩ => ⟨S1x512x512, .f32⟩
  | .local _ .vmem, ⟨24, _⟩ => ⟨S1x512x512, .f32⟩
  | .local _ .vmem, ⟨25, _⟩ => ⟨S512x2048, .bf16⟩
  | .local _ .vmem, ⟨26, _⟩ => ⟨S512x4096, .f32⟩
  | .local _ .vmem, ⟨27, _⟩ => ⟨S512x4096, .bf16⟩
  | .local _ .vmem, ⟨28, _⟩ => ⟨S512x1, .f32⟩
  | .local _ .vmem, ⟨29, _⟩ => ⟨S512x1, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨3, ![16, 4, 12], ![false, false, false]⟩

def k0_cond2 (i : grid0.Coords) : BitVec 1 :=
  let arg2 : BitVec 32 := BitVec.ofNat 32 (i 2).val
  let c4_i32 : BitVec 32 := 4#32
  let v3 : BitVec 1 := Scalar.cmpi .slt arg2 c4_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg2 : BitVec 32 := BitVec.ofNat 32 (i 2).val
  let c1024_i32 : BitVec 32 := 1024#32
  let v17 : BitVec 32 := Scalar.muli arg2 c1024_i32
  v17
def k0_off1 (i : grid0.Coords) (c0_i32_16 : BitVec 32) : Fin 2 → Nat :=
  let c0_17 : Index := 0#32
  let arg2 : BitVec 32 := BitVec.ofNat 32 (i 2).val
  let c1024_i32 : BitVec 32 := 1024#32
  let v17 : BitVec 32 := Scalar.muli arg2 c1024_i32
  let v18 : BitVec 32 := v17
  let v40 : BitVec 32 := Scalar.addi v18 c0_i32_16
  let v41 : Index := Scalar.indexCast v40
  ![0, v41.toNat]
def k0_cond4 (i : grid0.Coords) : BitVec 1 :=
  let arg2 : BitVec 32 := BitVec.ofNat 32 (i 2).val
  let c4_i32_3 : BitVec 32 := 4#32
  let v9 : BitVec 1 := Scalar.cmpi .sge arg2 c4_i32_3
  let c8_i32 : BitVec 32 := 8#32
  let v10 : BitVec 1 := Scalar.cmpi .slt arg2 c8_i32
  let v11 : BitVec 1 := Scalar.andi v9 v10
  let v12 : BitVec 32 := Scalar.extui v11
  let c0_i32_4 : BitVec 32 := 0#32
  let v13 : BitVec 1 := Scalar.cmpi .ne v12 c0_i32_4
  v13

def k0_mult2 (i : grid0.Coords) : BitVec 32 :=
  let arg2 : BitVec 32 := BitVec.ofNat 32 (i 2).val
  let c4_i32_7 : BitVec 32 := 4#32
  let v17 : BitVec 32 := Scalar.subi arg2 c4_i32_7
  let c1024_i32 : BitVec 32 := 1024#32
  let v18 : BitVec 32 := Scalar.muli v17 c1024_i32
  v18
def k0_off2 (i : grid0.Coords) (c0_i32_17 : BitVec 32) : Fin 2 → Nat :=
  let c0_18 : Index := 0#32
  let arg2 : BitVec 32 := BitVec.ofNat 32 (i 2).val
  let c4_i32_7 : BitVec 32 := 4#32
  let v17 : BitVec 32 := Scalar.subi arg2 c4_i32_7
  let c1024_i32 : BitVec 32 := 1024#32
  let v18 : BitVec 32 := Scalar.muli v17 c1024_i32
  let v19 : BitVec 32 := v18
  let v44 : BitVec 32 := Scalar.addi v19 c0_i32_17
  let v45 : Index := Scalar.indexCast v44
  ![0, v45.toNat]
def k0_off3 (i : grid0.Coords) (c0_i32_28 : BitVec 32) : Fin 3 → Nat :=
  let arg2 : BitVec 32 := BitVec.ofNat 32 (i 2).val
  let c4_i32_7 : BitVec 32 := 4#32
  let v17 : BitVec 32 := Scalar.subi arg2 c4_i32_7
  let c4_i32_27 : BitVec 32 := 4#32
  let v62 : BitVec 32 := Scalar.muli v17 c4_i32_27
  let v63 : BitVec 32 := Scalar.addi v62 c0_i32_28
  let v64 : Index := Scalar.indexCast v63
  let c0_29 : Index := 0#32
  let c0_30 : Index := 0#32
  ![v64.toNat, 0, 0]
def k0_off4 (i : grid0.Coords) (c0_i32_28 : BitVec 32) : Fin 3 → Nat :=
  let arg2 : BitVec 32 := BitVec.ofNat 32 (i 2).val
  let c4_i32_7 : BitVec 32 := 4#32
  let v17 : BitVec 32 := Scalar.subi arg2 c4_i32_7
  let c4_i32_27 : BitVec 32 := 4#32
  let v62 : BitVec 32 := Scalar.muli v17 c4_i32_27
  let v63 : BitVec 32 := Scalar.addi v62 c0_i32_28
  let v72 : Index := Scalar.indexCast v63
  let c0_33 : Index := 0#32
  let c0_34 : Index := 0#32
  ![v72.toNat, 0, 0]
def k0_off5 (i : grid0.Coords) (c0_i32_17 : BitVec 32) : Fin 2 → Nat :=
  let c0_35 : Index := 0#32
  let arg2 : BitVec 32 := BitVec.ofNat 32 (i 2).val
  let c4_i32_7 : BitVec 32 := 4#32
  let v17 : BitVec 32 := Scalar.subi arg2 c4_i32_7
  let c1024_i32 : BitVec 32 := 1024#32
  let v18 : BitVec 32 := Scalar.muli v17 c1024_i32
  let v19 : BitVec 32 := v18
  let v44 : BitVec 32 := Scalar.addi v19 c0_i32_17
  let v80 : Index := Scalar.indexCast v44
  ![0, v80.toNat]
def k0_off6 (i : grid0.Coords) (c0_i32_17 : BitVec 32) : Fin 2 → Nat :=
  let c128 : Index := 128#32
  let arg2 : BitVec 32 := BitVec.ofNat 32 (i 2).val
  let c4_i32_7 : BitVec 32 := 4#32
  let v17 : BitVec 32 := Scalar.subi arg2 c4_i32_7
  let c1024_i32 : BitVec 32 := 1024#32
  let v18 : BitVec 32 := Scalar.muli v17 c1024_i32
  let v19 : BitVec 32 := v18
  let v44 : BitVec 32 := Scalar.addi v19 c0_i32_17
  let v94 : Index := Scalar.indexCast v44
  ![128, v94.toNat]
def k0_off7 (i : grid0.Coords) (c0_i32_17 : BitVec 32) : Fin 2 → Nat :=
  let c256 : Index := 256#32
  let arg2 : BitVec 32 := BitVec.ofNat 32 (i 2).val
  let c4_i32_7 : BitVec 32 := 4#32
  let v17 : BitVec 32 := Scalar.subi arg2 c4_i32_7
  let c1024_i32 : BitVec 32 := 1024#32
  let v18 : BitVec 32 := Scalar.muli v17 c1024_i32
  let v19 : BitVec 32 := v18
  let v44 : BitVec 32 := Scalar.addi v19 c0_i32_17
  let v108 : Index := Scalar.indexCast v44
  ![256, v108.toNat]
def k0_off8 (i : grid0.Coords) (c0_i32_17 : BitVec 32) : Fin 2 → Nat :=
  let c384 : Index := 384#32
  let arg2 : BitVec 32 := BitVec.ofNat 32 (i 2).val
  let c4_i32_7 : BitVec 32 := 4#32
  let v17 : BitVec 32 := Scalar.subi arg2 c4_i32_7
  let c1024_i32 : BitVec 32 := 1024#32
  let v18 : BitVec 32 := Scalar.muli v17 c1024_i32
  let v19 : BitVec 32 := v18
  let v44 : BitVec 32 := Scalar.addi v19 c0_i32_17
  let v122 : Index := Scalar.indexCast v44
  ![384, v122.toNat]
def k0_cond5 (i : grid0.Coords) : BitVec 1 :=
  let arg2 : BitVec 32 := BitVec.ofNat 32 (i 2).val
  let c8_i32_5 : BitVec 32 := 8#32
  let v14 : BitVec 1 := Scalar.cmpi .sge arg2 c8_i32_5
  let v15 : BitVec 32 := Scalar.extui v14
  let c0_i32_6 : BitVec 32 := 0#32
  let v16 : BitVec 1 := Scalar.cmpi .ne v15 c0_i32_6
  v16

def k0_mult3 (i : grid0.Coords) : BitVec 32 :=
  let arg2 : BitVec 32 := BitVec.ofNat 32 (i 2).val
  let c8_i32_7 : BitVec 32 := 8#32
  let v17 : BitVec 32 := Scalar.subi arg2 c8_i32_7
  let c512_i32 : BitVec 32 := 512#32
  let v18 : BitVec 32 := Scalar.muli v17 c512_i32
  v18
def k0_off9 (i : grid0.Coords) (c0_i32_11 : BitVec 32) : Fin 3 → Nat :=
  let c0_12 : Index := 0#32
  let c0_13 : Index := 0#32
  let arg2 : BitVec 32 := BitVec.ofNat 32 (i 2).val
  let c8_i32_7 : BitVec 32 := 8#32
  let v17 : BitVec 32 := Scalar.subi arg2 c8_i32_7
  let c512_i32 : BitVec 32 := 512#32
  let v18 : BitVec 32 := Scalar.muli v17 c512_i32
  let v19 : BitVec 32 := v18
  let v24 : BitVec 32 := Scalar.addi v19 c0_i32_11
  let v25 : Index := Scalar.indexCast v24
  ![0, 0, v25.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg2 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![arg0.toNat, c0_i32_0.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg2 c4_i32
  let c4_i32_0 : BitVec 32 := 4#32
  let v1 : BitVec 32 := Scalar.addi arg2 c4_i32_0
  let c4_i32_1 : BitVec 32 := 4#32
  let v2 : BitVec 32 := Scalar.subi arg2 c4_i32_1
  let c3_i32 : BitVec 32 := 3#32
  let v3 : BitVec 32 := Scalar.minsi v2 c3_i32
  let v4 : BitVec 32 := Scalar.select v0 v1 v3
  let c0_i32 : BitVec 32 := 0#32
  let c0_i32_2 : BitVec 32 := 0#32
  ![c0_i32.toNat, v4.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg2 c4_i32
  let c4_i32_0 : BitVec 32 := 4#32
  let v1 : BitVec 32 := Scalar.addi arg2 c4_i32_0
  let c4_i32_1 : BitVec 32 := 4#32
  let v2 : BitVec 32 := Scalar.subi arg2 c4_i32_1
  let c3_i32 : BitVec 32 := 3#32
  let v3 : BitVec 32 := Scalar.minsi v2 c3_i32
  let v4 : BitVec 32 := Scalar.select v0 v1 v3
  let c0_i32 : BitVec 32 := 0#32
  let c0_i32_2 : BitVec 32 := 0#32
  ![c0_i32.toNat, v4.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg2 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg2 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg2 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, arg1.toNat, v2.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 1 → Memref sig .tc .vmem S16x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S16x128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S4096x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, false, true]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, false, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== ReferenceIdeal.lean ====
abbrev S16x2048x2048 : Shape := ⟨3, ![16, 2048, 2048]⟩
abbrev S2048 : Shape := ⟨1, ![2048]⟩
abbrev S16x2048 : Shape := ⟨2, ![16, 2048]⟩
abbrev S2048x8192 : Shape := ⟨2, ![2048, 8192]⟩
abbrev S8192 : Shape := ⟨1, ![8192]⟩
abbrev S4096 : Shape := ⟨1, ![4096]⟩
abbrev S16x128x128 : Shape := ⟨3, ![16, 128, 128]⟩
abbrev S16x128 : Shape := ⟨2, ![16, 128]⟩
abbrev S4096x2048 : Shape := ⟨2, ![4096, 2048]⟩
abbrev S_ : Shape := ⟨0, ![]⟩
abbrev S16x2048x1 : Shape := ⟨3, ![16, 2048, 1]⟩
abbrev S1x1x2048 : Shape := ⟨3, ![1, 1, 2048]⟩
abbrev S16x1x2048 : Shape := ⟨3, ![16, 1, 2048]⟩
abbrev S16x2048x8192 : Shape := ⟨3, ![16, 2048, 8192]⟩
abbrev S1x1x8192 : Shape := ⟨3, ![1, 1, 8192]⟩
abbrev S16x2048x4096 : Shape := ⟨3, ![16, 2048, 4096]⟩
abbrev S1x1x4096 : Shape := ⟨3, ![1, 1, 4096]⟩
abbrev S16x16x128x16x256 : Shape := ⟨5, ![16, 16, 128, 16, 256]⟩
abbrev S128x128 : Shape := ⟨2, ![128, 128]⟩
abbrev S1x128x128 : Shape := ⟨3, ![1, 128, 128]⟩
abbrev S16x16x16x256x128 : Shape := ⟨5, ![16, 16, 16, 256, 128]⟩
abbrev S128x16 : Shape := ⟨2, ![128, 16]⟩
abbrev S1x1x128x16x1 : Shape := ⟨5, ![1, 1, 128, 16, 1]⟩

abbrev nBuf : Space → Nat
  | .hbm => 124
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S16x2048, .f32⟩
  | .hbm, ⟨3, _⟩ => ⟨S16x2048, .f32⟩
  | .hbm, ⟨4, _⟩ => ⟨S16x2048, .f32⟩
  | .hbm, ⟨5, _⟩ => ⟨S2048x8192, .f32⟩
  | .hbm, ⟨6, _⟩ => ⟨S8192, .f32⟩
  | .hbm, ⟨7, _⟩ => ⟨S4096, .f32⟩
  | .hbm, ⟨8, _⟩ => ⟨S4096, .f32⟩
  | .hbm, ⟨9, _⟩ => ⟨S16x128x128, .f32⟩
  | .hbm, ⟨10, _⟩ => ⟨S16x128, .f32⟩
  | .hbm, ⟨11, _⟩ => ⟨S4096x2048, .f32⟩
  | .hbm, ⟨12, _⟩ => ⟨S2048, .f32⟩
  | .hbm, ⟨13, _⟩ => ⟨S16x2048x2048, .f32⟩
  | .hbm, ⟨14, _⟩ => ⟨S_, .f32⟩
  | .hbm, ⟨15, _⟩ => ⟨S16x2048, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S16x2048x1, .f32⟩
  | .hbm, ⟨24, _⟩ => ⟨S16x2048x2048, .f32⟩
  | .hbm, ⟨25, _⟩ => ⟨S16x2048x2048, .f32⟩
  | .hbm, ⟨26, _⟩ => ⟨S1x1x2048, .f32⟩
  | .hbm, ⟨27, _⟩ => ⟨S16x2048x2048, .f32⟩
  | .hbm, ⟨28, _⟩ => ⟨S16x2048x2048, .f32⟩
  | .hbm, ⟨29, _⟩ => ⟨S16x1x2048, .f32⟩
  | .hbm, ⟨30, _⟩ => ⟨S_, .f32⟩
  | .hbm, ⟨31, _⟩ => ⟨S16x1x2048, .f32⟩
  | .hbm, ⟨32, _⟩ => ⟨S16x1x2048, .f32⟩
  | .hbm, ⟨33, _⟩ => ⟨S16x2048x2048, .f32⟩
  | .hbm, ⟨34, _⟩ => ⟨S16x2048x2048, .f32⟩
  | .hbm, ⟨35, _⟩ => ⟨S16x1x2048, .f32⟩
  | .hbm, ⟨36, _⟩ => ⟨S16x2048x2048, .f32⟩
  | .hbm, ⟨37, _⟩ => ⟨S16x2048x2048, .f32⟩
  | .hbm, ⟨38, _⟩ => ⟨S16x2048x8192, .f32⟩
  | .hbm, ⟨39, _⟩ => ⟨S1x1x8192, .f32⟩
  | .hbm, ⟨40, _⟩ => ⟨S16x2048x8192, .f32⟩
  | .hbm, ⟨41, _⟩ => ⟨S16x2048x8192, .f32⟩
  | .hbm, ⟨42, _⟩ => ⟨S16x2048x8192, .f32⟩
  | .hbm, ⟨43, _⟩ => ⟨S16x2048x8192, .f32⟩
  | .hbm, ⟨44, _⟩ => ⟨S_, .f32⟩
  | .hbm, ⟨45, _⟩ => ⟨S16x2048x8192, .f32⟩
  | .hbm, ⟨46, _⟩ => ⟨S16x2048x8192, .f32⟩
  | .hbm, ⟨47, _⟩ => ⟨S16x2048x8192, .f32⟩
  | .hbm, ⟨48, _⟩ => ⟨S_, .f32⟩
  | .hbm, ⟨49, _⟩ => ⟨S16x2048x8192, .f32⟩
  | .hbm, ⟨50, _⟩ => ⟨S16x2048x8192, .f32⟩
  | .hbm, ⟨51, _⟩ => ⟨S16x2048x8192, .f32⟩
  | .hbm, ⟨52, _⟩ => ⟨S_, .f32⟩
  | .hbm, ⟨53, _⟩ => ⟨S16x2048x8192, .f32⟩
  | .hbm, ⟨54, _⟩ => ⟨S16x2048x8192, .f32⟩
  | .hbm, ⟨55, _⟩ => ⟨S_, .f32⟩
  | .hbm, ⟨56, _⟩ => ⟨S16x2048x8192, .f32⟩
  | .hbm, ⟨57, _⟩ => ⟨S16x2048x8192, .f32⟩
  | .hbm, ⟨58, _⟩ => ⟨S16x2048x8192, .f32⟩
  | .hbm, ⟨59, _⟩ => ⟨S16x2048x4096, .f32⟩
  | .hbm, ⟨60, _⟩ => ⟨S16x2048x4096, .f32⟩
  | .hbm, ⟨61, _⟩ => ⟨S_, .f32⟩
  | .hbm, ⟨62, _⟩ => ⟨S16x2048, .f32⟩
  | .hbm, ⟨63, _⟩ => ⟨S16x2048x1, .f32⟩
  | .hbm, ⟨64, _⟩ => ⟨S_, .f32⟩
  | .hbm, ⟨65, _⟩ => ⟨S16x2048x1, .f32⟩
  | .hbm, ⟨66, _⟩ => ⟨S16x2048x1, .f32⟩
  | .hbm, ⟨67, _⟩ => ⟨S16x2048x4096, .f32⟩
  | .hbm, ⟨68, _⟩ => ⟨S16x2048x4096, .f32⟩
  | .hbm, ⟨69, _⟩ => ⟨S16x2048x4096, .f32⟩
  | .hbm, ⟨70, _⟩ => ⟨S_, .f32⟩
  | .hbm, ⟨71, _⟩ => ⟨S16x2048, .f32⟩
  | .hbm, ⟨72, _⟩ => ⟨S16x2048x1, .f32⟩
  | .hbm, ⟨73, _⟩ => ⟨S_, .f32⟩
  | .hbm, ⟨74, _⟩ => ⟨S16x2048x1, .f32⟩
  | .hbm, ⟨75, _⟩ => ⟨S16x2048x1, .f32⟩
  | .hbm, ⟨76, _⟩ => ⟨S16x2048x4096, .f32⟩
  | .hbm, ⟨77, _⟩ => ⟨S16x2048x4096, .f32⟩
  | .hbm, ⟨78, _⟩ => ⟨S_, .f32⟩
  | .hbm, ⟨79, _⟩ => ⟨S16x2048x1, .f32⟩
  | .hbm, ⟨80, _⟩ => ⟨S16x2048x1, .f32⟩
  | .hbm, ⟨81, _⟩ => ⟨S16x2048x1, .f32⟩
  | .hbm, ⟨82, _⟩ => ⟨S16x2048x4096, .f32⟩
  | .hbm, ⟨83, _⟩ => ⟨S16x2048x4096, .f32⟩
  | .hbm, ⟨84, _⟩ => ⟨S1x1x4096, .f32⟩
  | .hbm, ⟨85, _⟩ => ⟨S16x2048x4096, .f32⟩
  | .hbm, ⟨86, _⟩ => ⟨S16x2048x4096, .f32⟩
  | .hbm, ⟨87, _⟩ => ⟨S1x1x4096, .f32⟩
  | .hbm, ⟨88, _⟩ => ⟨S16x2048x4096, .f32⟩
  | .hbm, ⟨89, _⟩ => ⟨S16x2048x4096, .f32⟩
  | .hbm, ⟨90, _⟩ => ⟨S16x16x128x16x256, .f32⟩
  | .hbm, ⟨91, _⟩ => ⟨S_, .i1⟩
  | .hbm, ⟨92, _⟩ => ⟨S128x128, .i1⟩
  | .hbm, ⟨93, _⟩ => ⟨S128x128, .i32⟩
  | .hbm, ⟨94, _⟩ => ⟨S_, .i32⟩
  | .hbm, ⟨95, _⟩ => ⟨S128x128, .i32⟩
  | .hbm, ⟨96, _⟩ => ⟨S128x128, .i32⟩
  | .hbm, ⟨97, _⟩ => ⟨S128x128, .i32⟩
  | .hbm, ⟨98, _⟩ => ⟨S128x128, .i1⟩
  | .hbm, ⟨99, _⟩ => ⟨S_, .i1⟩
  | .hbm, ⟨100, _⟩ => ⟨S128x128, .i1⟩
  | .hbm, ⟨101, _⟩ => ⟨S128x128, .i1⟩
  | .hbm, ⟨102, _⟩ => ⟨S1x128x128, .i1⟩
  | .hbm, ⟨103, _⟩ => ⟨S_, .f32⟩
  | .hbm, ⟨104, _⟩ => ⟨S_, .f32⟩
  | .hbm, ⟨105, _⟩ => ⟨S16x128x128, .i1⟩
  | .hbm, ⟨106, _⟩ => ⟨S16x128x128, .f32⟩
  | .hbm, ⟨107, _⟩ => ⟨S16x128x128, .f32⟩
  | .hbm, ⟨108, _⟩ => ⟨S16x16x16x256x128, .f32⟩
  | .hbm, ⟨109, _⟩ => ⟨S16x16x128x16x256, .f32⟩
  | .hbm, ⟨110, _⟩ => ⟨S128x16, .f32⟩
  | .hbm, ⟨111, _⟩ => ⟨S1x1x128x16x1, .f32⟩
  | .hbm, ⟨112, _⟩ => ⟨S16x16x128x16x256, .f32⟩
  | .hbm, ⟨113, _⟩ => ⟨S16x16x128x16x256, .f32⟩
  | .hbm, ⟨114, _⟩ => ⟨S16x2048x4096, .f32⟩
  | .hbm, ⟨115, _⟩ => ⟨S16x2048x4096, .f32⟩
  | .hbm, ⟨116, _⟩ => ⟨S16x2048x2048, .f32⟩
  | .hbm, ⟨117, _⟩ => ⟨S1x1x2048, .f32⟩
  | .hbm, ⟨118, _⟩ => ⟨S16x2048x2048, .f32⟩
  | .hbm, ⟨119, _⟩ => ⟨S16x2048x2048, .f32⟩
  | .hbm, ⟨120, _⟩ => ⟨S16x1x2048, .f32⟩
  | .hbm, ⟨121, _⟩ => ⟨S16x2048x2048, .f32⟩
  | .hbm, ⟨122, _⟩ => ⟨S16x2048x2048, .f32⟩
  | .hbm, ⟨123, _⟩ => ⟨S16x2048x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c : Ref sig .tc := ⟨.hbm, 91, rfl⟩
abbrev main_v65 : Ref sig .tc := ⟨.hbm, 92, rfl⟩
abbrev main_call0_v0 : Ref sig .tc := ⟨.hbm, 93, rfl⟩
abbrev main_call0_c : Ref sig .tc := ⟨.hbm, 94, rfl⟩
abbrev main_call0_v1 : Ref sig .tc := ⟨.hbm, 95, rfl⟩
abbrev main_call0_v2 : Ref sig .tc := ⟨.hbm, 96, rfl⟩
abbrev main_call0_v3 : Ref sig .tc := ⟨.hbm, 97, rfl⟩
abbrev main_call0_v4 : Ref sig .tc := ⟨.hbm, 98, rfl⟩
abbrev main_call0_c_0 : Ref sig .tc := ⟨.hbm, 99, rfl⟩
abbrev main_call0_v5 : Ref sig .tc := ⟨.hbm, 100, rfl⟩
abbrev main_v66 : Ref sig .tc := ⟨.hbm, 101, rfl⟩
abbrev main_v67 : Ref sig .tc := ⟨.hbm, 102, rfl⟩
abbrev main_cst_12 : Ref sig .tc := ⟨.hbm, 103, rfl⟩
abbrev main_call1_v0 : Ref sig .tc := ⟨.hbm, 104, rfl⟩
abbrev main_call1_v1 : Ref sig .tc := ⟨.hbm, 105, rfl⟩
abbrev main_call1_v2 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩

abbrev nD : Nat := 1
abbrev τ : Topo := Topo.v7x

variable {F : FTy → Type} [FloatOps F]
-- ==== Kernel2.lean ====
abbrev S16x2048x2048 : Shape := ⟨3, ![16, 2048, 2048]⟩
abbrev S2048 : Shape := ⟨1, ![2048]⟩
abbrev S16x2048 : Shape := ⟨2, ![16, 2048]⟩
abbrev S2x2048x8192 : Shape := ⟨3, ![2, 2048, 8192]⟩
abbrev S2x8192x2048 : Shape := ⟨3, ![2, 8192, 2048]⟩
abbrev S16x1x2048 : Shape := ⟨3, ![16, 1, 2048]⟩
abbrev S1x2048 : Shape := ⟨2, ![1, 2048]⟩
abbrev S1x512x2048 : Shape := ⟨3, ![1, 512, 2048]⟩
abbrev S1x1x2048 : Shape := ⟨3, ![1, 1, 2048]⟩
abbrev S1x2048x1024 : Shape := ⟨3, ![1, 2048, 1024]⟩
abbrev S1x1024x2048 : Shape := ⟨3, ![1, 1024, 2048]⟩
abbrev S512x2048 : Shape := ⟨2, ![512, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 16
  | .vmem => 18
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S16x2048, .f32⟩
  | .hbm, ⟨3, _⟩ => ⟨S16x2048, .f32⟩
  | .hbm, ⟨4, _⟩ => ⟨S16x2048, .f32⟩
  | .hbm, ⟨5, _⟩ => ⟨S2x2048x8192, .f32⟩
  | .hbm, ⟨6, _⟩ => ⟨S2x8192x2048, .f32⟩
  | .hbm, ⟨7, _⟩ => ⟨S2048, .f32⟩
  | .hbm, ⟨8, _⟩ => ⟨S16x1x2048, .f32⟩
  | .hbm, ⟨9, _⟩ => ⟨S16x1x2048, .f32⟩
  | .hbm, ⟨10, _⟩ => ⟨S16x1x2048, .f32⟩
  | .hbm, ⟨11, _⟩ => ⟨S2x2048x8192, .bf16⟩
  | .hbm, ⟨12, _⟩ => ⟨S2x8192x2048, .bf16⟩
  | .hbm, ⟨13, _⟩ => ⟨S1x2048, .f32⟩
  | .hbm, ⟨14, _⟩ => ⟨S1x2048, .f32⟩
  | .hbm, ⟨15, _⟩ => ⟨S16x2048x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048x1024, .bf16⟩
  | .local _ .vmem, ⟨10, _⟩ => ⟨S1x2048x1024, .bf16⟩
  | .local _ .vmem, ⟨11, _⟩ => ⟨S1x1024x2048, .bf16⟩
  | .local _ .vmem, ⟨12, _⟩ => ⟨S1x1024x2048, .bf16⟩
  | .local _ .vmem, ⟨13, _⟩ => ⟨S1x2048, .f32⟩
  | .local _ .vmem, ⟨14, _⟩ => ⟨S1x512x2048, .f32⟩
  | .local _ .vmem, ⟨15, _⟩ => ⟨S1x512x2048, .f32⟩
  | .local _ .vmem, ⟨16, _⟩ => ⟨S512x2048, .bf16⟩
  | .local _ .vmem, ⟨17, _⟩ => ⟨S512x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v19 : BitVec 1 := Scalar.cmpi .eq arg2 c7_i32
  let v20 : BitVec 32 := Scalar.extui v19
  let c0_i32_14 : BitVec 32 := 0#32
  let v21 : BitVec 1 := Scalar.cmpi .ne v20 c0_i32_14
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference2Ideal.lean ====
abbrev S16x2048x2048 : Shape := ⟨3, ![16, 2048, 2048]⟩
abbrev S2048 : Shape := ⟨1, ![2048]⟩
abbrev S16x2048 : Shape := ⟨2, ![16, 2048]⟩
abbrev S2x2048x8192 : Shape := ⟨3, ![2, 2048, 8192]⟩
abbrev S2x8192x2048 : Shape := ⟨3, ![2, 8192, 2048]⟩
abbrev S_ : Shape := ⟨0, ![]⟩
abbrev S16x2048x1 : Shape := ⟨3, ![16, 2048, 1]⟩
abbrev S1x1x2048 : Shape := ⟨3, ![1, 1, 2048]⟩
abbrev S16x1x2048 : Shape := ⟨3, ![16, 1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S16x2048x8192 : Shape := ⟨3, ![16, 2048, 8192]⟩

abbrev nBuf : Space → Nat
  | .hbm => 63
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S16x2048, .f32⟩
  | .hbm, ⟨3, _⟩ => ⟨S16x2048, .f32⟩
  | .hbm, ⟨4, _⟩ => ⟨S16x2048, .f32⟩
  | .hbm, ⟨5, _⟩ => ⟨S2x2048x8192, .f32⟩
  | .hbm, ⟨6, _⟩ => ⟨S2x8192x2048, .f32⟩
  | .hbm, ⟨7, _⟩ => ⟨S2048, .f32⟩
  | .hbm, ⟨8, _⟩ => ⟨S16x2048x2048, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x2048, .f32⟩
  | .hbm, ⟨20, _⟩ => ⟨S16x2048x2048, .f32⟩
  | .hbm, ⟨21, _⟩ => ⟨S1x1x2048, .f32⟩
  | .hbm, ⟨22, _⟩ => ⟨S16x2048x2048, .f32⟩
  | .hbm, ⟨23, _⟩ => ⟨S16x2048x2048, .f32⟩
  | .hbm, ⟨24, _⟩ => ⟨S16x1x2048, .f32⟩
  | .hbm, ⟨25, _⟩ => ⟨S_, .f32⟩
  | .hbm, ⟨26, _⟩ => ⟨S16x1x2048, .f32⟩
  | .hbm, ⟨27, _⟩ => ⟨S16x1x2048, .f32⟩
  | .hbm, ⟨28, _⟩ => ⟨S16x2048x2048, .f32⟩
  | .hbm, ⟨29, _⟩ => ⟨S16x2048x2048, .f32⟩
  | .hbm, ⟨30, _⟩ => ⟨S16x1x2048, .f32⟩
  | .hbm, ⟨31, _⟩ => ⟨S16x2048x2048, .f32⟩
  | .hbm, ⟨32, _⟩ => ⟨S16x2048x2048, .f32⟩
  | .hbm, ⟨33, _⟩ => ⟨S16x1x2048, .f32⟩
  | .hbm, ⟨34, _⟩ => ⟨S1x2048x8192, .f32⟩
  | .hbm, ⟨35, _⟩ => ⟨S2048x8192, .f32⟩
  | .hbm, ⟨36, _⟩ => ⟨S1x8192x2048, .f32⟩
  | .hbm, ⟨37, _⟩ => ⟨S8192x2048, .f32⟩
  | .hbm, ⟨38, _⟩ => ⟨S16x2048x8192, .f32⟩
  | .hbm, ⟨39, _⟩ => ⟨S_, .f32⟩
  | .hbm, ⟨40, _⟩ => ⟨S16x2048x8192, .f32⟩
  | .hbm, ⟨41, _⟩ => ⟨S16x2048x8192, .f32⟩
  | .hbm, ⟨42, _⟩ => ⟨S16x2048x8192, .f32⟩
  | .hbm, ⟨43, _⟩ => ⟨S16x2048x2048, .f32⟩
  | .hbm, ⟨44, _⟩ => ⟨S16x2048x2048, .f32⟩
  | .hbm, ⟨45, _⟩ => ⟨S16x2048x2048, .f32⟩
  | .hbm, ⟨46, _⟩ => ⟨S16x2048x2048, .f32⟩
  | .hbm, ⟨47, _⟩ => ⟨S16x2048x2048, .f32⟩
  | .hbm, ⟨48, _⟩ => ⟨S_, .f32⟩
  | .hbm, ⟨49, _⟩ => ⟨S16x2048, .f32⟩
  | .hbm, ⟨50, _⟩ => ⟨S16x2048x1, .f32⟩
  | .hbm, ⟨51, _⟩ => ⟨S_, .f32⟩
  | .hbm, ⟨52, _⟩ => ⟨S16x2048x1, .f32⟩
  | .hbm, ⟨53, _⟩ => ⟨S16x2048x1, .f32⟩
  | .hbm, ⟨54, _⟩ => ⟨S_, .f32⟩
  | .hbm, ⟨55, _⟩ => ⟨S16x2048x1, .f32⟩
  | .hbm, ⟨56, _⟩ => ⟨S16x2048x1, .f32⟩
  | .hbm, ⟨57, _⟩ => ⟨S16x2048x1, .f32⟩
  | .hbm, ⟨58, _⟩ => ⟨S16x2048x2048, .f32⟩
  | .hbm, ⟨59, _⟩ => ⟨S16x2048x2048, .f32⟩
  | .hbm, ⟨60, _⟩ => ⟨S1x1x2048, .f32⟩
  | .hbm, ⟨61, _⟩ => ⟨S16x2048x2048, .f32⟩
  | .hbm, ⟨62, _⟩ => ⟨S16x2048x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_cst : Ref sig .tc := ⟨.hbm, 39, rfl⟩
abbrev main_call0_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== Kernel3.lean ====
abbrev S16x2048x2048 : Shape := ⟨3, ![16, 2048, 2048]⟩
abbrev S2048x2048 : Shape := ⟨2, ![2048, 2048]⟩
abbrev S16x2048 : Shape := ⟨2, ![16, 2048]⟩
abbrev S16x1x2048 : Shape := ⟨3, ![16, 1, 2048]⟩
abbrev S1x512x2048 : Shape := ⟨3, ![1, 512, 2048]⟩
abbrev S1x1x2048 : Shape := ⟨3, ![1, 1, 2048]⟩
abbrev S512x2048 : Shape := ⟨2, ![512, 2048]⟩
abbrev S2048x256 : Shape := ⟨2, ![2048, 256]⟩
abbrev S512x256 : Shape := ⟨2, ![512, 256]⟩
abbrev S1x512x256 : Shape := ⟨3, ![1, 512, 256]⟩
abbrev S1x1x256 : Shape := ⟨3, ![1, 1, 256]⟩
abbrev S1x256 : Shape := ⟨2, ![1, 256]⟩

abbrev nBuf : Space → Nat
  | .hbm => 7
  | .vmem => 9
  | .smem => 0
  | _ => 0

abbrev bufTy : (tb : Table) → Fin (tcTables nBuf tb) → BufTy
  | .hbm, ⟨0, _⟩ => ⟨S16x2048x2048, .bf16⟩
  | .hbm, ⟨1, _⟩ => ⟨S2048x2048, .f32⟩
  | .hbm, ⟨2, _⟩ => ⟨S16x2048x2048, .f32⟩
  | .hbm, ⟨3, _⟩ => ⟨S16x2048, .f32⟩
  | .hbm, ⟨4, _⟩ => ⟨S2048x2048, .bf16⟩
  | .hbm, ⟨5, _⟩ => ⟨S16x1x2048, .f32⟩
  | .hbm, ⟨6, _⟩ => ⟨S16x2048x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S2048x2048, .bf16⟩
  | .local _ .vmem, ⟨3, _⟩ => ⟨S1x512x2048, .f32⟩
  | .local _ .vmem, ⟨4, _⟩ => ⟨S1x512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x512x2048, .f32⟩
  | .local _ .vmem, ⟨8, _⟩ => ⟨S1x512x2048, .f32⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference3Ideal.lean ====
abbrev S16x2048x2048 : Shape := ⟨3, ![16, 2048, 2048]⟩
abbrev S2048x2048 : Shape := ⟨2, ![2048, 2048]⟩
abbrev S16x2048 : Shape := ⟨2, ![16, 2048]⟩
abbrev S16x1x2048 : Shape := ⟨3, ![16, 1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S16x2048x2048, .bf16⟩
  | .hbm, ⟨1, _⟩ => ⟨S2048x2048, .f32⟩
  | .hbm, ⟨2, _⟩ => ⟨S16x2048x2048, .f32⟩
  | .hbm, ⟨3, _⟩ => ⟨S16x2048, .f32⟩
  | .hbm, ⟨4, _⟩ => ⟨S16x1x2048, .f32⟩
  | .hbm, ⟨5, _⟩ => ⟨S16x2048x2048, .f32⟩
  | .hbm, ⟨6, _⟩ => ⟨S16x2048x2048, .f32⟩
  | .hbm, ⟨7, _⟩ => ⟨S16x2048x2048, .f32⟩
  | .hbm, ⟨8, _⟩ => ⟨S16x2048x2048, .f32⟩
  | .hbm, ⟨9, _⟩ => ⟨S16x2048x2048, .f32⟩
  | _, _ => ⟨S16x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel4.lean ====
abbrev S16x2048x2048 : Shape := ⟨3, ![16, 2048, 2048]⟩
abbrev S2048 : Shape := ⟨1, ![2048]⟩
abbrev S16x2048 : Shape := ⟨2, ![16, 2048]⟩
abbrev S2048x3072 : Shape := ⟨2, ![2048, 3072]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S16x1x2048 : Shape := ⟨3, ![16, 1, 2048]⟩
abbrev S1x2048 : Shape := ⟨2, ![1, 2048]⟩
abbrev S16x2x4x2048x128 : Shape := ⟨5, ![16, 2, 4, 2048, 128]⟩
abbrev S16x4x4x2048x128 : Shape := ⟨5, ![16, 4, 4, 2048, 128]⟩
abbrev S1x1024x2048 : Shape := ⟨3, ![1, 1024, 2048]⟩
abbrev S1x1x2048 : Shape := ⟨3, ![1, 1, 2048]⟩
abbrev S2048x512 : Shape := ⟨2, ![2048, 512]⟩
abbrev S1024x128 : Shape := ⟨2, ![1024, 128]⟩
abbrev S1x1x4x1024x128 : Shape := ⟨5, ![1, 1, 4, 1024, 128]⟩
abbrev S1024x2048 : Shape := ⟨2, ![1024, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S1x1x1x1024x128 : Shape := ⟨5, ![1, 1, 1, 1024, 128]⟩

abbrev nBuf : Space → Nat
  | .hbm => 31
  | .vmem => 18
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S16x2048, .f32⟩
  | .hbm, ⟨3, _⟩ => ⟨S16x2048, .f32⟩
  | .hbm, ⟨4, _⟩ => ⟨S2048x3072, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S2048, .i32⟩
  | .hbm, ⟨14, _⟩ => ⟨S2048, .f32⟩
  | .hbm, ⟨15, _⟩ => ⟨S2048x1, .f32⟩
  | .hbm, ⟨16, _⟩ => ⟨S1x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x64, .f32⟩
  | .hbm, ⟨21, _⟩ => ⟨S2048x64, .f32⟩
  | .hbm, ⟨22, _⟩ => ⟨S2048x128, .f32⟩
  | .hbm, ⟨23, _⟩ => ⟨S2048x64, .f32⟩
  | .hbm, ⟨24, _⟩ => ⟨S2048x128, .f32⟩
  | .hbm, ⟨25, _⟩ => ⟨S16x1x2048, .f32⟩
  | .hbm, ⟨26, _⟩ => ⟨S16x1x2048, .f32⟩
  | .hbm, ⟨27, _⟩ => ⟨S2048x3072, .bf16⟩
  | .hbm, ⟨28, _⟩ => ⟨S1x2048, .f32⟩
  | .hbm, ⟨29, _⟩ => ⟨S16x2x4x2048x128, .f32⟩
  | .hbm, ⟨30, _⟩ => ⟨S16x4x4x2048x128, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1x1x4x1024x128, .f32⟩
  | .local _ .vmem, ⟨14, _⟩ => ⟨S1x1x4x1024x128, .f32⟩
  | .local _ .vmem, ⟨15, _⟩ => ⟨S1x1x4x1024x128, .bf16⟩
  | .local _ .vmem, ⟨16, _⟩ => ⟨S1x1x4x1024x128, .bf16⟩
  | .local _ .vmem, ⟨17, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22_0 : Ref sig .tc := ⟨.hbm, 29, rfl⟩
abbrev main_v22_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![16, 2, 6], ![false, false, false]⟩

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg2 : BitVec 32 := BitVec.ofNat 32 (i 2).val
  let c2_i32 : BitVec 32 := 2#32
  let v9 : BitVec 1 := Scalar.cmpi .sge arg2 c2_i32
  let c2_i32_4 : BitVec 32 := 2#32
  let c0_i32_5 : BitVec 32 := 0#32
  let v10 : BitVec 1 := Scalar.cmpi .eq c2_i32_4 c0_i32_5
  let c1_i32_6 : BitVec 32 := 1#32
  let v11 : BitVec 32 := Scalar.select v10 c1_i32_6 c2_i32_4
  let v12 : BitVec 32 := Scalar.remsi arg2 v11
  let c0_i32_8 : BitVec 32 := 0#32
  let v14 : BitVec 1 := Scalar.cmpi .slt v12 c0_i32_8
  let c0_i32_9 : BitVec 32 := 0#32
  let v15 : BitVec 1 := Scalar.cmpi .slt v11 c0_i32_9
  let v16 : BitVec 1 := Scalar.xori v14 v15
  let c0_i32_7 : BitVec 32 := 0#32
  let v13 : BitVec 1 := Scalar.cmpi .ne v12 c0_i32_7
  let v17 : BitVec 1 := Scalar.andi v16 v13
  let v18 : BitVec 32 := Scalar.addi v12 v11
  let v19 : BitVec 32 := Scalar.select v17 v18 v12
  let c0_i32_10 : BitVec 32 := 0#32
  let v20 : BitVec 1 := Scalar.cmpi .eq v19 c0_i32_10
  let v21 : BitVec 1 := Scalar.andi v9 v20
  let v22 : BitVec 32 := Scalar.extui v21
  let c0_i32_11 : BitVec 32 := 0#32
  let v23 : BitVec 1 := Scalar.cmpi .ne v22 c0_i32_11
  v23

def k0_cond5 (i : grid0.Coords) : BitVec 1 :=
  let arg2 : BitVec 32 := BitVec.ofNat 32 (i 2).val
  let c2_i32_12 : BitVec 32 := 2#32
  let v24 : BitVec 1 := Scalar.cmpi .sge arg2 c2_i32_12
  let c2_i32_13 : BitVec 32 := 2#32
  let c0_i32_14 : BitVec 32 := 0#32
  let v25 : BitVec 1 := Scalar.cmpi .eq c2_i32_13 c0_i32_14
  let c1_i32_15 : BitVec 32 := 1#32
  let v26 : BitVec 32 := Scalar.select v25 c1_i32_15 c2_i32_13
  let v27 : BitVec 32 := Scalar.remsi arg2 v26
  let c0_i32_17 : BitVec 32 := 0#32
  let v29 : BitVec 1 := Scalar.cmpi .slt v27 c0_i32_17
  let c0_i32_18 : BitVec 32 := 0#32
  let v30 : BitVec 1 := Scalar.cmpi .slt v26 c0_i32_18
  let v31 : BitVec 1 := Scalar.xori v29 v30
  let c0_i32_16 : BitVec 32 := 0#32
  let v28 : BitVec 1 := Scalar.cmpi .ne v27 c0_i32_16
  let v32 : BitVec 1 := Scalar.andi v31 v28
  let v33 : BitVec 32 := Scalar.addi v27 v26
  let v34 : BitVec 32 := Scalar.select v32 v33 v27
  let c1_i32_19 : BitVec 32 := 1#32
  let v35 : BitVec 1 := Scalar.cmpi .eq v34 c1_i32_19
  let v36 : BitVec 1 := Scalar.andi v24 v35
  let v37 : BitVec 32 := Scalar.extui v36
  let c0_i32_20 : BitVec 32 := 0#32
  let v38 : BitVec 1 := Scalar.cmpi .ne v37 c0_i32_20
  v38

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  let c0_i32_0 : BitVec 32 := 0#32
  let c0_i32_1 : BitVec 32 := 0#32
  ![arg0.toNat, v0.toNat, c0_i32.toNat, arg1.toNat, c0_i32_0.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, v1.toNat, c0_i32_0.toNat, arg1.toNat, c0_i32_1.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1x4x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x4x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference4Ideal.lean ====
abbrev S16x2048x2048 : Shape := ⟨3, ![16, 2048, 2048]⟩
abbrev S2048 : Shape := ⟨1, ![2048]⟩
abbrev S16x2048 : Shape := ⟨2, ![16, 2048]⟩
abbrev S2048x3072 : Shape := ⟨2, ![2048, 3072]⟩
abbrev S_ : Shape := ⟨0, ![]⟩
abbrev S16x2048x1 : Shape := ⟨3, ![16, 2048, 1]⟩
abbrev S1x1x2048 : Shape := ⟨3, ![1, 1, 2048]⟩
abbrev S16x1x2048 : Shape := ⟨3, ![16, 1, 2048]⟩
abbrev S16x2048x3072 : Shape := ⟨3, ![16, 2048, 3072]⟩
abbrev S16x2048x6x4x128 : Shape := ⟨5, ![16, 2048, 6, 4, 128]⟩
abbrev S16x2048x1x4x128 : Shape := ⟨5, ![16, 2048, 1, 4, 128]⟩
abbrev S16x2048x4x128 : Shape := ⟨4, ![16, 2048, 4, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x1x64 : Shape := ⟨3, ![2048, 1, 64]⟩
abbrev S16x2048x4x64 : Shape := ⟨4, ![16, 2048, 4, 64]⟩
abbrev S1x2048x1x64 : Shape := ⟨4, ![1, 2048, 1, 64]⟩
abbrev S16x1x2048x4x128 : Shape := ⟨5, ![16, 1, 2048, 4, 128]⟩
abbrev S16x2x2048x4x128 : Shape := ⟨5, ![16, 2, 2048, 4, 128]⟩
abbrev S16x4x2048x4x128 : Shape := ⟨5, ![16, 4, 2048, 4, 128]⟩
abbrev S16x2x4x2048x128 : Shape := ⟨5, ![16, 2, 4, 2048, 128]⟩
abbrev S16x4x4x2048x128 : Shape := ⟨5, ![16, 4, 4, 2048, 128]⟩

abbrev nBuf : Space → Nat
  | .hbm => 161
  | .vmem => 0
  | .smem => 0
  | _ => 0

abbrev hbmTy0_0 (i : Nat) : BufTy := match i % 128 with
  | 0 => ⟨S16x2048x2048, .f32⟩
  | 1 => ⟨S2048, .f32⟩
  | 2 => ⟨S16x2048, .f32⟩
  | 3 => ⟨S16x2048, .f32⟩
  | 4 => ⟨S2048x3072, .f32⟩
  | 5 => ⟨S16x2048x2048, .f32⟩
  | 6 => ⟨S_, .f32⟩
  | 7 => ⟨S16x2048, .f32⟩
  | 8 => ⟨S16x2048x1, .f32⟩
  | 9 => ⟨S_, .f32⟩
  | 10 => ⟨S16x2048x1, .f32⟩
  | 11 => ⟨S16x2048x1, .f32⟩
  | 12 => ⟨S_, .f32⟩
  | 13 => ⟨S16x2048x1, .f32⟩
  | 14 => ⟨S16x2048x1, .f32⟩
  | 15 => ⟨S16x2048x1, .f32⟩
  | 16 => ⟨S16x2048x2048, .f32⟩
  | 17 => ⟨S16x2048x2048, .f32⟩
  | 18 => ⟨S1x1x2048, .f32⟩
  | 19 => ⟨S16x2048x2048, .f32⟩
  | 20 => ⟨S16x2048x2048, .f32⟩
  | 21 => ⟨S16x1x2048, .f32⟩
  | 22 => ⟨S_, .f32⟩
  | 23 => ⟨S16x1x2048, .f32⟩
  | 24 => ⟨S16x1x2048, .f32⟩
  | 25 => ⟨S16x2048x2048, .f32⟩
  | 26 => ⟨S16x2048x2048, .f32⟩
  | 27 => ⟨S16x1x2048, .f32⟩
  | 28 => ⟨S16x2048x2048, .f32⟩
  | 29 => ⟨S16x2048x2048, .f32⟩
  | 30 => ⟨S2048, .i32⟩
  | 31 => ⟨S16x2048x3072, .f32⟩
  | 32 => ⟨S16x2048x6x4x128, .f32⟩
  | 33 => ⟨S16x2048x1x4x128, .f32⟩
  | 34 => ⟨S16x2048x4x128, .f32⟩
  | 35 => ⟨S16x2048x1x4x128, .f32⟩
  | 36 => ⟨S16x2048x4x128, .f32⟩
  | 37 => ⟨S16x2048x1x4x128, .f32⟩
  | 38 => ⟨S16x2048x4x128, .f32⟩
  | 39 => ⟨S16x2048x1x4x128, .f32⟩
  | 40 => ⟨S16x2048x4x128, .f32⟩
  | 41 => ⟨S16x2048x1x4x128, .f32⟩
  | 42 => ⟨S16x2048x4x128, .f32⟩
  | 43 => ⟨S16x2048x1x4x128, .f32⟩
  | 44 => ⟨S16x2048x4x128, .f32⟩
  | 45 => ⟨S64, .f32⟩
  | 46 => ⟨S64, .f32⟩
  | 47 => ⟨S_, .f32⟩
  | 48 => ⟨S64, .f32⟩
  | 49 => ⟨S64, .f32⟩
  | 50 => ⟨S_, .f32⟩
  | 51 => ⟨S64, .f32⟩
  | 52 => ⟨S64, .f32⟩
  | 53 => ⟨S2048, .f32⟩
  | 54 => ⟨S2048x1, .f32⟩
  | 55 => ⟨S1x64, .f32⟩
  | 56 => ⟨S2048x64, .f32⟩
  | 57 => ⟨S2048x64, .f32⟩
  | 58 => ⟨S2048x64, .f32⟩
  | 59 => ⟨S2048x64, .f32⟩
  | 60 => ⟨S2048x1x64, .f32⟩
  | 61 => ⟨S2048x64, .f32⟩
  | 62 => ⟨S2048x1x64, .f32⟩
  | 63 => ⟨S16x2048x4x64, .f32⟩
  | 64 => ⟨S16x2048x4x64, .f32⟩
  | 65 => ⟨S1x2048x1x64, .f32⟩
  | 66 => ⟨S16x2048x4x64, .f32⟩
  | 67 => ⟨S16x2048x4x64, .f32⟩
  | 68 => ⟨S1x2048x1x64, .f32⟩
  | 69 => ⟨S16x2048x4x64, .f32⟩
  | 70 => ⟨S16x2048x4x64, .f32⟩
  | 71 => ⟨S16x2048x4x64, .f32⟩
  | 72 => ⟨S1x2048x1x64, .f32⟩
  | 73 => ⟨S16x2048x4x64, .f32⟩
  | 74 => ⟨S16x2048x4x64, .f32⟩
  | 75 => ⟨S1x2048x1x64, .f32⟩
  | 76 => ⟨S16x2048x4x64, .f32⟩
  | 77 => ⟨S16x2048x4x64, .f32⟩
  | 78 => ⟨S16x2048x4x64, .f32⟩
  | 79 => ⟨S16x2048x4x128, .f32⟩
  | 80 => ⟨S16x1x2048x4x128, .f32⟩
  | 81 => ⟨S16x1x2048x4x128, .f32⟩
  | 82 => ⟨S16x2x2048x4x128, .f32⟩
  | 83 => ⟨S64, .f32⟩
  | 84 => ⟨S64, .f32⟩
  | 85 => ⟨S_, .f32⟩
  | 86 => ⟨S64, .f32⟩
  | 87 => ⟨S64, .f32⟩
  | 88 => ⟨S_, .f32⟩
  | 89 => ⟨S64, .f32⟩
  | 90 => ⟨S64, .f32⟩
  | 91 => ⟨S2048, .f32⟩
  | 92 => ⟨S2048x1, .f32⟩
  | 93 => ⟨S1x64, .f32⟩
  | 94 => ⟨S2048x64, .f32⟩
  | 95 => ⟨S2048x64, .f32⟩
  | 96 => ⟨S2048x64, .f32⟩
  | 97 => ⟨S2048x64, .f32⟩
  | 98 => ⟨S2048x1x64, .f32⟩
  | 99 => ⟨S2048x64, .f32⟩
  | 100 => ⟨S2048x1x64, .f32⟩
  | 101 => ⟨S16x2048x4x64, .f32⟩
  | 102 => ⟨S16x2048x4x64, .f32⟩
  | 103 => ⟨S1x2048x1x64, .f32⟩
  | 104 => ⟨S16x2048x4x64, .f32⟩
  | 105 => ⟨S16x2048x4x64, .f32⟩
  | 106 => ⟨S1x2048x1x64, .f32⟩
  | 107 => ⟨S16x2048x4x64, .f32⟩
  | 108 => ⟨S16x2048x4x64, .f32⟩
  | 109 => ⟨S16x2048x4x64, .f32⟩
  | 110 => ⟨S1x2048x1x64, .f32⟩
  | 111 => ⟨S16x2048x4x64, .f32⟩
  | 112 => ⟨S16x2048x4x64, .f32⟩
  | 113 => ⟨S1x2048x1x64, .f32⟩
  | 114 => ⟨S16x2048x4x64, .f32⟩
  | 115 => ⟨S16x2048x4x64, .f32⟩
  | 116 => ⟨S16x2048x4x64, .f32⟩
  | 117 => ⟨S16x2048x4x128, .f32⟩
  | 118 => ⟨S64, .f32⟩
  | 119 => ⟨S64, .f32⟩
  | 120 => ⟨S_, .f32⟩
  | 121 => ⟨S64, .f32⟩
  | 122 => ⟨S64, .f32⟩
  | 123 => ⟨S_, .f32⟩
  | 124 => ⟨S64, .f32⟩
  | 125 => ⟨S64, .f32⟩
  | 126 => ⟨S2048, .f32⟩
  | 127 => ⟨S2048x1, .f32⟩
  | _ => ⟨S16x2048x2048, .f32⟩

abbrev hbmTy0_1 (i : Nat) : BufTy := match i % 128 with
  | 0 => ⟨S1x64, .f32⟩
  | 1 => ⟨S2048x64, .f32⟩
  | 2 => ⟨S2048x64, .f32⟩
  | 3 => ⟨S2048x64, .f32⟩
  | 4 => ⟨S2048x64, .f32⟩
  | 5 => ⟨S2048x1x64, .f32⟩
  | 6 => ⟨S2048x64, .f32⟩
  | 7 => ⟨S2048x1x64, .f32⟩
  | 8 => ⟨S16x2048x4x64, .f32⟩
  | 9 => ⟨S16x2048x4x64, .f32⟩
  | 10 => ⟨S1x2048x1x64, .f32⟩
  | 11 => ⟨S16x2048x4x64, .f32⟩
  | 12 => ⟨S16x2048x4x64, .f32⟩
  | 13 => ⟨S1x2048x1x64, .f32⟩
  | 14 => ⟨S16x2048x4x64, .f32⟩
  | 15 => ⟨S16x2048x4x64, .f32⟩
  | 16 => ⟨S16x2048x4x64, .f32⟩
  | 17 => ⟨S1x2048x1x64, .f32⟩
  | 18 => ⟨S16x2048x4x64, .f32⟩
  | 19 => ⟨S16x2048x4x64, .f32⟩
  | 20 => ⟨S1x2048x1x64, .f32⟩
  | 21 => ⟨S16x2048x4x64, .f32⟩
  | 22 => ⟨S16x2048x4x64, .f32⟩
  | 23 => ⟨S16x2048x4x64, .f32⟩
  | 24 => ⟨S16x2048x4x128, .f32⟩
  | 25 => ⟨S16x1x2048x4x128, .f32⟩
  | 26 => ⟨S16x1x2048x4x128, .f32⟩
  | 27 => ⟨S16x1x2048x4x128, .f32⟩
  | 28 => ⟨S16x1x2048x4x128, .f32⟩
  | 29 => ⟨S16x4x2048x4x128, .f32⟩
  | 30 => ⟨S16x2x4x2048x128, .f32⟩
  | 31 => ⟨S16x4x4x2048x128, .f32⟩
  | 32 => ⟨S16x4x4x2048x128, .bf16⟩
  | _ => ⟨S16x2048x2048, .f32⟩

abbrev hbmTy (i : Nat) : BufTy := match i / 128 with
  | 0 => hbmTy0_0 i
  | 1 => hbmTy0_1 i
  | _ => ⟨S16x2048x2048, .f32⟩

abbrev bufTy : (tb : Table) → Fin (tcTables nBuf tb) → BufTy
  | .hbm, ⟨i, _⟩ => hbmTy i
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_cst_5 : Ref sig .tc := ⟨.hbm, 85, rfl⟩
abbrev main_v74 : Ref sig .tc := ⟨.hbm, 86, rfl⟩
abbrev main_v75 : Ref sig .tc := ⟨.hbm, 87, rfl⟩
abbrev main_cst_6 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_cst_7 : Ref sig .tc := ⟨.hbm, 120, rfl⟩
abbrev main_v107 : Ref sig .tc := ⟨.hbm, 121, rfl⟩
abbrev main_v108 : Ref sig .tc := ⟨.hbm, 122, rfl⟩
abbrev main_cst_8 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩

abbrev nD : Nat := 1
abbrev τ : Topo := Topo.v7x

variable {F : FTy → Type} [FloatOps F]
-- ==== Proof.MlpRef.lean ====
/-
  The second reference's result (`x + gate · sq_relu_mlp(modulate(rms_norm x))`, then the final rms_norm) as four
  named stages, each read at an index over the extended reals.
-/
module

public import proofs.«01_k».proof.Proof.Gen.Reference2Ideal.Run
public import Idealize.ShloMosaic.Lib.Pipeline.ValueKit
public import Idealize.ShloMosaic.Lib.Pointwise

@[expose] public section

set_option maxRecDepth 16384

noncomputable section

namespace Cert.Reference2Ideal.Mlp

open Cert.Reference2Ideal Cert.Reference2Ideal.Gen
open Idealize.ShloMosaic Idealize.ShloMosaic.TcCoe Idealize.SL.Sem

variable {F : FTy → Type} [FloatOps F]

/-- `modulate(rms_norm(x, g), shift, scale)`. -/
def HR (X : FVec F S16x2048x2048 .f32) (G : FVec F S2048 .f32) (SH SC : FVec F S16x2048 .f32) : FVec F S16x2048x2048 .f32 :=
  addf (mulf (mulf (mulf X (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf X X) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 G))) (broadcastInDim S16x2048x2048 ![0, 1, 2] bcast_S16x1x2048_S16x2048x2048_0_1_2 (addf (broadcastInDim S16x1x2048 ![] bcast_S_S16x1x2048 (constant S_ .f32 0x3F800000#32)) (broadcastInDim S16x1x2048 ![0, 2] bcast_S16x2048_S16x1x2048_0_2 SC)))) (broadcastInDim S16x2048x2048 ![0, 1, 2] bcast_S16x1x2048_S16x2048x2048_0_1_2 (broadcastInDim S16x1x2048 ![0, 2] bcast_S16x2048_S16x1x2048_0_2 SH))

/-- `relu(h @ w1[1])`. -/
def ZR (H : FVec F S16x2048x2048 .f32) (W : FVec F S2x2048x8192 .f32) : FVec F S16x2048x8192 .f32 :=
  maximumf (Host.dotGeneral dot_S16x2048x2048_S2048x8192_S16x2048x8192_2_0_01_1_n_n none H (shapeCast _ (extractStridedSlice S1x2048x8192 ![1, 0, 0] W slices_S2x2048x8192_S1x2048x8192_1_0_0) shapeCasts_S1x2048x8192_S2048x8192)) (broadcastInDim S16x2048x8192 ![] bcast_S_S16x2048x8192 (constant S_ .f32 0x00000000#32))

/-- `square(z) @ w2[1]`. -/
def YR (Z : FVec F S16x2048x8192 .f32) (W : FVec F S2x8192x2048 .f32) : FVec F S16x2048x2048 .f32 :=
  Host.dotGeneral dot_S16x2048x8192_S8192x2048_S16x2048x2048_2_0_01_1_n_n none (mulf Z Z) (shapeCast _ (extractStridedSlice S1x8192x2048 ![1, 0, 0] W slices_S2x8192x2048_S1x8192x2048_1_0_0) shapeCasts_S1x8192x2048_S8192x2048)

/-- `x + gate * y`. -/
def XR (X : FVec F S16x2048x2048 .f32) (GA : FVec F S16x2048 .f32) (Y : FVec F S16x2048x2048 .f32) : FVec F S16x2048x2048 .f32 :=
  addf X (mulf (broadcastInDim S16x2048x2048 ![0, 1, 2] bcast_S16x1x2048_S16x2048x2048_0_1_2 (broadcastInDim S16x1x2048 ![0, 2] bcast_S16x2048_S16x1x2048_0_2 GA)) Y)

/-- `rms_norm(x, g)`. -/
def NR (X : FVec F S16x2048x2048 .f32) (G : FVec F S2048 .f32) : FVec F S16x2048x2048 .f32 :=
  mulf (mulf X (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf X X) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 G))

/-- The whole result. -/
def REF (X : FVec F S16x2048x2048 .f32) (G : FVec F S2048 .f32) (SH SC GA : FVec F S16x2048 .f32)
    (W1 : FVec F S2x2048x8192 .f32) (W2 : FVec F S2x8192x2048 .f32) (FG : FVec F S2048 .f32) : FVec F S16x2048x2048 .f32 :=
  NR (XR X GA (YR (ZR (HR X G SH SC) W1) W2)) FG

/-- The reference's composed term is `REF` of its arguments. -/
theorem res_eq (m : (ℓ : Loc nD τ sig) → Buf (Elt F) ℓ) (c : Dev nD) :
    Value.res_main_v45 m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := by
  unfold Value.res_main_v45 REF NR XR YR ZR HR
  rfl

theorem ZR_apply (H : FVec Ideal S16x2048x2048 .f32) (W : FVec Ideal S2x2048x8192 .f32) (b : Fin 16) (r : Fin 2048) (f : Fin 8192) :
    ZR H W (ix3 b r f) = max (∑ d : Fin 2048, H (ix3 b r d) * W (ix3 1 d f)) 0 := by
  pointwise [ZR]

theorem YR_apply (Z : FVec Ideal S16x2048x8192 .f32) (W : FVec Ideal S2x8192x2048 .f32) (b : Fin 16) (r e : Fin 2048) :
    YR Z W (ix3 b r e) = ∑ f : Fin 8192, Z (ix3 b r f) * Z (ix3 b r f) * W (ix3 1 f e) := by
  pointwise [YR]

end Cert.Reference2Ideal.Mlp

end
-- ==== Proof.Mlp.lean ====
module

public import proofs.«01_k».proof.Proof.Gen.Kernel2Ideal.Frame
public import proofs.«01_k».proof.Proof.MlpRef
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.Kernel2Ideal.Mlp

open Cert.Kernel2Ideal Cert.Kernel2Ideal.Gen
open Idealize.ShloMosaic Idealize.ShloMosaic.TcCoe Idealize.SL.Sem
open Idealize.ShloMosaic.Pipeline (Dat)

theorem hzero (j) : k0_pay2 (F := Ideal) j = 0 := by pointwise [k0_pay2]

theorem hpay (h : FVec Ideal S512x2048 .bf16) (w1 : FVec Ideal S1x2048x1024 .bf16) (acc : FVec Ideal S512x2048 .f32)
    (w2 : FVec Ideal S1x1024x2048 .bf16) (r : Fin 512) (e : Fin 2048) :
    k0_pay3 (F := Ideal) h w1 acc w2 (ix2 r e) = acc (ix2 r e) + ∑ k : Fin 1024,
      (max (∑ d : Fin 2048, h (ix2 r d) * w1 (ix3 0 d k)) 0 * max (∑ d : Fin 2048, h (ix2 r d) * w1 (ix3 0 d k)) 0) * w2 (ix3 0 k e) := by
  pointwise [k0_pay3]

theorem idx : ∀ t : Fin cfg0.N,
    win0_0.index t = ![t.val / 32, t.val / 8 % 4, 0] ∧ win0_1.index t = ![0, 0]
    ∧ win0_2.index t = ![t.val / 32, 0, 0] ∧ win0_3.index t = ![t.val / 32, 0, 0] ∧ win0_4.index t = ![t.val / 32, 0, 0]
    ∧ win0_5.index t = ![1, 0, t.val % 8] ∧ win0_6.index t = ![1, t.val % 8, 0] ∧ win0_7.index t = ![0, 0]
    ∧ win0_8.index t = ![t.val / 32, t.val / 8 % 4, 0] := (by decide +kernel : ∀ t : Fin grid0.N, _)

variable (m : (ℓ : Loc nD τ sig) → Buf (Elt Ideal) ℓ)

/-- The modulated, normalized rows of the point's block. -/
abbrev hblk (c : Dev nD) (t : Fin cfg0.N) : FVec Ideal S512x2048 .bf16 :=
  k0_pay1 (F := Ideal) (iblk m c 0 t) (iblk m c 1 t) (iblk m c 2 t) (iblk m c 3 t)

/-- The first scratch holds, through a run of eight points, what the run's first point stored. -/
theorem hscr (c : Dev nD) (t : Fin cfg0.N) (j) :
    (outsAt0 m c t.val t.isLt).2.1 j = hblk m c ⟨8 * (t.val / 8), Pipeline.run_start_lt t⟩ j :=
  Pipeline.eq_of_write_hold_apply (fun n h => (outsAt0 m c n h).2.1) 8 (fun t => hblk m c t)
    (fun t h j => by
      rw [outsAt0_A m c t h (by omega)]
      frame_out)
    (fun t h j => by
      by_cases h7 : t.val % 8 = 7
      · rw [outsAt0_C m c t h h7]
        frame_out
        rfl
      · rw [outsAt0_B m c t h h7]
        frame_out
        rfl) t j

theorem ib0 (c : Dev nD) (t : Fin cfg0.N) (r : Fin 512) (d : Fin 2048) (b : Fin 16) (q : Fin 2048)
    (hb : (b : ℕ) = t.val / 32) (hq : (q : ℕ) = t.val / 8 % 4 * 512 + r) :
    iblk m c 0 t (ix3 0 r d) = m ((c.tc : Thread nD τ).loc main_arg0) (ix3 b q d) := by
  blk_point [iblk, V, idx t]
theorem ib1 (c : Dev nD) (t : Fin cfg0.N) (d : Fin 2048) :
    iblk m c 1 t (ix2 0 d) = m ((c.tc : Thread nD τ).loc main_arg1) (ix1 d) := by
  simp only [iblk]
  entry_read
  blk_simp [idx t]
  pointwise
  blk_ext [idx t]
theorem ib2 (c : Dev nD) (t : Fin cfg0.N) (d : Fin 2048) (b : Fin 16) (hb : (b : ℕ) = t.val / 32) :
    iblk m c 2 t (ix3 0 0 d) = m ((c.tc : Thread nD τ).loc main_arg2) (ix2 b d) := by
  simp only [iblk]
  entry_read
  blk_simp [idx t]
  pointwise
  blk_ext [idx t]
theorem ib3 (c : Dev nD) (t : Fin cfg0.N) (d : Fin 2048) (b : Fin 16) (hb : (b : ℕ) = t.val / 32) :
    iblk m c 3 t (ix3 0 0 d) = m ((c.tc : Thread nD τ).loc main_arg3) (ix2 b d) := by
  simp only [iblk]
  entry_read
  blk_simp [idx t]
  pointwise
  blk_ext [idx t]
theorem ib4 (c : Dev nD) (t : Fin cfg0.N) (d : Fin 2048) (b : Fin 16) (hb : (b : ℕ) = t.val / 32) :
    iblk m c 4 t (ix3 0 0 d) = m ((c.tc : Thread nD τ).loc main_arg4) (ix2 b d) := by
  simp only [iblk]
  entry_read
  blk_simp [idx t]
  pointwise
  blk_ext [idx t]
theorem ib5 (c : Dev nD) (t : Fin cfg0.N) (d : Fin 2048) (k : Fin 1024) (f : Fin 8192) (hf : (f : ℕ) = t.val % 8 * 1024 + k) :
    iblk m c 5 t (ix3 0 d k) = m ((c.tc : Thread nD τ).loc main_arg5) (ix3 1 d f) := by
  simp only [iblk]
  entry_read
  blk_point [iblk, V, idx t]
theorem ib6 (c : Dev nD) (t : Fin cfg0.N) (d : Fin 2048) (k : Fin 1024) (f : Fin 8192) (hf : (f : ℕ) = t.val % 8 * 1024 + k) :
    iblk m c 6 t (ix3 0 k d) = m ((c.tc : Thread nD τ).loc main_arg6) (ix3 1 f d) := by
  simp only [iblk]
  entry_read
  blk_point [iblk, V, idx t]
theorem ib7 (c : Dev nD) (t : Fin cfg0.N) (d : Fin 2048) :
    iblk m c 7 t (ix2 0 d) = m ((c.tc : Thread nD τ).loc main_arg7) (ix1 d) := by
  simp only [iblk]
  entry_read
  blk_simp [idx t]
  pointwise
  blk_ext [idx t]

/-- The run's rows are the reference's modulated rows. -/
theorem hblk_eq (c : Dev nD) (t : Fin cfg0.N) (r : Fin 512) (d : Fin 2048) (b : Fin 16) (q : Fin 2048)
    (hb : (b : ℕ) = t.val / 32) (hq : (q : ℕ) = t.val / 8 % 4 * 512 + r) :
    hblk m c t (ix2 r d) = Cert.Reference2Ideal.Mlp.HR (F := Ideal) (m ((c.tc : Thread nD τ).loc main_arg0))
      (m ((c.tc : Thread nD τ).loc main_arg1)) (m ((c.tc : Thread nD τ).loc main_arg2)) (m ((c.tc : Thread nD τ).loc main_arg3)) (ix3 b q d) := by
  pointwise [hblk, k0_pay1, Cert.Reference2Ideal.Mlp.HR]
  simp only [ib0 m c t r _ b q hb hq, ib1 m c t, ib2 m c t _ b hb, ib3 m c t _ b hb]

/-- The accumulating payload adds its own part to what it read. -/
theorem hacc (h : FVec Ideal S512x2048 .bf16) (w1 : FVec Ideal S1x2048x1024 .bf16) (acc : FVec Ideal S512x2048 .f32)
    (w2 : FVec Ideal S1x1024x2048 .bf16) (j : S512x2048.Idx) :
    k0_pay3 (F := Ideal) h w1 acc w2 j = acc j + k0_pay3 (F := Ideal) h w1 (k0_pay2 (F := Ideal)) w2 j := by
  idx_vars j
  rw [hpay, hpay, hzero, zero_add]

theorem hprev (c : Dev nD) (t : Fin cfg0.N) (h : ¬t.val % 8 = 0) :
    (outsAt0 m c (t.val - 1) (Nat.lt_of_le_of_lt (Nat.sub_le _ _) t.isLt)).2.1 = hblk m c ⟨8 * (t.val / 8), Pipeline.run_start_lt t⟩ := by
  funext j
  rw [hscr m c ⟨t.val - 1, Nat.lt_of_le_of_lt (Nat.sub_le _ _) t.isLt⟩ j]
  have e : 8 * ((t.val - 1) / 8) = 8 * (t.val / 8) := by omega
  simp only [e]

/-- At a run's last point the accumulator is the sum of the eight parts. -/
theorem acc_sum (c : Dev nD) (t : Fin cfg0.N) (h : t.val % 8 = 7) (j) :
    (outsAt0 m c t.val t.isLt).2.2 j = ∑ s : Fin 8, k0_pay3 (F := Ideal) (hblk m c ⟨8 * (t.val / 8), Pipeline.run_start_lt t⟩)
      (iblk m c 5 ⟨8 * (t.val / 8) + s.val, Pipeline.run_point_lt_of_flush t h s⟩) (k0_pay2 (F := Ideal))
      (iblk m c 6 ⟨8 * (t.val / 8) + s.val, Pipeline.run_point_lt_of_flush t h s⟩) j := by
  rw [Pipeline.eq_sum_fin_of_reset_step_apply_of_flush (fun n h => (outsAt0 m c n h).2.2) 8 (fun _ => 0)
    (fun p j => k0_pay3 (F := Ideal) (hblk m c ⟨8 * (p.val / 8), Pipeline.run_start_lt p⟩) (iblk m c 5 p) (k0_pay2 (F := Ideal)) (iblk m c 6 p) j)
    (fun t h j => by
      rw [outsAt0_A m c t h (by omega)]
      frame_out
      have e : 8 * (t.val / 8) = t.val := by omega
      simp only [e]
      rw [zero_add])
    (fun t h j => by
      by_cases h7 : t.val % 8 = 7
      · rw [outsAt0_C m c t h h7]
        frame_out
        rw [hprev m c t h, read_unread_whole, read_unread_whole, hacc]
      · rw [outsAt0_B m c t h h7]
        frame_out
        rw [hprev m c t h, read_unread_whole, read_unread_whole, hacc])
    t h j, zero_add]
  refine Fin.sum_fin_congr fun s => ?_
  have e : 8 * ((8 * (t.val / 8) + s.val) / 8) = 8 * (t.val / 8) := by omega
  simp only [e]

abbrev ZRm (c : Dev nD) : FVec Ideal Cert.Reference2Ideal.S16x2048x8192 .f32 :=
  Cert.Reference2Ideal.Mlp.ZR (F := Ideal) (Cert.Reference2Ideal.Mlp.HR (F := Ideal) (m ((c.tc : Thread nD τ).loc main_arg0))
      (m ((c.tc : Thread nD τ).loc main_arg1)) (m ((c.tc : Thread nD τ).loc main_arg2)) (m ((c.tc : Thread nD τ).loc main_arg3))) (m ((c.tc : Thread nD τ).loc main_arg5))
abbrev YRm (c : Dev nD) : FVec Ideal Cert.Reference2Ideal.S16x2048x2048 .f32 :=
  Cert.Reference2Ideal.Mlp.YR (F := Ideal) (ZRm m c) (m ((c.tc : Thread nD τ).loc main_arg6))

/-- At a run's last point the accumulator is the reference's second product. -/
theorem acc_eq (c : Dev nD) (t : Fin cfg0.N) (h : t.val % 8 = 7) (r : Fin 512) (e : Fin 2048) (b : Fin 16) (q : Fin 2048)
    (hb : (b : ℕ) = t.val / 32) (hq : (q : ℕ) = t.val / 8 % 4 * 512 + r) :
    (outsAt0 m c t.val t.isLt).2.2 (ix2 r e) = YRm m c (ix3 b q e) := by
  rw [acc_sum m c t h, YRm, Cert.Reference2Ideal.Mlp.YR_apply]
  simp only [hpay, hzero, zero_add]
  refine Fin.sum_mul_add_congr fun s k hl => ?_
  rw [ZRm, Cert.Reference2Ideal.Mlp.ZR_apply]
  have hs := s.isLt
  simp only [hblk_eq m c ⟨8 * (t.val / 8), Pipeline.run_start_lt t⟩ r _ b q (by simp only []; omega) (by simp only []; omega),
    ib5 m c ⟨8 * (t.val / 8) + s.val, Pipeline.run_point_lt_of_flush t h s⟩ _ k ⟨s * 1024 + k, hl⟩ (by simp only []; omega),
    ib6 m c ⟨8 * (t.val / 8) + s.val, Pipeline.run_point_lt_of_flush t h s⟩ _ k ⟨s * 1024 + k, hl⟩ (by simp only []; omega)]

/-- The stored block: residual, gate and final norm. -/
theorem out_eq (c : Dev nD) (t : Fin cfg0.N) (acc : FVec Ideal S512x2048 .f32) (Y : FVec Ideal Cert.Reference2Ideal.S16x2048x2048 .f32)
    (r : Fin 512) (e : Fin 2048) (b : Fin 16) (q : Fin 2048)
    (hb : (b : ℕ) = t.val / 32) (hq : (q : ℕ) = t.val / 8 % 4 * 512 + r) (ha : ∀ x, acc (ix2 r x) = Y (ix3 b q x)) :
    k0_pay4 (F := Ideal) (iblk m c 0 t) (iblk m c 4 t) acc (iblk m c 7 t) (ix3 0 r e)
      = Cert.Reference2Ideal.Mlp.NR (F := Ideal) (Cert.Reference2Ideal.Mlp.XR (F := Ideal) (m ((c.tc : Thread nD τ).loc main_arg0)) (m ((c.tc : Thread nD τ).loc main_arg4)) Y)
        (m ((c.tc : Thread nD τ).loc main_arg7)) (ix3 b q e) := by
  pointwise [k0_pay4, Cert.Reference2Ideal.Mlp.NR, Cert.Reference2Ideal.Mlp.XR]
  simp only [ib0 m c t r _ b q hb hq, ib7 m c t, ib4 m c t _ b hb, ha]

/-- The result array after the run is the reference's function of the argument arrays. -/
theorem final (c : Dev nD) : (dats m 0 c).arrAt 8 (cfgs 0).N
    = Cert.Reference2Ideal.Mlp.REF (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := by
  refine (dats m 0 c).arrAt_eq_of_covers 8 _ (by decide +kernel) fun t hf y => ?_
  have h7 : t.val % 8 = 7 := (flush0_8 t).mp hf
  have h2 : (outsAt0 m c t.val t.isLt).2.2 = k0_pay3 (F := Ideal) (outsAt0 m c (t.val - 1) (Nat.lt_of_le_of_lt (Nat.sub_le _ _) t.isLt)).2.1
      (iblk m c 5 t) (outsAt0 m c (t.val - 1) (Nat.lt_of_le_of_lt (Nat.sub_le _ _) t.isLt)).2.2 (iblk m c 6 t) := by
    funext j
    rw [outsAt0_C m c t (by omega) h7]
    frame_out
    rw [read_unread_whole, read_unread_whole]
  blk_simp
  rw [after0_8, outsAt0_C m c t (by omega) h7]
  frame_out
  rw [read_unread_whole, read_unread_whole, ← h2]
  idx_vars y
  have ht : t.val < 512 := lt_of_lt_of_eq t.isLt N_0
  have hy := y1.isLt
  obtain rfl : y0 = 0 := Subsingleton.elim _ _
  refine (out_eq m c t _ (YRm m c) y1 y2 ⟨t.val / 32, by omega⟩ ⟨t.val / 8 % 4 * 512 + y1.val, by omega⟩ rfl rfl
    fun x => acc_eq m c t h7 y1 x _ _ rfl rfl).trans ?_
  unfold Cert.Reference2Ideal.Mlp.REF
  blk_ext [idx t]

end Cert.Kernel2Ideal.Mlp

end
-- ==== Proof.Res.lean ====
/-
  The output projection with its gated residual: the result array is the reference's function of the arguments. The body stores its
  block in eight column tiles; each is the tile of one function of the point's input blocks.
-/
module

public import proofs.«01_k».proof.Proof.Gen.Kernel3Ideal.Frame
public import proofs.«01_k».proof.Proof.Gen.Reference3Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Reference3Ideal.Res

open Cert.Reference3Ideal Cert.Reference3Ideal.Gen
open Idealize.ShloMosaic Idealize.ShloMosaic.TcCoe Idealize.SL.Sem

/-- `x + gate * (o @ w)`. -/
def REF (O : FVec Ideal S16x2048x2048 .bf16) (W : FVec Ideal S2048x2048 .f32) (X : FVec Ideal S16x2048x2048 .f32) (GA : FVec Ideal S16x2048 .f32) :
    FVec Ideal S16x2048x2048 .f32 :=
  addf X (mulf (broadcastInDim S16x2048x2048 ![0, 1, 2] bcast_S16x1x2048_S16x2048x2048_0_1_2 (broadcastInDim S16x1x2048 ![0, 2] bcast_S16x2048_S16x1x2048_0_2 GA))
    (Host.dotGeneral dot_S16x2048x2048_S2048x2048_S16x2048x2048_2_0_01_1_n_n none (extf .f32 O bitsLt_bf16_f32) W))

theorem REF_apply (O : FVec Ideal S16x2048x2048 .bf16) (W : FVec Ideal S2048x2048 .f32) (X : FVec Ideal S16x2048x2048 .f32) (GA : FVec Ideal S16x2048 .f32)
    (b : Fin 16) (r e : Fin 2048) :
    REF O W X GA (ix3 b r e) = X (ix3 b r e) + GA (ix2 b e) * ∑ d : Fin 2048, O (ix3 b r d) * W (ix2 d e) := by
  pointwise [REF]

end Cert.Reference3Ideal.Res

namespace Cert.Kernel3Ideal.Res

open Cert.Kernel3Ideal Cert.Kernel3Ideal.Gen
open Idealize.ShloMosaic Idealize.ShloMosaic.TcCoe Idealize.SL.Sem
open Idealize.ShloMosaic.Pipeline (Dat)

theorem pay_apply (a : FVec Ideal S1x512x2048 .bf16) (w : FVec Ideal S2048x256 .bf16) (x : FVec Ideal S1x512x256 .f32) (g : FVec Ideal S1x1x256 .f32)
    (r : Fin 512) (e : Fin 256) :
    k0_pay2 (F := Ideal) a w x g (ix3 0 r e) = x (ix3 0 r e) + g (ix3 0 0 e) * ∑ d : Fin 2048, a (ix3 0 r d) * w (ix2 d e) := by
  pointwise [k0_pay2]

/-- The point's result block as one function of its input blocks. -/
def G (x0 : FVec Ideal S1x512x2048 .bf16) (x1 : FVec Ideal S2048x2048 .bf16) (x2 : FVec Ideal S1x512x2048 .f32) (x3 : FVec Ideal S1x1x2048 .f32) :
    FVec Ideal S1x512x2048 .f32 := fun y =>
  x2 (ix3 0 (y 1) (y 2)) + x3 (ix3 0 0 (y 2)) * ∑ d : Fin 2048, x0 (ix3 0 (y 1) d) * x1 (ix2 d (y 2))

theorem G_apply (x0 : FVec Ideal S1x512x2048 .bf16) (x1 : FVec Ideal S2048x2048 .bf16) (x2 : FVec Ideal S1x512x2048 .f32) (x3 : FVec Ideal S1x1x2048 .f32)
    (r : Fin 512) (e : Fin 2048) :
    G x0 x1 x2 x3 (ix3 0 r e) = x2 (ix3 0 r e) + x3 (ix3 0 0 e) * ∑ d : Fin 2048, x0 (ix3 0 r d) * x1 (ix2 d e) := rfl

/-- A column tile of the block is its payload. -/
theorem piece (x0 : FVec Ideal S1x512x2048 .bf16) (x1 : FVec Ideal S2048x2048 .bf16) (x2 : FVec Ideal S1x512x2048 .f32) (x3 : FVec Ideal S1x1x2048 .f32)
    (o : ℕ) (i0 : ∀ a, (![0, 0, 0] : Fin 3 → ℕ) a + S1x512x2048.size a ≤ S1x512x2048.size a)
    (i1 : ∀ a, (![0, o] : Fin 2 → ℕ) a + S2048x256.size a ≤ S2048x2048.size a) (i2 : ∀ a, (![0, 0, o] : Fin 3 → ℕ) a + S1x512x256.size a ≤ S1x512x2048.size a)
    (i3 : ∀ a, (![0, 0, o] : Fin 3 → ℕ) a + S1x1x256.size a ≤ S1x1x2048.size a) (x : S1x512x256.Idx) :
    k0_pay2 (F := Ideal) (View.ld x0 (Rect.unit (s := S1x512x2048) ![0, 0, 0] S1x512x2048.size i0)) (View.ld x1 (Rect.unit (s := S2048x2048) ![0, o] S2048x256.size i1))
      (View.ld x2 (Rect.unit (s := S1x512x2048) ![0, 0, o] S1x512x256.size i2)) (View.ld x3 (Rect.unit (s := S1x1x2048) ![0, 0, o] S1x1x256.size i3)) x
    = G x0 x1 x2 x3 ((Rect.unit (s := S1x512x2048) ![0, 0, o] S1x512x256.size i2).emb x) := by
  have ho : o + 256 ≤ 2048 := i1 1
  generalize hy : x = z
  idx_vars z
  have hz := z2.isLt
  obtain rfl : z0 = 0 := Subsingleton.elim _ _
  rw [pay_apply]
  have e0 : (Rect.unit (s := S1x512x2048) ![0, 0, o] S1x512x256.size i2).emb (ix3 0 z1 z2) = ix3 0 z1 ⟨o + z2.val, by omega⟩ := by
    funext a; fin_cases a <;> exact Fin.ext (by simp [Rect.emb, Rect.unit])
  rw [e0]
  have e1 : ∀ d : Fin 2048, (Rect.unit (s := S1x512x2048) ![0, 0, 0] S1x512x2048.size i0).idx (ix3 0 z1 d) = ix3 0 z1 d := by
    intro d; funext a; fin_cases a <;> exact Fin.ext (by simp [LoadRect.idx, Rect.unit])
  have e2 : ∀ d : Fin 2048, (Rect.unit (s := S2048x2048) ![0, o] S2048x256.size i1).idx (ix2 d z2) = ix2 d ⟨o + z2.val, by omega⟩ := by
    intro d; funext a; fin_cases a <;> exact Fin.ext (by simp [LoadRect.idx, Rect.unit])
  have e3 : (Rect.unit (s := S1x1x2048) ![0, 0, o] S1x1x256.size i3).idx (ix3 0 0 z2) = ix3 0 0 ⟨o + z2.val, by omega⟩ := by
    funext a; fin_cases a <;> exact Fin.ext (by simp [LoadRect.idx, Rect.unit])
  simp only [View.ld]
  refine congrArg₂ (· + ·) (congrArg x2 e0) (congrArg₂ (· * ·) (congrArg x3 e3) (Finset.sum_congr rfl fun d _ => ?_))
  exact congrArg₂ (· * ·) (congrArg x0 (e1 d)) (congrArg x1 (e2 d))

theorem out_eq (x0 : FVec Ideal S1x512x2048 .bf16) (x1 : FVec Ideal S2048x2048 .bf16) (x2 : FVec Ideal S1x512x2048 .f32) (x3 : FVec Ideal S1x1x2048 .f32)
    (y : S1x512x2048.Idx) : out0_4 (F := Ideal) x0 x1 x2 x3 y = G x0 x1 x2 x3 y := by
  unfold out0_4
  refine View.canon_apply_of_pieces (Val := Elt Ideal) (e := .f32) (G x0 x1 x2 x3) _ ?_ y (cover0_4 _ _ _ _ _ _ _ _ y)
  intro p hp
  simp only [List.mem_cons, List.mem_nil_iff, or_false] at hp
  rcases hp with rfl | rfl | rfl | rfl | rfl | rfl | rfl | rfl <;> exact fun x => piece x0 x1 x2 x3 _ _ _ _ _ x

theorem idx : ∀ t : Fin cfg0.N,
    win0_0.index t = ![t.val / 4, t.val % 4, 0] ∧ win0_1.index t = ![0, 0] ∧ win0_2.index t = ![t.val / 4, t.val % 4, 0]
    ∧ win0_3.index t = ![t.val / 4, 0, 0] ∧ win0_4.index t = ![t.val / 4, t.val % 4, 0] := (by decide +kernel : ∀ t : Fin grid0.N, _)

variable (m : (ℓ : Loc nD τ sig) → Buf (Elt Ideal) ℓ)

theorem ib0 (c : Dev nD) (t : Fin cfg0.N) (r : Fin 512) (d : Fin 2048) (b : Fin 16) (q : Fin 2048)
    (hb : (b : ℕ) = t.val / 4) (hq : (q : ℕ) = t.val % 4 * 512 + r) :
    iblk m c 0 t (ix3 0 r d) = m ((c.tc : Thread nD τ).loc main_arg0) (ix3 b q d) := by
  blk_point [iblk, V, idx t]
theorem ib1 (c : Dev nD) (t : Fin cfg0.N) (d e : Fin 2048) :
    iblk m c 1 t (ix2 d e) = m ((c.tc : Thread nD τ).loc main_arg1) (ix2 d e) := by
  simp only [iblk]
  entry_read
  blk_point [iblk, V, idx t]
theorem ib2 (c : Dev nD) (t : Fin cfg0.N) (r : Fin 512) (d : Fin 2048) (b : Fin 16) (q : Fin 2048)
    (hb : (b : ℕ) = t.val / 4) (hq : (q : ℕ) = t.val % 4 * 512 + r) :
    iblk m c 2 t (ix3 0 r d) = m ((c.tc : Thread nD τ).loc main_arg2) (ix3 b q d) := by
  blk_point [iblk, V, idx t]
theorem ib3 (c : Dev nD) (t : Fin cfg0.N) (d : Fin 2048) (b : Fin 16) (hb : (b : ℕ) = t.val / 4) :
    iblk m c 3 t (ix3 0 0 d) = m ((c.tc : Thread nD τ).loc main_arg3) (ix2 b d) := by
  simp only [iblk]
  entry_read
  blk_simp [idx t]
  pointwise
  blk_ext [idx t]

/-- The block of a point is the reference's. -/
theorem blk_eq (c : Dev nD) (t : Fin cfg0.N) (r : Fin 512) (e : Fin 2048) (b : Fin 16) (q : Fin 2048)
    (hb : (b : ℕ) = t.val / 4) (hq : (q : ℕ) = t.val % 4 * 512 + r) :
    out0_4 (F := Ideal) (iblk m c 0 t) (iblk m c 1 t) (iblk m c 2 t) (iblk m c 3 t) (ix3 0 r e)
      = Cert.Reference3Ideal.Res.REF (m ((c.tc : Thread nD τ).loc main_arg0)) (m ((c.tc : Thread nD τ).loc main_arg1))
        (m ((c.tc : Thread nD τ).loc main_arg2)) (m ((c.tc : Thread nD τ).loc main_arg3)) (ix3 b q e) := by
  rw [out_eq, Cert.Reference3Ideal.Res.REF_apply]
  rw [G_apply]
  simp only [ib0 m c t r _ b q hb hq, ib1 m c t, ib2 m c t r _ b q hb hq, ib3 m c t _ b hb]

theorem final_of (c : Dev nD) (R : FVec Ideal S16x2048x2048 .f32)
    (h : ∀ (t : Fin cfg0.N) (r : Fin 512) (e : Fin 2048) (b : Fin 16) (q : Fin 2048), (b : ℕ) = t.val / 4 → (q : ℕ) = t.val % 4 * 512 + r →
      out0_4 (F := Ideal) (iblk m c 0 t) (iblk m c 1 t) (iblk m c 2 t) (iblk m c 3 t) (ix3 0 r e) = R (ix3 b q e)) :
    (dats m 0 c).arrAt 4 (cfgs 0).N = R := by
  refine (dats m 0 c).arrAt_eq_of_covers 4 _ (by decide +kernel) fun t hf y => ?_
  blk_simp
  rw [after0_4 m c t]
  idx_vars y
  have ht : t.val < 64 := lt_of_lt_of_eq t.isLt N_0
  have hy := y1.isLt
  obtain rfl : y0 = 0 := Subsingleton.elim _ _
  refine (h t y1 y2 ⟨t.val / 4, by omega⟩ ⟨t.val % 4 * 512 + y1.val, by omega⟩ rfl rfl).trans ?_
  blk_ext [idx t]

/-- The result array after the run is the reference's function of the argument arrays. -/
theorem final (c : Dev nD) : (dats m 0 c).arrAt 4 (cfgs 0).N
    = Cert.Reference3Ideal.Res.REF (m ((c.tc : Thread nD τ).loc main_arg0)) (m ((c.tc : Thread nD τ).loc main_arg1))
        (m ((c.tc : Thread nD τ).loc main_arg2)) (m ((c.tc : Thread nD τ).loc main_arg3)) :=
  final_of m c _ fun t r e b q hb hq => blk_eq m c t r e b q hb hq

end Cert.Kernel3Ideal.Res

end
-- ==== Proof.KvOut.lean ====
/-
  The key/value projection: what the body leaves at each of the four kinds of grid point.
-/
module

public import proofs.«01_k».proof.Proof.Gen.Kernel4Ideal.Skeleton
public import proofs.«01_k».proof.Proof.Gen.Kernel4Ideal.Frame
public import Idealize.ShloMosaic.Lib.VecWindow

@[expose] public section

set_option maxRecDepth 16384

noncomputable section

namespace Cert.Kernel4Ideal.Kv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

/-- The first column tile: the rows are normalized. -/
abbrev cond1 (i : grid0.Coords) : Prop :=
  Scalar.cmpi .ne (Scalar.extui (Scalar.cmpi .eq (BitVec.ofNat 32 (i 2).val) 0#32)) 0#32 = 1#1

/-- The two halves of a weight block, and the four heads of a result block. -/
abbrev W0 : Rect S2048x512 := Rect.unit (s := S2048x512) ![0, 0] S2048x256.size inb_S2048x512_S2048x256_0_0
abbrev W1 : Rect S2048x512 := Rect.unit (s := S2048x512) ![0, 256] S2048x256.size inb_S2048x512_S2048x256_0_256
abbrev C0 : Rect S1024x128 := Rect.unit (s := S1024x128) ![0, 0] S1024x128.size inb_S1024x128_S1024x128_0_0
abbrev H0 : Rect S1024x2048 := Rect.unit (s := S1024x2048) ![0, 0] S1024x2048.size inb_S1024x2048_S1024x2048_0_0
abbrev R0 : Rect S1x1x4x1024x128 := Rect.unit (s := S1x1x4x1024x128) ![0, 0, 0, 0, 0] S1x1x1x1024x128.size inb_S1x1x4x1024x128_S1x1x1x1024x128_0_0_0_0_0
abbrev R1 : Rect S1x1x4x1024x128 := Rect.unit (s := S1x1x4x1024x128) ![0, 0, 1, 0, 0] S1x1x1x1024x128.size inb_S1x1x4x1024x128_S1x1x1x1024x128_0_0_1_0_0
abbrev R2 : Rect S1x1x4x1024x128 := Rect.unit (s := S1x1x4x1024x128) ![0, 0, 2, 0, 0] S1x1x1x1024x128.size inb_S1x1x4x1024x128_S1x1x1x1024x128_0_0_2_0_0
abbrev R3 : Rect S1x1x4x1024x128 := Rect.unit (s := S1x1x4x1024x128) ![0, 0, 3, 0, 0] S1x1x1x1024x128.size inb_S1x1x4x1024x128_S1x1x1x1024x128_0_0_3_0_0

/-- The normalized and modulated rows of a block. -/
def rows (x0 : Vec F S1x1024x2048 .f32) (x1 : Vec F S1x2048 .f32) (x2 x3 : Vec F S1x1x2048 .f32) : Vec F S1024x2048 .bf16 :=
  k0_pay14 (View.ld x0 (Rect.unit (s := S1x1024x2048) ![0, 0, 0] S1x1024x2048.size inb_S1x1024x2048_S1x1024x2048_0_0_0))
    (View.ld x1 (Rect.unit (s := S1x2048) ![0, 0] S1x2048.size inb_S1x2048_S1x2048_0_0))
    (View.ld x2 (Rect.unit (s := S1x1x2048) ![0, 0, 0] S1x1x2048.size inb_S1x1x2048_S1x1x2048_0_0_0))
    (View.ld x3 (Rect.unit (s := S1x1x2048) ![0, 0, 0] S1x1x2048.size inb_S1x1x2048_S1x1x2048_0_0_0))
/-- The rotated keys of the compressed branch, one head after another. -/
def outA (h : Vec F S1024x2048 .bf16) (w : Vec F S2048x512 .bf16) (cs sn : Vec F S1024x128 .f32) : Vec F S1x1x4x1024x128 .f32 :=
  View.canon [⟨R3, k0_pay17 h (View.ld w W1) (View.ld cs C0) (View.ld sn C0)⟩, ⟨R2, k0_pay16 h (View.ld w W1) (View.ld cs C0) (View.ld sn C0)⟩,
    ⟨R1, k0_pay4 h (View.ld w W0) (View.ld cs C0) (View.ld sn C0)⟩, ⟨R0, k0_pay3 h (View.ld w W0) (View.ld cs C0) (View.ld sn C0)⟩]
/-- The values of the compressed branch. -/
def outB (h : Vec F S1024x2048 .bf16) (w : Vec F S2048x512 .bf16) : Vec F S1x1x4x1024x128 .f32 :=
  View.canon [⟨R3, k0_pay23 h (View.ld w W1)⟩, ⟨R2, k0_pay22 h (View.ld w W1)⟩,
    ⟨R1, k0_pay20 h (View.ld w W0)⟩, ⟨R0, k0_pay19 h (View.ld w W0)⟩]
/-- The rotated keys of another branch. -/
def outC (h : Vec F S1024x2048 .bf16) (w : Vec F S2048x512 .bf16) (cs sn : Vec F S1024x128 .f32) : Vec F S1x1x4x1024x128 .bf16 :=
  View.canon [⟨R3, k0_pay26 h (View.ld w W1) (View.ld cs C0) (View.ld sn C0)⟩, ⟨R2, k0_pay25 h (View.ld w W1) (View.ld cs C0) (View.ld sn C0)⟩,
    ⟨R1, k0_pay7 h (View.ld w W0) (View.ld cs C0) (View.ld sn C0)⟩, ⟨R0, k0_pay6 h (View.ld w W0) (View.ld cs C0) (View.ld sn C0)⟩]
/-- The values of another branch. -/
def outD (h : Vec F S1024x2048 .bf16) (w : Vec F S2048x512 .bf16) : Vec F S1x1x4x1024x128 .bf16 :=
  View.canon [⟨R3, k0_pay1 (k0_pay13 h (View.ld w W1))⟩, ⟨R2, k0_pay12 h (View.ld w W1)⟩,
    ⟨R1, k0_pay10 h (View.ld w W0)⟩, ⟨R0, k0_pay9 h (View.ld w W0)⟩]

/-- The four heads cover a result block. -/
theorem cover {e : EltTy} (p0 p1 p2 p3 : Vec F S1x1x1x1024x128 e) (y : S1x1x4x1024x128.Idx) :
    ∃ pc ∈ ([⟨R3, p3⟩, ⟨R2, p2⟩, ⟨R1, p1⟩, ⟨R0, p0⟩] : List (View.Piece (Elt F) S1x1x4x1024x128 e)), y ∈ pc.1.set :=
  View.cover_of_tiled [⟨R3, p3⟩, ⟨R2, p2⟩, ⟨R1, p1⟩, ⟨R0, p0⟩] S1x1x1x1024x128.size (by rfl) y

end Cert.Kernel4Ideal.Kv

end
-- ==== Proof.KvRunA.lean ====
/-
  The key/value projection's body at the first point of a block of rows.
-/
module

public import proofs.«01_k».proof.Proof.KvOut

@[expose] public section

set_option maxRecDepth 16384

noncomputable section

namespace Cert.Kernel4Ideal.Kv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

set_option maxHeartbeats 2000000 in
/-- The first point of a block of rows: the rows are normalized, then the first branch's keys are made. -/
theorem run_A (c : Dev nD) (E : Set ℕ) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x1x4x1024x128 .f32) (harg10 : arg10.IsWhole) (arg11 : Memref sig .tc .vmem S1x1x4x1024x128 .bf16) (harg11 : arg11.IsWhole) (arg12 : Memref sig .tc .vmem S1024x2048 .bf16) (harg12 : arg12.IsWhole)
    (hc1 : cond1 i) (hc2 : k0_cond2 i = 1#1) (hc3 : ¬k0_cond3 i = 1#1) (hc4 : ¬k0_cond4 i = 1#1) (hc5 : ¬k0_cond5 i = 1#1)
    (x0 : Vec F S1x1024x2048 .f32) (x1 : Vec F S1x2048 .f32) (x2 : Vec F S1x1x2048 .f32) (x3 : Vec F S1x1x2048 .f32) (x4 : Vec F S2048x512 .bf16) (x5 x6 : Vec F S1024x128 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg12 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg12 fullShare (rows x0 x1 x2 x3) ∗ owns (c : Thread nD τ) arg10 fullShare (outA (rows x0 x1 x2 x3) x4 x5 x6)) -∗ K ⟨⟩))
      ⊢ wp frame (wpE (defs₀ (F := F)) Variants.none c none) E (cc0_kv_proj i arg3 harg3 arg4 harg4 arg5 harg5 arg6 harg6 arg7 harg7 arg8 harg8 arg9 harg9 arg10 harg10 arg11 harg11 arg12 harg12) K := by
  simp only [cc0_kv_proj_eq_skeleton]; unfold cc0_kv_proj_skel
  simp only [k0_part1_eq_skeleton, k0_part2_eq_skeleton, k0_part3_eq_skeleton, k0_part4_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d12, %f12, -, H12⟩, ⟨%d10, %f10, -, H10⟩, Hk⟩
  subst hf3 hf4 hf5 hf6 hf7 hf8 hf9
  sl_exec (disch := first | sl_exact hc1 | sl_exact hc2 | sl_exact hc3 | sl_exact hc4 | sl_exact hc5)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H12]
  · iexists _; isplitr
    swap; · iexact H12
    ipureintro
    exact View.read_writes_full _ _ _ _ _
  iexists _; isplitr
  swap; · iexact H10
  ipureintro
  refine (View.read_writes_eq_canon _ _ _ (cover _ _ _ _)).trans ?_
  have e : arg12.view.readCov [⟨H0, rows (arg3.view.read (Elt F) f3) (arg4.view.read (Elt F) f4) (arg5.view.read (Elt F) f5) (arg6.view.read (Elt F) f6)⟩] H0.toLoadRect
    = rows (arg3.view.read (Elt F) f3) (arg4.view.read (Elt F) f4) (arg5.view.read (Elt F) f5) (arg6.view.read (Elt F) f6) := View.readCov_full _ _ _ _ _
  exact congrArg (fun z => outA z (arg7.view.read (Elt F) f7) (arg8.view.read (Elt F) f8) (arg9.view.read (Elt F) f9)) e

end Cert.Kernel4Ideal.Kv

end
-- ==== Proof.KvRunB.lean ====
/-
  The key/value projection's body at the second point of a block of rows.
-/
module

public import proofs.«01_k».proof.Proof.KvOut

@[expose] public section

set_option maxRecDepth 16384

noncomputable section

namespace Cert.Kernel4Ideal.Kv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

set_option maxHeartbeats 2000000 in
/-- The second point: the first branch's values. -/
theorem run_B (c : Dev nD) (E : Set ℕ) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x1x4x1024x128 .f32) (harg10 : arg10.IsWhole) (arg11 : Memref sig .tc .vmem S1x1x4x1024x128 .bf16) (harg11 : arg11.IsWhole) (arg12 : Memref sig .tc .vmem S1024x2048 .bf16) (harg12 : arg12.IsWhole)
    (hc1 : ¬cond1 i) (hc2 : ¬k0_cond2 i = 1#1) (hc3 : k0_cond3 i = 1#1) (hc4 : ¬k0_cond4 i = 1#1) (hc5 : ¬k0_cond5 i = 1#1)
    (x4 : Vec F S2048x512 .bf16) (h : Vec F S1024x2048 .bf16) (K : PUnit → sProp 𝕄) :
    iprop(owns (c : Thread nD τ) arg7 fullShare x4 ∗ owns (c : Thread nD τ) arg12 fullShare h ∗ (∃ d, owns (c : Thread nD τ) arg10 fullShare d)
        ∗ (iprop(owns (c : Thread nD τ) arg7 fullShare x4 ∗ owns (c : Thread nD τ) arg12 fullShare h ∗ owns (c : Thread nD τ) arg10 fullShare (outB (View.ld h H0) x4)) -∗ K ⟨⟩))
      ⊢ wp frame (wpE (defs₀ (F := F)) Variants.none c none) E (cc0_kv_proj i arg3 harg3 arg4 harg4 arg5 harg5 arg6 harg6 arg7 harg7 arg8 harg8 arg9 harg9 arg10 harg10 arg11 harg11 arg12 harg12) K := by
  simp only [cc0_kv_proj_eq_skeleton]; unfold cc0_kv_proj_skel
  simp only [k0_part1_eq_skeleton, k0_part2_eq_skeleton, k0_part3_eq_skeleton, k0_part4_eq_skeleton]
  unfold owns
  iintro ⟨⟨%f7, %hf7, H7⟩, ⟨%f12, %hf12, H12⟩, ⟨%d10, %f10, -, H10⟩, Hk⟩
  subst hf7 hf12
  sl_exec (disch := first | sl_exact hc1 | sl_exact hc2 | sl_exact hc3 | sl_exact hc4 | sl_exact hc5)
  sl_step
  iapply Hk
  isplitl [H7]
  · iexists f7; isplitr; · ipureintro; rfl
    iexact H7
  isplitl [H12]
  · iexists f12; isplitr; · ipureintro; rfl
    iexact H12
  iexists _; isplitr
  swap; · iexact H10
  ipureintro
  exact View.read_writes_eq_canon _ _ _ (cover _ _ _ _)

end Cert.Kernel4Ideal.Kv

end
-- ==== Proof.KvRunC.lean ====
/-
  The key/value projection's body at a later even point of a block of rows.
-/
module

public import proofs.«01_k».proof.Proof.KvOut

@[expose] public section

set_option maxRecDepth 16384

noncomputable section

namespace Cert.Kernel4Ideal.Kv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

set_option maxHeartbeats 2000000 in
/-- A later even point: the keys of a branch. -/
theorem run_C (c : Dev nD) (E : Set ℕ) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x1x4x1024x128 .f32) (harg10 : arg10.IsWhole) (arg11 : Memref sig .tc .vmem S1x1x4x1024x128 .bf16) (harg11 : arg11.IsWhole) (arg12 : Memref sig .tc .vmem S1024x2048 .bf16) (harg12 : arg12.IsWhole)
    (hc1 : ¬cond1 i) (hc2 : ¬k0_cond2 i = 1#1) (hc3 : ¬k0_cond3 i = 1#1) (hc4 : k0_cond4 i = 1#1) (hc5 : ¬k0_cond5 i = 1#1)
    (x4 : Vec F S2048x512 .bf16) (x5 x6 : Vec F S1024x128 .f32) (h : Vec F S1024x2048 .bf16) (K : PUnit → sProp 𝕄) :
    iprop(owns (c : Thread nD τ) arg7 fullShare x4 ∗ owns (c : Thread nD τ) arg8 fullShare x5 ∗ owns (c : Thread nD τ) arg9 fullShare x6 ∗ owns (c : Thread nD τ) arg12 fullShare h ∗ (∃ d, owns (c : Thread nD τ) arg11 fullShare d)
        ∗ (iprop(owns (c : Thread nD τ) arg7 fullShare x4 ∗ owns (c : Thread nD τ) arg8 fullShare x5 ∗ owns (c : Thread nD τ) arg9 fullShare x6 ∗ owns (c : Thread nD τ) arg12 fullShare h ∗ owns (c : Thread nD τ) arg11 fullShare (outC (View.ld h H0) x4 x5 x6)) -∗ K ⟨⟩))
      ⊢ wp frame (wpE (defs₀ (F := F)) Variants.none c none) E (cc0_kv_proj i arg3 harg3 arg4 harg4 arg5 harg5 arg6 harg6 arg7 harg7 arg8 harg8 arg9 harg9 arg10 harg10 arg11 harg11 arg12 harg12) K := by
  simp only [cc0_kv_proj_eq_skeleton]; unfold cc0_kv_proj_skel
  simp only [k0_part1_eq_skeleton, k0_part2_eq_skeleton, k0_part3_eq_skeleton, k0_part4_eq_skeleton]
  unfold owns
  iintro ⟨⟨%f7, %hf7, H7⟩, ⟨%f8, %hf8, H8⟩, ⟨%f9, %hf9, H9⟩, ⟨%f12, %hf12, H12⟩, ⟨%d11, %f11, -, H11⟩, Hk⟩
  subst hf7 hf8 hf9 hf12
  sl_exec (disch := first | sl_exact hc1 | sl_exact hc2 | sl_exact hc3 | sl_exact hc4 | sl_exact hc5)
  sl_step
  iapply Hk
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H12]
  · iexists f12; isplitr; · ipureintro; rfl
    iexact H12
  iexists _; isplitr
  swap; · iexact H11
  ipureintro
  exact View.read_writes_eq_canon _ _ _ (cover _ _ _ _)

end Cert.Kernel4Ideal.Kv

end
-- ==== Proof.KvRunD.lean ====
/-
  The key/value projection's body at a later odd point of a block of rows.
-/
module

public import proofs.«01_k».proof.Proof.KvOut

@[expose] public section

set_option maxRecDepth 16384

noncomputable section

namespace Cert.Kernel4Ideal.Kv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

set_option maxHeartbeats 2000000 in
/-- A later odd point: the values of a branch. -/
theorem run_D (c : Dev nD) (E : Set ℕ) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x1x4x1024x128 .f32) (harg10 : arg10.IsWhole) (arg11 : Memref sig .tc .vmem S1x1x4x1024x128 .bf16) (harg11 : arg11.IsWhole) (arg12 : Memref sig .tc .vmem S1024x2048 .bf16) (harg12 : arg12.IsWhole)
    (hc1 : ¬cond1 i) (hc2 : ¬k0_cond2 i = 1#1) (hc3 : ¬k0_cond3 i = 1#1) (hc4 : ¬k0_cond4 i = 1#1) (hc5 : k0_cond5 i = 1#1)
    (x4 : Vec F S2048x512 .bf16) (h : Vec F S1024x2048 .bf16) (K : PUnit → sProp 𝕄) :
    iprop(owns (c : Thread nD τ) arg7 fullShare x4 ∗ owns (c : Thread nD τ) arg12 fullShare h ∗ (∃ d, owns (c : Thread nD τ) arg11 fullShare d)
        ∗ (iprop(owns (c : Thread nD τ) arg7 fullShare x4 ∗ owns (c : Thread nD τ) arg12 fullShare h ∗ owns (c : Thread nD τ) arg11 fullShare (outD (View.ld h H0) x4)) -∗ K ⟨⟩))
      ⊢ wp frame (wpE (defs₀ (F := F)) Variants.none c none) E (cc0_kv_proj i arg3 harg3 arg4 harg4 arg5 harg5 arg6 harg6 arg7 harg7 arg8 harg8 arg9 harg9 arg10 harg10 arg11 harg11 arg12 harg12) K := by
  simp only [cc0_kv_proj_eq_skeleton]; unfold cc0_kv_proj_skel
  simp only [k0_part1_eq_skeleton, k0_part2_eq_skeleton, k0_part3_eq_skeleton, k0_part4_eq_skeleton]
  unfold owns
  iintro ⟨⟨%f7, %hf7, H7⟩, ⟨%f12, %hf12, H12⟩, ⟨%d11, %f11, -, H11⟩, Hk⟩
  subst hf7 hf12
  sl_exec (disch := first | sl_exact hc1 | sl_exact hc2 | sl_exact hc3 | sl_exact hc4 | sl_exact hc5)
  sl_step
  iapply Hk
  isplitl [H7]
  · iexists f7; isplitr; · ipureintro; rfl
    iexact H7
  isplitl [H12]
  · iexists f12; isplitr; · ipureintro; rfl
    iexact H12
  iexists _; isplitr
  swap; · iexact H11
  ipureintro
  exact View.read_writes_eq_canon _ _ _ (cover _ _ _ _)

end Cert.Kernel4Ideal.Kv

end
-- ==== Proof.KvFrame.lean ====
/-
  The key/value projection's frame: the pipeline's proof data and the body's obligation, at any interpretation of the floats.
-/
module

public import proofs.«01_k».proof.Proof.KvRunA
public import proofs.«01_k».proof.Proof.KvRunB
public import proofs.«01_k».proof.Proof.KvRunC
public import proofs.«01_k».proof.Proof.KvRunD
public import Idealize.ShloMosaic.Lib.Claim
public import Idealize.ShloMosaic.Lib.Pipeline.ValueKit
@[expose] public section

set_option maxRecDepth 16384

noncomputable section

namespace Cert.Kernel4Ideal.Kv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch rows, as the body is handed them. -/
abbrev scM0 : Memref sig .tc .vmem S1024x2048 .bf16 := Memref.whole cc0_scratch0

theorem PhiA_eq (c : Dev nD) :
    (Pipeline.ΦA spec0 c : sProp 𝕄) = iprop((∃ d, owns (c : Thread nD τ) scM0 fullShare d) ∗ (∃ r, prngReg c r)) := by
  unfold Pipeline.ΦA; rw [scopedRest0_eq]; simp only [scM0, owns_whole]; try rfl

theorem ld_H0 (h : Vec F S1024x2048 .bf16) : View.ld h H0 = h :=
  View.ld_unit_zero (funext fun a => by fin_cases a <;> rfl) _ _

/-- The first and the second point of a point's block of rows. -/
def st (t : Fin cfg0.N) : Fin cfg0.N := ⟨6 * (t.val / 6), by have := t.isLt; omega⟩
def nx (t : Fin cfg0.N) : Fin cfg0.N := ⟨6 * (t.val / 6) + 1, by have h : cfg0.N = 192 := N_0; have := t.isLt; omega⟩

/-- The rows a point's products are of. -/
def HH (c : Dev nD) (t : Fin cfg0.N) : Vec F S1024x2048 .bf16 :=
  rows (iblk m c 0 (st t)) (iblk m c 1 (st t)) (iblk m c 2 (st t)) (iblk m c 3 (st t))

/-- What a point leaves of the compressed branch, -/
def out7 (c : Dev nD) (t : Fin cfg0.N) : Vec F S1x1x4x1024x128 .f32 :=
  if t.val % 6 = 0 then outA (HH m c t) (iblk m c 4 t) (iblk m c 5 t) (iblk m c 6 t) else outB (HH m c t) (iblk m c 4 (nx t))
/-- and of the other branches. -/
def out8 (c : Dev nD) (t : Fin cfg0.N) : Vec F S1x1x4x1024x128 .bf16 :=
  if t.val % 2 = 0 then outC (HH m c t) (iblk m c 4 t) (iblk m c 5 t) (iblk m c 6 t) else outD (HH m c t) (iblk m c 4 t)

theorem st_next (t t' : Fin cfg0.N) (h : t'.val = t.val + 1) (h6 : t'.val % 6 ≠ 0) : st t' = st t :=
  Fin.ext (by show 6 * (t'.val / 6) = 6 * (t.val / 6); omega)
theorem HH_next (c : Dev nD) (t t' : Fin cfg0.N) (h : t'.val = t.val + 1) (h6 : t'.val % 6 ≠ 0) : HH m c t' = HH m c t := by
  unfold HH; rw [st_next t t' h h6]
theorem st_self (t : Fin cfg0.N) (h : t.val % 6 = 0) : st t = t := Fin.ext (by show 6 * (t.val / 6) = t.val; omega)
theorem nx_self (t : Fin cfg0.N) (h : t.val % 6 = 1) : nx t = t := Fin.ext (by show 6 * (t.val / 6) + 1 = t.val; omega)
theorem HH_self (c : Dev nD) (t : Fin cfg0.N) (h : t.val % 6 = 0) : HH m c t = rows (iblk m c 0 t) (iblk m c 1 t) (iblk m c 2 t) (iblk m c 3 t) := by
  unfold HH; rw [st_self t h]

/-- What the region carries between points: the rows, from a block's second point on, and the generator register. -/
def Phi (c : Dev nD) (n : ℕ) : sProp 𝕄 :=
  iprop((∃ d, ⌜∀ t : Fin cfg0.N, t.val = n → t.val % 6 ≠ 0 → d = HH m c t⌝ ∗ owns (c : Thread nD τ) scM0 fullShare d) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
    | ⟨8, _⟩ => out8 m c t
  Φ t := Phi m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = out7 m c t := by dsimp only [dats]
theorem after_8 (c : Dev nD) (t : Fin cfg0.N) : (dats m 0 c).after 8 t = out8 m c t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem leaves_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (st0_6 t) fullShare (iblk m c 6 t) := by
  unfold Dat.leavesExact; rw [show cfg0.idle 6 (grid0.coords t) = false from rfl, after_6]

theorem hcond1 : ∀ t : Fin cfg0.N, cond1 (grid0.coords t) ↔ t.val % 6 = 0 := by decide +kernel
theorem hcond2 : ∀ t : Fin cfg0.N, k0_cond2 (grid0.coords t) = 1#1 ↔ t.val % 6 = 0 := by decide +kernel
theorem hcond3 : ∀ t : Fin cfg0.N, k0_cond3 (grid0.coords t) = 1#1 ↔ t.val % 6 = 1 := by decide +kernel
theorem hcond4 : ∀ t : Fin cfg0.N, k0_cond4 (grid0.coords t) = 1#1 ↔ 2 ≤ t.val % 6 ∧ t.val % 2 = 0 := by decide +kernel
theorem hcond5 : ∀ t : Fin cfg0.N, k0_cond5 (grid0.coords t) = 1#1 ↔ 2 ≤ t.val % 6 ∧ t.val % 2 = 1 := by decide +kernel
theorem idle7 : ∀ t : Fin cfg0.N, 2 ≤ t.val % 6 → cfg0.idle 7 (grid0.coords t) = true := by decide +kernel
theorem live7 : ∀ t : Fin cfg0.N, t.val % 6 < 2 → cfg0.idle 7 (grid0.coords t) = false := by decide +kernel
theorem idle8 : ∀ t : Fin cfg0.N, t.val % 6 < 2 → cfg0.idle 8 (grid0.coords t) = true := by decide +kernel
theorem live8 : ∀ t : Fin cfg0.N, 2 ≤ t.val % 6 → cfg0.idle 8 (grid0.coords t) = false := by decide +kernel
theorem flush7 : ∀ t : Fin cfg0.N, (cfg0.win 7).flush t = true ↔ (t.val % 6 = 0 ∨ t.val % 6 = 5) := by decide +kernel
theorem flush8 : ∀ t : Fin cfg0.N, (cfg0.win 8).flush t = true ↔ 2 ≤ t.val % 6 := by decide +kernel
theorem noFlush7 (t : Fin cfg0.N) (h : t.val % 6 ≠ 0) (h5 : t.val % 6 ≠ 5) : (cfg0.win 7).flush t = false :=
  Bool.eq_false_iff.mpr fun hf => by have := (flush7 t).mp hf; omega
theorem noFlush8 (t : Fin cfg0.N) (h : t.val % 6 < 2) : (cfg0.win 8).flush t = false :=
  Bool.eq_false_iff.mpr fun hf => by have := (flush8 t).mp hf; omega

theorem leaves_7_live (c : Dev nD) (t : Fin cfg0.N) (h : t.val % 6 < 2) : (dats m 0 c).leavesExact 7 t = owns (c : Thread nD τ) (st0_7 t) fullShare (out7 m c t) := by
  unfold Dat.leavesExact; rw [live7 t h, after_7]
theorem leaves_8_live (c : Dev nD) (t : Fin cfg0.N) (h : 2 ≤ t.val % 6) : (dats m 0 c).leavesExact 8 t = owns (c : Thread nD τ) (st0_8 t) fullShare (out8 m c t) := by
  unfold Dat.leavesExact; rw [live8 t h, after_8]

theorem out7_next (c : Dev nD) (t t' : Fin cfg0.N) (h : t'.val = t.val + 1) (h6 : 2 ≤ t'.val % 6) : out7 m c t' = out7 m c t := by
  unfold out7
  rw [if_neg (by omega), if_neg (by omega), HH_next m c t t' h (by omega),
    show nx t' = nx t from Fin.ext (by show 6 * (t'.val / 6) + 1 = 6 * (t.val / 6) + 1; omega)]

/-- The compressed branch's values stay in their buffer until the block's last point hands them out. -/
theorem before_7 (c : Dev nD) : ∀ (n : ℕ) (t : Fin cfg0.N), t.val = n → 2 ≤ t.val % 6 → ∀ d, (dats m 0 c).before 7 t d = out7 m c t := by
  intro n
  induction n with
  | zero => intro t ht h; omega
  | succ n ih =>
    intro t ht h d
    have h0 : t.val ≠ 0 := by omega
    have hlt : t.val - 1 < cfg0.N := by have := t.isLt; omega
    have hfl : (cfg0.win 7).flush ⟨t.val - 1, hlt⟩ = false := noFlush7 _ (by dsimp only; omega) (by dsimp only; omega)
    rw [(dats m 0 c).before_of_pos 7 t h0 ((cfg0.win 7).fetch_out (by rfl) t), hfl, if_neg Bool.false_ne_true,
      out7_next m c ⟨t.val - 1, hlt⟩ t (by dsimp only; omega) h]
    unfold Dat.left
    by_cases h2 : t.val % 6 = 2
    · rw [live7 ⟨t.val - 1, hlt⟩ (by dsimp only; omega)]
      dsimp only
      unfold Dat.kept
      rw [Pipeline.fill_of_clip_none 7 _ (fun _ => rfl) d ((dats m 0 c).after 7 _), Window.fill_cut, after_7]
    · rw [idle7 ⟨t.val - 1, hlt⟩ (by dsimp only; omega)]
      dsimp only
      exact ih ⟨t.val - 1, hlt⟩ (by dsimp only; omega) (by dsimp only; omega) d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 1000000 in
theorem body_A (c : Dev nD) (t : Fin cfg0.N) (h : t.val % 6 = 0) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, leaves_0, leaves_1, leaves_2, leaves_3, leaves_4, leaves_5, leaves_6]
  rw [Dat.leavesExact_idle (dats m 0 c) 8 t (idle8 t (by omega)) (noFlush8 t (by omega)), leaves_7_live m c t (by omega)]
  rw [show out7 m c t = outA (rows (iblk m c 0 t) (iblk m c 1 t) (iblk m c 2 t) (iblk m c 3 t)) (iblk m c 4 t) (iblk m c 5 t) (iblk m c 6 t) from by
    unfold out7; rw [if_pos h, HH_self m c t h]]
  rw [show (dats m 0 c).owesAt () t.succ = (dats m 0 c).owesAt () t.castSucc from rfl]
  rw [show (dats m 0 c).Φ t.castSucc = Phi m c t.val from rfl, show (dats m 0 c).Φ t.succ = Phi m c (t.val + 1) from rfl]
  unfold Phi
  iintro ⟨⟨⟨%dh, %hI, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_A c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) scM0 (Memref.isWhole_whole _) ((hcond1 t).mpr h) ((hcond2 t).mpr h) (fun hc => by have := (hcond3 t).mp hc; omega) (fun hc => by have := (hcond4 t).mp hc; omega) (fun hc => by have := (hcond5 t).mp hc; omega) (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexists _; iexact HS
  isplitl [H7]; · iexists _; iexact H7
  iintro ⟨H0, H1, H2, H3, H4, H5, H6, HS, H7⟩
  isplitl [HS Hg]
  · isplitl [HS]
    · iexists _
      isplitr
      swap; · iexact HS
      ipureintro
      intro t' ht' h6
      exact (HH_self m c t h).symm.trans (HH_next m c t t' ht' h6).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

set_option maxHeartbeats 1000000 in
theorem body_B (c : Dev nD) (t : Fin cfg0.N) (h : t.val % 6 = 1) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, leaves_0, leaves_1, leaves_2, leaves_3, leaves_4, leaves_5, leaves_6]
  rw [Dat.leavesExact_idle (dats m 0 c) 8 t (idle8 t (by omega)) (noFlush8 t (by omega)), leaves_7_live m c t (by omega)]
  rw [show out7 m c t = outB (View.ld (HH m c t) H0) (iblk m c 4 t) from by
    unfold out7; rw [if_neg (by omega), nx_self t h, ld_H0]]
  rw [show (dats m 0 c).owesAt () t.succ = (dats m 0 c).owesAt () t.castSucc from rfl]
  rw [show (dats m 0 c).Φ t.castSucc = Phi m c t.val from rfl, show (dats m 0 c).Φ t.succ = Phi m c (t.val + 1) from rfl]
  unfold Phi
  iintro ⟨⟨⟨%dh, %hI, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl := hI t rfl (by omega)
  iapply (run_B c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) scM0 (Memref.isWhole_whole _) (fun hc => by have := (hcond1 t).mp hc; omega) (fun hc => by have := (hcond2 t).mp hc; omega) ((hcond3 t).mpr h) (fun hc => by have := (hcond4 t).mp hc; omega) (fun hc => by have := (hcond5 t).mp hc; omega) (iblk m c 4 t) (HH m c t) _)
  isplitl [H4]; · iexact H4
  isplitl [HS]; · iexact HS
  isplitl [H7]; · iexists _; iexact H7
  iintro ⟨H4, HS, H7⟩
  isplitl [HS Hg]
  · isplitl [HS]
    · iexists _
      isplitr
      swap; · iexact HS
      ipureintro
      intro t' ht' h6
      exact (HH_next m c t t' ht' h6).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

set_option maxHeartbeats 1000000 in
theorem body_C (c : Dev nD) (t : Fin cfg0.N) (h : 2 ≤ t.val % 6) (h2 : t.val % 2 = 0) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, leaves_0, leaves_1, leaves_2, leaves_3, leaves_4, leaves_5, leaves_6]
  rw [Dat.leavesExact_idle (dats m 0 c) 7 t (idle7 t (by omega)) (noFlush7 t (by omega) (by omega)), leaves_8_live m c t (by omega)]
  rw [show out8 m c t = outC (View.ld (HH m c t) H0) (iblk m c 4 t) (iblk m c 5 t) (iblk m c 6 t) from by
    unfold out8; rw [if_pos h2, ld_H0]]
  rw [show (dats m 0 c).owesAt () t.succ = (dats m 0 c).owesAt () t.castSucc from rfl]
  rw [show (dats m 0 c).Φ t.castSucc = Phi m c t.val from rfl, show (dats m 0 c).Φ t.succ = Phi m c (t.val + 1) from rfl]
  unfold Phi
  iintro ⟨⟨⟨%dh, %hI, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl := hI t rfl (by omega)
  iapply (run_C c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) scM0 (Memref.isWhole_whole _) (fun hc => by have := (hcond1 t).mp hc; omega) (fun hc => by have := (hcond2 t).mp hc; omega) (fun hc => by have := (hcond3 t).mp hc; omega) ((hcond4 t).mpr ⟨h, h2⟩) (fun hc => by have := (hcond5 t).mp hc; omega) (iblk m c 4 t) (iblk m c 5 t) (iblk m c 6 t) (HH m c t) _)
  isplitl [H4]; · iexact H4
  isplitl [H5]; · iexact H5
  isplitl [H6]; · iexact H6
  isplitl [HS]; · iexact HS
  isplitl [H8]; · iexists _; iexact H8
  iintro ⟨H4, H5, H6, HS, H8⟩
  isplitl [HS Hg]
  · isplitl [HS]
    · iexists _
      isplitr
      swap; · iexact HS
      ipureintro
      intro t' ht' h6
      exact (HH_next m c t t' ht' h6).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iexact H8

set_option maxHeartbeats 1000000 in
theorem body_D (c : Dev nD) (t : Fin cfg0.N) (h : t.val % 6 = 3) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, leaves_0, leaves_1, leaves_2, leaves_3, leaves_4, leaves_5, leaves_6]
  rw [Dat.leavesExact_idle (dats m 0 c) 7 t (idle7 t (by omega)) (noFlush7 t (by omega) (by omega)), leaves_8_live m c t (by omega)]
  rw [show out8 m c t = outD (View.ld (HH m c t) H0) (iblk m c 4 t) from by
    unfold out8; rw [if_neg (by omega), ld_H0]]
  rw [show (dats m 0 c).owesAt () t.succ = (dats m 0 c).owesAt () t.castSucc from rfl]
  rw [show (dats m 0 c).Φ t.castSucc = Phi m c t.val from rfl, show (dats m 0 c).Φ t.succ = Phi m c (t.val + 1) from rfl]
  unfold Phi
  iintro ⟨⟨⟨%dh, %hI, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl := hI t rfl (by omega)
  iapply (run_D c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) scM0 (Memref.isWhole_whole _) (fun hc => by have := (hcond1 t).mp hc; omega) (fun hc => by have := (hcond2 t).mp hc; omega) (fun hc => by have := (hcond3 t).mp hc; omega) (fun hc => by have := (hcond4 t).mp hc; omega) ((hcond5 t).mpr ⟨by omega, by omega⟩) (iblk m c 4 t) (HH m c t) _)
  isplitl [H4]; · iexact H4
  isplitl [HS]; · iexact HS
  isplitl [H8]; · iexists _; iexact H8
  iintro ⟨H4, HS, H8⟩
  isplitl [HS Hg]
  · isplitl [HS]
    · iexists _
      isplitr
      swap; · iexact HS
      ipureintro
      intro t' ht' h6
      exact (HH_next m c t t' ht' h6).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iexact H8

set_option maxHeartbeats 1000000 in
theorem body_E (c : Dev nD) (t : Fin cfg0.N) (h5 : t.val % 6 = 5) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, leaves_0, leaves_1, leaves_2, leaves_3, leaves_4, leaves_5, leaves_6]
  rw [show (dats m 0 c).leavesExact 7 t = owns (c : Thread nD τ) (st0_7 t) fullShare (out7 m c t) from by
    unfold Dat.leavesExact; rw [idle7 t (by omega), (flush7 t).mpr (Or.inr h5), after_7], leaves_8_live m c t (by omega)]
  simp only [before_7 m c t.val t rfl (by omega)]
  rw [show out8 m c t = outD (View.ld (HH m c t) H0) (iblk m c 4 t) from by
    unfold out8; rw [if_neg (by omega), ld_H0]]
  rw [show (dats m 0 c).owesAt () t.succ = (dats m 0 c).owesAt () t.castSucc from rfl]
  rw [show (dats m 0 c).Φ t.castSucc = Phi m c t.val from rfl, show (dats m 0 c).Φ t.succ = Phi m c (t.val + 1) from rfl]
  unfold Phi
  iintro ⟨⟨⟨%dh, %hI, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl := hI t rfl (by omega)
  iapply (run_D c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) scM0 (Memref.isWhole_whole _) (fun hc => by have := (hcond1 t).mp hc; omega) (fun hc => by have := (hcond2 t).mp hc; omega) (fun hc => by have := (hcond3 t).mp hc; omega) (fun hc => by have := (hcond4 t).mp hc; omega) ((hcond5 t).mpr ⟨by omega, by omega⟩) (iblk m c 4 t) (HH m c t) _)
  isplitl [H4]; · iexact H4
  isplitl [HS]; · iexact HS
  isplitl [H8]; · iexists _; iexact H8
  iintro ⟨H4, HS, H8⟩
  isplitl [HS Hg]
  · isplitl [HS]
    · iexists _
      isplitr
      swap; · iexact HS
      ipureintro
      intro t' ht' h6
      exact (HH_next m c t t' ht' h6).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 6 = 0
  · exact body_A m c t h0
  by_cases h1 : t.val % 6 = 1
  · exact body_B m c t h1
  by_cases h2 : t.val % 2 = 0
  · exact body_C m c t (by omega) h2
  by_cases h3 : t.val % 6 = 3
  · exact body_D m c t h3
  · exact body_E m c t (by omega)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, PhiA_eq]
  unfold Phi
  iintro ⟨⟨%d0, H0⟩, Hg⟩
  isplitr [Hg]
  · iexists d0
    isplitr; · ipureintro; exact fun t ht h => absurd (by rw [ht]) h
    iexact H0
  iexact Hg

theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨⟨%d0, %hI, H0⟩, Hg⟩
  isplitr [Hg]
  · iexists _; iexact H0
  iexact Hg

set_option backward.isDefEq.respectTransparency.types false in
/-- The launch: every array ends at what the proof data computes, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame of the call, at any interpretation of its floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))
end Cert.Kernel4Ideal.Kv

end
-- ==== Proof.KvPay.lean ====
/-
  The key/value projection's payloads and the blocks it leaves, read at an index over the extended reals.
-/
module

public import proofs.«01_k».proof.Proof.KvOut
public import Idealize.ShloMosaic.Lib.Pipeline.ValueKit
public import Idealize.ShloMosaic.Lib.Pointwise
public import Idealize.ShloMosaic.Lib.KernelVsHost

@[expose] public section

set_option maxRecDepth 16384

noncomputable section

namespace Cert.Kernel4Ideal.Kv

open Cert.Kernel4Ideal Cert.Kernel4Ideal.Gen
open Idealize.ShloMosaic Idealize.ShloMosaic.TcCoe Idealize.SL.Sem
open Idealize.ShloMosaic.Pipeline (Dat)

/-- The lane half a head away. -/
def rot (e : Fin 128) : Fin 128 := ⟨(e.val + 128 - 64) % 128, Nat.mod_lt _ (by decide)⟩

/-- The columns of a weight tile that hold a head. -/
def at0 (e : Fin 128) : Fin 256 := ⟨e.val, by omega⟩
def at1 (e : Fin 128) : Fin 256 := ⟨128 + e.val, by omega⟩
/-- The columns of a weight block that hold head `n`. -/
def col (n : Fin 4) (e : Fin 128) : Fin 512 := ⟨n.val * 128 + e.val, by omega⟩

theorem prod2 (a : FVec Ideal S1024x2048 .bf16) (w : FVec Ideal S2048x256 .bf16) (r : Fin 1024) (e : Fin 256) :
    k0_pay2 (F := Ideal) a w (ix2 r e) = ∑ d : Fin 2048, a (ix2 r d) * w (ix2 d e) := by
  pointwise [k0_pay2]
theorem prod5 (a : FVec Ideal S1024x2048 .bf16) (w : FVec Ideal S2048x256 .bf16) (r : Fin 1024) (e : Fin 256) :
    k0_pay5 (F := Ideal) a w (ix2 r e) = ∑ d : Fin 2048, a (ix2 r d) * w (ix2 d e) := by
  pointwise [k0_pay5]
theorem prod15 (a : FVec Ideal S1024x2048 .bf16) (w : FVec Ideal S2048x256 .bf16) (r : Fin 1024) (e : Fin 256) :
    k0_pay15 (F := Ideal) a w (ix2 r e) = ∑ d : Fin 2048, a (ix2 r d) * w (ix2 d e) := by
  pointwise [k0_pay15]
theorem prod24 (a : FVec Ideal S1024x2048 .bf16) (w : FVec Ideal S2048x256 .bf16) (r : Fin 1024) (e : Fin 256) :
    k0_pay24 (F := Ideal) a w (ix2 r e) = ∑ d : Fin 2048, a (ix2 r d) * w (ix2 d e) := by
  pointwise [k0_pay24]
theorem prod8 (a : FVec Ideal S1024x2048 .bf16) (w : FVec Ideal S2048x256 .bf16) (r : Fin 1024) (e : Fin 256) :
    k0_pay8 (F := Ideal) a w (ix2 r e) = ∑ d : Fin 2048, a (ix2 r d) * w (ix2 d e) := by
  pointwise [k0_pay8]
theorem prod11 (a : FVec Ideal S1024x2048 .bf16) (w : FVec Ideal S2048x256 .bf16) (r : Fin 1024) (e : Fin 256) :
    k0_pay11 (F := Ideal) a w (ix2 r e) = ∑ d : Fin 2048, a (ix2 r d) * w (ix2 d e) := by
  pointwise [k0_pay11]
theorem prod18 (a : FVec Ideal S1024x2048 .bf16) (w : FVec Ideal S2048x256 .bf16) (r : Fin 1024) (e : Fin 256) :
    k0_pay18 (F := Ideal) a w (ix2 r e) = ∑ d : Fin 2048, a (ix2 r d) * w (ix2 d e) := by
  pointwise [k0_pay18]
theorem prod21 (a : FVec Ideal S1024x2048 .bf16) (w : FVec Ideal S2048x256 .bf16) (r : Fin 1024) (e : Fin 256) :
    k0_pay21 (F := Ideal) a w (ix2 r e) = ∑ d : Fin 2048, a (ix2 r d) * w (ix2 d e) := by
  pointwise [k0_pay21]

theorem pay3 (a : FVec Ideal S1024x2048 .bf16) (w : FVec Ideal S2048x256 .bf16) (cs sn : FVec Ideal S1024x128 .f32) (r : Fin 1024) (e : Fin 128) :
    k0_pay3 (F := Ideal) a w cs sn (ix5 0 0 0 r e) = (∑ d : Fin 2048, a (ix2 r d) * w (ix2 d (at0 e))) * cs (ix2 r e)
      + (∑ d : Fin 2048, a (ix2 r d) * w (ix2 d (at0 (rot e)))) * sn (ix2 r e) := by
  rw [← prod2 a w r (at0 e), ← prod2 a w r (at0 (rot e))]
  pointwise [k0_pay3, rot, at0]
theorem pay4 (a : FVec Ideal S1024x2048 .bf16) (w : FVec Ideal S2048x256 .bf16) (cs sn : FVec Ideal S1024x128 .f32) (r : Fin 1024) (e : Fin 128) :
    k0_pay4 (F := Ideal) a w cs sn (ix5 0 0 0 r e) = (∑ d : Fin 2048, a (ix2 r d) * w (ix2 d (at1 e))) * cs (ix2 r e)
      + (∑ d : Fin 2048, a (ix2 r d) * w (ix2 d (at1 (rot e)))) * sn (ix2 r e) := by
  rw [← prod2 a w r (at1 e), ← prod2 a w r (at1 (rot e))]
  pointwise [k0_pay4, rot, at1]
theorem pay6 (a : FVec Ideal S1024x2048 .bf16) (w : FVec Ideal S2048x256 .bf16) (cs sn : FVec Ideal S1024x128 .f32) (r : Fin 1024) (e : Fin 128) :
    k0_pay6 (F := Ideal) a w cs sn (ix5 0 0 0 r e) = (∑ d : Fin 2048, a (ix2 r d) * w (ix2 d (at0 e))) * cs (ix2 r e)
      + (∑ d : Fin 2048, a (ix2 r d) * w (ix2 d (at0 (rot e)))) * sn (ix2 r e) := by
  rw [← prod5 a w r (at0 e), ← prod5 a w r (at0 (rot e))]
  pointwise [k0_pay6, rot, at0]
theorem pay7 (a : FVec Ideal S1024x2048 .bf16) (w : FVec Ideal S2048x256 .bf16) (cs sn : FVec Ideal S1024x128 .f32) (r : Fin 1024) (e : Fin 128) :
    k0_pay7 (F := Ideal) a w cs sn (ix5 0 0 0 r e) = (∑ d : Fin 2048, a (ix2 r d) * w (ix2 d (at1 e))) * cs (ix2 r e)
      + (∑ d : Fin 2048, a (ix2 r d) * w (ix2 d (at1 (rot e)))) * sn (ix2 r e) := by
  rw [← prod5 a w r (at1 e), ← prod5 a w r (at1 (rot e))]
  pointwise [k0_pay7, rot, at1]
theorem pay16 (a : FVec Ideal S1024x2048 .bf16) (w : FVec Ideal S2048x256 .bf16) (cs sn : FVec Ideal S1024x128 .f32) (r : Fin 1024) (e : Fin 128) :
    k0_pay16 (F := Ideal) a w cs sn (ix5 0 0 0 r e) = (∑ d : Fin 2048, a (ix2 r d) * w (ix2 d (at0 e))) * cs (ix2 r e)
      + (∑ d : Fin 2048, a (ix2 r d) * w (ix2 d (at0 (rot e)))) * sn (ix2 r e) := by
  rw [← prod15 a w r (at0 e), ← prod15 a w r (at0 (rot e))]
  pointwise [k0_pay16, rot, at0]
theorem pay17 (a : FVec Ideal S1024x2048 .bf16) (w : FVec Ideal S2048x256 .bf16) (cs sn : FVec Ideal S1024x128 .f32) (r : Fin 1024) (e : Fin 128) :
    k0_pay17 (F := Ideal) a w cs sn (ix5 0 0 0 r e) = (∑ d : Fin 2048, a (ix2 r d) * w (ix2 d (at1 e))) * cs (ix2 r e)
      + (∑ d : Fin 2048, a (ix2 r d) * w (ix2 d (at1 (rot e)))) * sn (ix2 r e) := by
  rw [← prod15 a w r (at1 e), ← prod15 a w r (at1 (rot e))]
  pointwise [k0_pay17, rot, at1]
theorem pay25 (a : FVec Ideal S1024x2048 .bf16) (w : FVec Ideal S2048x256 .bf16) (cs sn : FVec Ideal S1024x128 .f32) (r : Fin 1024) (e : Fin 128) :
    k0_pay25 (F := Ideal) a w cs sn (ix5 0 0 0 r e) = (∑ d : Fin 2048, a (ix2 r d) * w (ix2 d (at0 e))) * cs (ix2 r e)
      + (∑ d : Fin 2048, a (ix2 r d) * w (ix2 d (at0 (rot e)))) * sn (ix2 r e) := by
  rw [← prod24 a w r (at0 e), ← prod24 a w r (at0 (rot e))]
  pointwise [k0_pay25, rot, at0]
theorem pay26 (a : FVec Ideal S1024x2048 .bf16) (w : FVec Ideal S2048x256 .bf16) (cs sn : FVec Ideal S1024x128 .f32) (r : Fin 1024) (e : Fin 128) :
    k0_pay26 (F := Ideal) a w cs sn (ix5 0 0 0 r e) = (∑ d : Fin 2048, a (ix2 r d) * w (ix2 d (at1 e))) * cs (ix2 r e)
      + (∑ d : Fin 2048, a (ix2 r d) * w (ix2 d (at1 (rot e)))) * sn (ix2 r e) := by
  rw [← prod24 a w r (at1 e), ← prod24 a w r (at1 (rot e))]
  pointwise [k0_pay26, rot, at1]
theorem pay9 (a : FVec Ideal S1024x2048 .bf16) (w : FVec Ideal S2048x256 .bf16) (r : Fin 1024) (e : Fin 128) :
    k0_pay9 (F := Ideal) a w (ix5 0 0 0 r e) = ∑ d : Fin 2048, a (ix2 r d) * w (ix2 d (at0 e)) := by
  rw [← prod8 a w r (at0 e)]
  pointwise [k0_pay9, at0]
theorem pay10 (a : FVec Ideal S1024x2048 .bf16) (w : FVec Ideal S2048x256 .bf16) (r : Fin 1024) (e : Fin 128) :
    k0_pay10 (F := Ideal) a w (ix5 0 0 0 r e) = ∑ d : Fin 2048, a (ix2 r d) * w (ix2 d (at1 e)) := by
  rw [← prod8 a w r (at1 e)]
  pointwise [k0_pay10, at1]
theorem pay12 (a : FVec Ideal S1024x2048 .bf16) (w : FVec Ideal S2048x256 .bf16) (r : Fin 1024) (e : Fin 128) :
    k0_pay12 (F := Ideal) a w (ix5 0 0 0 r e) = ∑ d : Fin 2048, a (ix2 r d) * w (ix2 d (at0 e)) := by
  rw [← prod11 a w r (at0 e)]
  pointwise [k0_pay12, at0]
theorem pay13 (a : FVec Ideal S1024x2048 .bf16) (w : FVec Ideal S2048x256 .bf16) (r : Fin 1024) (e : Fin 128) :
    k0_pay1 (F := Ideal) (k0_pay13 (F := Ideal) a w) (ix5 0 0 0 r e) = ∑ d : Fin 2048, a (ix2 r d) * w (ix2 d (at1 e)) := by
  rw [← prod11 a w r (at1 e)]
  pointwise [k0_pay13, k0_pay1, at1]
theorem pay19 (a : FVec Ideal S1024x2048 .bf16) (w : FVec Ideal S2048x256 .bf16) (r : Fin 1024) (e : Fin 128) :
    k0_pay19 (F := Ideal) a w (ix5 0 0 0 r e) = ∑ d : Fin 2048, a (ix2 r d) * w (ix2 d (at0 e)) := by
  rw [← prod18 a w r (at0 e)]
  pointwise [k0_pay19, at0]
theorem pay20 (a : FVec Ideal S1024x2048 .bf16) (w : FVec Ideal S2048x256 .bf16) (r : Fin 1024) (e : Fin 128) :
    k0_pay20 (F := Ideal) a w (ix5 0 0 0 r e) = ∑ d : Fin 2048, a (ix2 r d) * w (ix2 d (at1 e)) := by
  rw [← prod18 a w r (at1 e)]
  pointwise [k0_pay20, at1]
theorem pay22 (a : FVec Ideal S1024x2048 .bf16) (w : FVec Ideal S2048x256 .bf16) (r : Fin 1024) (e : Fin 128) :
    k0_pay22 (F := Ideal) a w (ix5 0 0 0 r e) = ∑ d : Fin 2048, a (ix2 r d) * w (ix2 d (at0 e)) := by
  rw [← prod21 a w r (at0 e)]
  pointwise [k0_pay22, at0]
theorem pay23 (a : FVec Ideal S1024x2048 .bf16) (w : FVec Ideal S2048x256 .bf16) (r : Fin 1024) (e : Fin 128) :
    k0_pay23 (F := Ideal) a w (ix5 0 0 0 r e) = ∑ d : Fin 2048, a (ix2 r d) * w (ix2 d (at1 e)) := by
  rw [← prod21 a w r (at1 e)]
  pointwise [k0_pay23, at1]

theorem ldc0 (w : FVec Ideal S2048x512 .bf16) (d : Fin 2048) (e : Fin 128) :
    View.ld (Val := Elt Ideal) (e' := .bf16) w W0 (ix2 d (at0 e)) = w (ix2 d (col 0 e)) := by
  simp only [View.ld]
  refine congrArg w ?_
  funext a; fin_cases a <;> exact Fin.ext (by simp [LoadRect.idx, Rect.unit, at0, col])
theorem ldc1 (w : FVec Ideal S2048x512 .bf16) (d : Fin 2048) (e : Fin 128) :
    View.ld (Val := Elt Ideal) (e' := .bf16) w W0 (ix2 d (at1 e)) = w (ix2 d (col 1 e)) := by
  simp only [View.ld]
  refine congrArg w ?_
  funext a; fin_cases a <;> exact Fin.ext (by simp [LoadRect.idx, Rect.unit, at1, col])
theorem ldc2 (w : FVec Ideal S2048x512 .bf16) (d : Fin 2048) (e : Fin 128) :
    View.ld (Val := Elt Ideal) (e' := .bf16) w W1 (ix2 d (at0 e)) = w (ix2 d (col 2 e)) := by
  simp only [View.ld]
  refine congrArg w ?_
  funext a; fin_cases a <;> exact Fin.ext (by simp [LoadRect.idx, Rect.unit, at0, col])
theorem ldc3 (w : FVec Ideal S2048x512 .bf16) (d : Fin 2048) (e : Fin 128) :
    View.ld (Val := Elt Ideal) (e' := .bf16) w W1 (ix2 d (at1 e)) = w (ix2 d (col 3 e)) := by
  simp only [View.ld]
  refine congrArg w ?_
  funext a; fin_cases a <;> exact Fin.ext (by simp [LoadRect.idx, Rect.unit, at1, col]; try omega)
theorem ld_C0 (x : FVec Ideal S1024x128 .f32) : View.ld (Val := Elt Ideal) (e' := .f32) x C0 = x :=
  View.ld_unit_zero (funext fun a => by fin_cases a <;> rfl) _ _

/-- One head's product. -/
def PR (h : FVec Ideal S1024x2048 .bf16) (w : FVec Ideal S2048x512 .bf16) (r : Fin 1024) (n : Fin 4) (e : Fin 128) : EReal :=
  ∑ d : Fin 2048, h (ix2 r d) * w (ix2 d (col n e))
/-- A block of rotated keys, and one of values. -/
def GK (h : FVec Ideal S1024x2048 .bf16) (w : FVec Ideal S2048x512 .bf16) (cs sn : FVec Ideal S1024x128 .f32) : S1x1x4x1024x128.Idx → EReal := fun y =>
  PR h w (y 3) (y 2) (y 4) * cs (ix2 (y 3) (y 4)) + PR h w (y 3) (y 2) (rot (y 4)) * sn (ix2 (y 3) (y 4))
def GV (h : FVec Ideal S1024x2048 .bf16) (w : FVec Ideal S2048x512 .bf16) : S1x1x4x1024x128.Idx → EReal := fun y => PR h w (y 3) (y 2) (y 4)

theorem GK_apply (h : FVec Ideal S1024x2048 .bf16) (w : FVec Ideal S2048x512 .bf16) (cs sn : FVec Ideal S1024x128 .f32) (n : Fin 4) (r : Fin 1024) (e : Fin 128) :
    GK h w cs sn (ix5 0 0 n r e) = PR h w r n e * cs (ix2 r e) + PR h w r n (rot e) * sn (ix2 r e) := rfl
theorem GV_apply (h : FVec Ideal S1024x2048 .bf16) (w : FVec Ideal S2048x512 .bf16) (n : Fin 4) (r : Fin 1024) (e : Fin 128) :
    GV h w (ix5 0 0 n r e) = PR h w r n e := rfl

theorem emb0 (P G : _ → EReal) (hp : ∀ (r : Fin 1024) (e : Fin 128), P (ix5 0 0 0 r e) = G (ix5 0 0 0 r e)) (x : S1x1x1x1024x128.Idx) : P x = G (R0.emb x) := by
  generalize hy : x = z
  idx_vars z
  obtain rfl : z0 = 0 := Subsingleton.elim _ _
  obtain rfl : z1 = 0 := Subsingleton.elim _ _
  obtain rfl : z2 = 0 := Subsingleton.elim _ _
  refine (hp z3 z4).trans (congrArg G ?_)
  funext a; fin_cases a <;> exact Fin.ext (by simp [Rect.emb, Rect.unit])
theorem emb1 (P G : _ → EReal) (hp : ∀ (r : Fin 1024) (e : Fin 128), P (ix5 0 0 0 r e) = G (ix5 0 0 1 r e)) (x : S1x1x1x1024x128.Idx) : P x = G (R1.emb x) := by
  generalize hy : x = z
  idx_vars z
  obtain rfl : z0 = 0 := Subsingleton.elim _ _
  obtain rfl : z1 = 0 := Subsingleton.elim _ _
  obtain rfl : z2 = 0 := Subsingleton.elim _ _
  refine (hp z3 z4).trans (congrArg G ?_)
  funext a; fin_cases a <;> exact Fin.ext (by simp [Rect.emb, Rect.unit])
theorem emb2 (P G : _ → EReal) (hp : ∀ (r : Fin 1024) (e : Fin 128), P (ix5 0 0 0 r e) = G (ix5 0 0 2 r e)) (x : S1x1x1x1024x128.Idx) : P x = G (R2.emb x) := by
  generalize hy : x = z
  idx_vars z
  obtain rfl : z0 = 0 := Subsingleton.elim _ _
  obtain rfl : z1 = 0 := Subsingleton.elim _ _
  obtain rfl : z2 = 0 := Subsingleton.elim _ _
  refine (hp z3 z4).trans (congrArg G ?_)
  funext a; fin_cases a <;> exact Fin.ext (by simp [Rect.emb, Rect.unit])
theorem emb3 (P G : _ → EReal) (hp : ∀ (r : Fin 1024) (e : Fin 128), P (ix5 0 0 0 r e) = G (ix5 0 0 3 r e)) (x : S1x1x1x1024x128.Idx) : P x = G (R3.emb x) := by
  generalize hy : x = z
  idx_vars z
  obtain rfl : z0 = 0 := Subsingleton.elim _ _
  obtain rfl : z1 = 0 := Subsingleton.elim _ _
  obtain rfl : z2 = 0 := Subsingleton.elim _ _
  refine (hp z3 z4).trans (congrArg G ?_)
  funext a; fin_cases a <;> exact Fin.ext (by simp [Rect.emb, Rect.unit])
theorem outA_eq (h : FVec Ideal S1024x2048 .bf16) (w : FVec Ideal S2048x512 .bf16) (cs sn : FVec Ideal S1024x128 .f32) (y : S1x1x4x1024x128.Idx) :
    outA (F := Ideal) h w cs sn y = GK h w cs sn y := by
  unfold outA
  refine View.canon_apply_of_pieces (Val := Elt Ideal) (e := .f32) (GK h w cs sn) _ ?_ y (cover _ _ _ _ y)
  intro p hp
  simp only [List.mem_cons, List.mem_nil_iff, or_false] at hp
  rcases hp with rfl | rfl | rfl | rfl
  · refine fun x => emb3 _ _ (fun r e => ?_) x
    refine (pay17 _ _ _ _ r e).trans ?_
    exact congrArg₂ (fun u v : EReal => u + v)
      (congrArg₂ (fun u v : EReal => u * v) (Finset.sum_congr rfl fun d _ => congrArg (fun z : EReal => (h (ix2 r d) : EReal) * z) (ldc3 w d e)) (congrFun (ld_C0 cs) _))
      (congrArg₂ (fun u v : EReal => u * v) (Finset.sum_congr rfl fun d _ => congrArg (fun z : EReal => (h (ix2 r d) : EReal) * z) (ldc3 w d (rot e))) (congrFun (ld_C0 sn) _))
  · refine fun x => emb2 _ _ (fun r e => ?_) x
    refine (pay16 _ _ _ _ r e).trans ?_
    exact congrArg₂ (fun u v : EReal => u + v)
      (congrArg₂ (fun u v : EReal => u * v) (Finset.sum_congr rfl fun d _ => congrArg (fun z : EReal => (h (ix2 r d) : EReal) * z) (ldc2 w d e)) (congrFun (ld_C0 cs) _))
      (congrArg₂ (fun u v : EReal => u * v) (Finset.sum_congr rfl fun d _ => congrArg (fun z : EReal => (h (ix2 r d) : EReal) * z) (ldc2 w d (rot e))) (congrFun (ld_C0 sn) _))
  · refine fun x => emb1 _ _ (fun r e => ?_) x
    refine (pay4 _ _ _ _ r e).trans ?_
    exact congrArg₂ (fun u v : EReal => u + v)
      (congrArg₂ (fun u v : EReal => u * v) (Finset.sum_congr rfl fun d _ => congrArg (fun z : EReal => (h (ix2 r d) : EReal) * z) (ldc1 w d e)) (congrFun (ld_C0 cs) _))
      (congrArg₂ (fun u v : EReal => u * v) (Finset.sum_congr rfl fun d _ => congrArg (fun z : EReal => (h (ix2 r d) : EReal) * z) (ldc1 w d (rot e))) (congrFun (ld_C0 sn) _))
  · refine fun x => emb0 _ _ (fun r e => ?_) x
    refine (pay3 _ _ _ _ r e).trans ?_
    exact congrArg₂ (fun u v : EReal => u + v)
      (congrArg₂ (fun u v : EReal => u * v) (Finset.sum_congr rfl fun d _ => congrArg (fun z : EReal => (h (ix2 r d) : EReal) * z) (ldc0 w d e)) (congrFun (ld_C0 cs) _))
      (congrArg₂ (fun u v : EReal => u * v) (Finset.sum_congr rfl fun d _ => congrArg (fun z : EReal => (h (ix2 r d) : EReal) * z) (ldc0 w d (rot e))) (congrFun (ld_C0 sn) _))
theorem outB_eq (h : FVec Ideal S1024x2048 .bf16) (w : FVec Ideal S2048x512 .bf16) (y : S1x1x4x1024x128.Idx) :
    outB (F := Ideal) h w y = GV h w y := by
  unfold outB
  refine View.canon_apply_of_pieces (Val := Elt Ideal) (e := .f32) (GV h w) _ ?_ y (cover _ _ _ _ y)
  intro p hp
  simp only [List.mem_cons, List.mem_nil_iff, or_false] at hp
  rcases hp with rfl | rfl | rfl | rfl
  · refine fun x => emb3 _ _ (fun r e => ?_) x
    refine (pay23 _ _ r e).trans ?_
    exact Finset.sum_congr rfl fun d _ => congrArg (fun z : EReal => (h (ix2 r d) : EReal) * z) (ldc3 w d e)
  · refine fun x => emb2 _ _ (fun r e => ?_) x
    refine (pay22 _ _ r e).trans ?_
    exact Finset.sum_congr rfl fun d _ => congrArg (fun z : EReal => (h (ix2 r d) : EReal) * z) (ldc2 w d e)
  · refine fun x => emb1 _ _ (fun r e => ?_) x
    refine (pay20 _ _ r e).trans ?_
    exact Finset.sum_congr rfl fun d _ => congrArg (fun z : EReal => (h (ix2 r d) : EReal) * z) (ldc1 w d e)
  · refine fun x => emb0 _ _ (fun r e => ?_) x
    refine (pay19 _ _ r e).trans ?_
    exact Finset.sum_congr rfl fun d _ => congrArg (fun z : EReal => (h (ix2 r d) : EReal) * z) (ldc0 w d e)
theorem outC_eq (h : FVec Ideal S1024x2048 .bf16) (w : FVec Ideal S2048x512 .bf16) (cs sn : FVec Ideal S1024x128 .f32) (y : S1x1x4x1024x128.Idx) :
    outC (F := Ideal) h w cs sn y = GK h w cs sn y := by
  unfold outC
  refine View.canon_apply_of_pieces (Val := Elt Ideal) (e := .bf16) (GK h w cs sn) _ ?_ y (cover _ _ _ _ y)
  intro p hp
  simp only [List.mem_cons, List.mem_nil_iff, or_false] at hp
  rcases hp with rfl | rfl | rfl | rfl
  · refine fun x => emb3 _ _ (fun r e => ?_) x
    refine (pay26 _ _ _ _ r e).trans ?_
    exact congrArg₂ (fun u v : EReal => u + v)
      (congrArg₂ (fun u v : EReal => u * v) (Finset.sum_congr rfl fun d _ => congrArg (fun z : EReal => (h (ix2 r d) : EReal) * z) (ldc3 w d e)) (congrFun (ld_C0 cs) _))
      (congrArg₂ (fun u v : EReal => u * v) (Finset.sum_congr rfl fun d _ => congrArg (fun z : EReal => (h (ix2 r d) : EReal) * z) (ldc3 w d (rot e))) (congrFun (ld_C0 sn) _))
  · refine fun x => emb2 _ _ (fun r e => ?_) x
    refine (pay25 _ _ _ _ r e).trans ?_
    exact congrArg₂ (fun u v : EReal => u + v)
      (congrArg₂ (fun u v : EReal => u * v) (Finset.sum_congr rfl fun d _ => congrArg (fun z : EReal => (h (ix2 r d) : EReal) * z) (ldc2 w d e)) (congrFun (ld_C0 cs) _))
      (congrArg₂ (fun u v : EReal => u * v) (Finset.sum_congr rfl fun d _ => congrArg (fun z : EReal => (h (ix2 r d) : EReal) * z) (ldc2 w d (rot e))) (congrFun (ld_C0 sn) _))
  · refine fun x => emb1 _ _ (fun r e => ?_) x
    refine (pay7 _ _ _ _ r e).trans ?_
    exact congrArg₂ (fun u v : EReal => u + v)
      (congrArg₂ (fun u v : EReal => u * v) (Finset.sum_congr rfl fun d _ => congrArg (fun z : EReal => (h (ix2 r d) : EReal) * z) (ldc1 w d e)) (congrFun (ld_C0 cs) _))
      (congrArg₂ (fun u v : EReal => u * v) (Finset.sum_congr rfl fun d _ => congrArg (fun z : EReal => (h (ix2 r d) : EReal) * z) (ldc1 w d (rot e))) (congrFun (ld_C0 sn) _))
  · refine fun x => emb0 _ _ (fun r e => ?_) x
    refine (pay6 _ _ _ _ r e).trans ?_
    exact congrArg₂ (fun u v : EReal => u + v)
      (congrArg₂ (fun u v : EReal => u * v) (Finset.sum_congr rfl fun d _ => congrArg (fun z : EReal => (h (ix2 r d) : EReal) * z) (ldc0 w d e)) (congrFun (ld_C0 cs) _))
      (congrArg₂ (fun u v : EReal => u * v) (Finset.sum_congr rfl fun d _ => congrArg (fun z : EReal => (h (ix2 r d) : EReal) * z) (ldc0 w d (rot e))) (congrFun (ld_C0 sn) _))
theorem outD_eq (h : FVec Ideal S1024x2048 .bf16) (w : FVec Ideal S2048x512 .bf16) (y : S1x1x4x1024x128.Idx) :
    outD (F := Ideal) h w y = GV h w y := by
  unfold outD
  refine View.canon_apply_of_pieces (Val := Elt Ideal) (e := .bf16) (GV h w) _ ?_ y (cover _ _ _ _ y)
  intro p hp
  simp only [List.mem_cons, List.mem_nil_iff, or_false] at hp
  rcases hp with rfl | rfl | rfl | rfl
  · refine fun x => emb3 _ _ (fun r e => ?_) x
    refine (pay13 _ _ r e).trans ?_
    exact Finset.sum_congr rfl fun d _ => congrArg (fun z : EReal => (h (ix2 r d) : EReal) * z) (ldc3 w d e)
  · refine fun x => emb2 _ _ (fun r e => ?_) x
    refine (pay12 _ _ r e).trans ?_
    exact Finset.sum_congr rfl fun d _ => congrArg (fun z : EReal => (h (ix2 r d) : EReal) * z) (ldc2 w d e)
  · refine fun x => emb1 _ _ (fun r e => ?_) x
    refine (pay10 _ _ r e).trans ?_
    exact Finset.sum_congr rfl fun d _ => congrArg (fun z : EReal => (h (ix2 r d) : EReal) * z) (ldc1 w d e)
  · refine fun x => emb0 _ _ (fun r e => ?_) x
    refine (pay9 _ _ r e).trans ?_
    exact Finset.sum_congr rfl fun d _ => congrArg (fun z : EReal => (h (ix2 r d) : EReal) * z) (ldc0 w d e)

end Cert.Kernel4Ideal.Kv

end
-- ==== Proof.KvRef.lean ====
/-
  The key/value projection's reference: the modulated rows, their product with the weights by branch and head, the rotation of the
  keys, and the two stacked results, each read at an index over the extended reals.
-/
module

public import proofs.«01_k».proof.Proof.Gen.Reference4Ideal.Run
public import Idealize.ShloMosaic.Lib.Pipeline.ValueKit
public import Idealize.ShloMosaic.Lib.Pointwise

@[expose] public section

set_option maxRecDepth 16384

noncomputable section

namespace Cert.Reference4Ideal.Kv

open Cert.Reference4Ideal Cert.Reference4Ideal.Gen
open Idealize.ShloMosaic Idealize.ShloMosaic.TcCoe Idealize.SL.Sem

variable {F : FTy → Type} [FloatOps F]

/-- `modulate(rms_norm(x, g), shift, scale)`. -/
def HR (X : FVec F S16x2048x2048 .f32) (G : FVec F S2048 .f32) (SH SC : FVec F S16x2048 .f32) : FVec F S16x2048x2048 .f32 :=
  addf (mulf (mulf (mulf X (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf X X) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 G))) (broadcastInDim S16x2048x2048 ![0, 1, 2] bcast_S16x1x2048_S16x2048x2048_0_1_2 (addf (broadcastInDim S16x1x2048 ![] bcast_S_S16x1x2048 (constant S_ .f32 0x3F800000#32)) (broadcastInDim S16x1x2048 ![0, 2] bcast_S16x2048_S16x1x2048_0_2 SC)))) (broadcastInDim S16x2048x2048 ![0, 1, 2] bcast_S16x1x2048_S16x2048x2048_0_1_2 (broadcastInDim S16x1x2048 ![0, 2] bcast_S16x2048_S16x1x2048_0_2 SH))

/-- `h @ w`, its columns by branch, head and lane. -/
def KV (H : FVec F S16x2048x2048 .f32) (W : FVec F S2048x3072 .f32) : FVec F S16x2048x6x4x128 .f32 :=
  shapeCast _ (Host.dotGeneral dot_S16x2048x2048_S2048x3072_S16x2048x3072_2_0_01_1_n_n none H W) shapeCasts_S16x2048x3072_S16x2048x6x4x128

/-- Branch 0's rows. -/
def br0 (K : FVec F S16x2048x6x4x128 .f32) : FVec F S16x2048x4x128 .f32 :=
  shapeCast _ (extractStridedSlice S16x2048x1x4x128 ![0, 0, 0, 0, 0] K slices_S16x2048x6x4x128_S16x2048x1x4x128_0_0_0_0_0) shapeCasts_S16x2048x1x4x128_S16x2048x4x128
/-- Branch 1's rows. -/
def br1 (K : FVec F S16x2048x6x4x128 .f32) : FVec F S16x2048x4x128 .f32 :=
  shapeCast _ (extractStridedSlice S16x2048x1x4x128 ![0, 0, 1, 0, 0] K slices_S16x2048x6x4x128_S16x2048x1x4x128_0_0_1_0_0) shapeCasts_S16x2048x1x4x128_S16x2048x4x128
/-- Branch 2's rows. -/
def br2 (K : FVec F S16x2048x6x4x128 .f32) : FVec F S16x2048x4x128 .f32 :=
  shapeCast _ (extractStridedSlice S16x2048x1x4x128 ![0, 0, 2, 0, 0] K slices_S16x2048x6x4x128_S16x2048x1x4x128_0_0_2_0_0) shapeCasts_S16x2048x1x4x128_S16x2048x4x128
/-- Branch 3's rows. -/
def br3 (K : FVec F S16x2048x6x4x128 .f32) : FVec F S16x2048x4x128 .f32 :=
  shapeCast _ (extractStridedSlice S16x2048x1x4x128 ![0, 0, 3, 0, 0] K slices_S16x2048x6x4x128_S16x2048x1x4x128_0_0_3_0_0) shapeCasts_S16x2048x1x4x128_S16x2048x4x128
/-- Branch 4's rows. -/
def br4 (K : FVec F S16x2048x6x4x128 .f32) : FVec F S16x2048x4x128 .f32 :=
  shapeCast _ (extractStridedSlice S16x2048x1x4x128 ![0, 0, 4, 0, 0] K slices_S16x2048x6x4x128_S16x2048x1x4x128_0_0_4_0_0) shapeCasts_S16x2048x1x4x128_S16x2048x4x128
/-- Branch 5's rows. -/
def br5 (K : FVec F S16x2048x6x4x128 .f32) : FVec F S16x2048x4x128 .f32 :=
  shapeCast _ (extractStridedSlice S16x2048x1x4x128 ![0, 0, 5, 0, 0] K slices_S16x2048x6x4x128_S16x2048x1x4x128_0_0_5_0_0) shapeCasts_S16x2048x1x4x128_S16x2048x4x128

/-- The rotation's angles, by position and lane of a half. -/
def ANG : FVec F S2048x64 .f32 :=
  mulf (broadcastInDim S2048x64 ![0, 1] bcast_S2048x1_S2048x64_0_1 (broadcastInDim S2048x1 ![0] bcast_S2048_S2048x1_0 (sitofp .f32 (iotaInDim S2048 32 0)))) (broadcastInDim S2048x64 ![0, 1] bcast_S1x64_S2048x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))

/-- A table over every row and head. -/
def spread (T : FVec F S2048x64 .f32) : FVec F S16x2048x4x64 .f32 :=
  broadcastInDim S16x2048x4x64 ![0, 1, 2, 3] bcast_S1x2048x1x64_S16x2048x4x64_0_1_2_3 (broadcastInDim S1x2048x1x64 ![1, 2, 3] bcast_S2048x1x64_S1x2048x1x64_1_2_3 (broadcastInDim S2048x1x64 ![0, 2] bcast_S2048x64_S2048x1x64_0_2 T))

/-- The two halves of a head's lanes. -/
def fst (Y : FVec F S16x2048x4x128 .f32) : FVec F S16x2048x4x64 .f32 := extractStridedSlice S16x2048x4x64 ![0, 0, 0, 0] Y slices_S16x2048x4x128_S16x2048x4x64_0_0_0_0
def snd (Y : FVec F S16x2048x4x128 .f32) : FVec F S16x2048x4x64 .f32 := extractStridedSlice S16x2048x4x64 ![0, 0, 0, 64] Y slices_S16x2048x4x128_S16x2048x4x64_0_0_0_64

/-- `rope`, from the tables of cosines and sines. -/
def ROPE (Y : FVec F S16x2048x4x128 .f32) (C S : FVec F S2048x64 .f32) : FVec F S16x2048x4x128 .f32 :=
  concatenate S16x2048x4x128 3 [⟨S16x2048x4x64, subf (mulf (fst Y) (spread C)) (mulf (snd Y) (spread S))⟩,
    ⟨S16x2048x4x64, addf (mulf (snd Y) (spread C)) (mulf (fst Y) (spread S))⟩] concatenates_S16x2048x4x64_S16x2048x4x64_S16x2048x4x128_d3

/-- One branch of a stack. -/
def lift (Y : FVec F S16x2048x4x128 .f32) : FVec F S16x1x2048x4x128 .f32 :=
  broadcastInDim S16x1x2048x4x128 ![0, 2, 3, 4] bcast_S16x2048x4x128_S16x1x2048x4x128_0_2_3_4 Y

/-- The compressed branch's keys and values, -/
def CMP (Y0 Y1 : FVec F S16x2048x4x128 .f32) : FVec F S16x2x4x2048x128 .f32 :=
  transpose S16x2x4x2048x128 [0, 1, 3, 2, 4] (concatenate S16x2x2048x4x128 1 [⟨S16x1x2048x4x128, lift Y0⟩, ⟨S16x1x2048x4x128, lift Y1⟩]
    concatenates_S16x1x2048x4x128_S16x1x2048x4x128_S16x2x2048x4x128_d1) transposes_S16x2x2048x4x128_S16x2x4x2048x128_0_1_3_2_4

/-- and the other two branches'. -/
def REST (Y0 Y1 Y2 Y3 : FVec F S16x2048x4x128 .f32) : FVec F S16x4x4x2048x128 .bf16 :=
  truncf .bf16 (transpose S16x4x4x2048x128 [0, 1, 3, 2, 4] (concatenate S16x4x2048x4x128 1 [⟨S16x1x2048x4x128, lift Y0⟩, ⟨S16x1x2048x4x128, lift Y1⟩,
    ⟨S16x1x2048x4x128, lift Y2⟩, ⟨S16x1x2048x4x128, lift Y3⟩]
    concatenates_S16x1x2048x4x128_S16x1x2048x4x128_S16x1x2048x4x128_S16x1x2048x4x128_S16x4x2048x4x128_d1) transposes_S16x4x2048x4x128_S16x4x4x2048x128_0_1_3_2_4) bitsLt_bf16_f32

/-- The two results as functions of the arguments. -/
def REF0 (X : FVec F S16x2048x2048 .f32) (G : FVec F S2048 .f32) (SH SC : FVec F S16x2048 .f32) (W : FVec F S2048x3072 .f32) : FVec F S16x2x4x2048x128 .f32 :=
  CMP (ROPE (br0 (KV (HR X G SH SC) W)) (Host.cos ANG) (Host.sin ANG)) (br1 (KV (HR X G SH SC) W))
def REF1 (X : FVec F S16x2048x2048 .f32) (G : FVec F S2048 .f32) (SH SC : FVec F S16x2048 .f32) (W : FVec F S2048x3072 .f32) : FVec F S16x4x4x2048x128 .bf16 :=
  REST (ROPE (br2 (KV (HR X G SH SC) W)) (Host.cos ANG) (Host.sin ANG)) (br3 (KV (HR X G SH SC) W))
    (ROPE (br4 (KV (HR X G SH SC) W)) (Host.cos ANG) (Host.sin ANG)) (br5 (KV (HR X G SH SC) W))

/-- The reference's composed terms are these. -/
theorem res_eq0 (m : (ℓ : Loc nD τ sig) → Buf (Elt F) ℓ) (c : Dev nD) :
    Value.res_main_v143 m c = REF0 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v143 REF0 CMP lift ROPE fst snd spread ANG br0 br1 KV HR
  rfl
theorem res_eq1 (m : (ℓ : Loc nD τ sig) → Buf (Elt F) ℓ) (c : Dev nD) :
    Value.res_main_v145 m c = REF1 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v145 REF1 REST lift ROPE fst snd spread ANG br2 br3 br4 br5 KV HR
  rfl

/-- A weight column of branch `k`, head `n`, lane `e`. -/
def colOf (k : Fin 6) (n : Fin 4) (e : Fin 128) : Fin 3072 := ⟨k.val * 512 + n.val * 128 + e.val, by have := k.isLt; have := n.isLt; have := e.isLt; omega⟩

theorem KV_apply (H : FVec Ideal S16x2048x2048 .f32) (W : FVec Ideal S2048x3072 .f32) (b : Fin 16) (r : Fin 2048) (k : Fin 6) (n : Fin 4) (e : Fin 128) :
    KV H W (ix5 b r k n e) = ∑ d : Fin 2048, H (ix3 b r d) * W (ix2 d (colOf k n e)) := by
  unfold KV
  rw [shapeCast_apply _ _ _ (ix3 b r (colOf k n e)) (by rw [Shape.rowMajor_val_three, Shape.rowMajor_val_five]; simp [ix3, ix5, colOf]; omega)]
  pointwise

theorem br0_apply (K : FVec Ideal S16x2048x6x4x128 .f32) (b : Fin 16) (r : Fin 2048) (n : Fin 4) (e : Fin 128) :
    br0 K (ix4 b r n e) = K (ix5 b r 0 n e) := by
  pointwise [br0]
theorem br1_apply (K : FVec Ideal S16x2048x6x4x128 .f32) (b : Fin 16) (r : Fin 2048) (n : Fin 4) (e : Fin 128) :
    br1 K (ix4 b r n e) = K (ix5 b r 1 n e) := by
  pointwise [br1]
theorem br2_apply (K : FVec Ideal S16x2048x6x4x128 .f32) (b : Fin 16) (r : Fin 2048) (n : Fin 4) (e : Fin 128) :
    br2 K (ix4 b r n e) = K (ix5 b r 2 n e) := by
  pointwise [br2]
theorem br3_apply (K : FVec Ideal S16x2048x6x4x128 .f32) (b : Fin 16) (r : Fin 2048) (n : Fin 4) (e : Fin 128) :
    br3 K (ix4 b r n e) = K (ix5 b r 3 n e) := by
  pointwise [br3]
theorem br4_apply (K : FVec Ideal S16x2048x6x4x128 .f32) (b : Fin 16) (r : Fin 2048) (n : Fin 4) (e : Fin 128) :
    br4 K (ix4 b r n e) = K (ix5 b r 4 n e) := by
  pointwise [br4]
theorem br5_apply (K : FVec Ideal S16x2048x6x4x128 .f32) (b : Fin 16) (r : Fin 2048) (n : Fin 4) (e : Fin 128) :
    br5 K (ix4 b r n e) = K (ix5 b r 5 n e) := by
  pointwise [br5]

def lo (e : Fin 64) : Fin 128 := ⟨e.val, by omega⟩
def hi (e : Fin 64) : Fin 128 := ⟨64 + e.val, by omega⟩

theorem ROPE_lo (Y : FVec Ideal S16x2048x4x128 .f32) (C S : FVec Ideal S2048x64 .f32) (b : Fin 16) (r : Fin 2048) (n : Fin 4) (e : Fin 64) :
    ROPE Y C S (ix4 b r n (lo e)) = Y (ix4 b r n (lo e)) * C (ix2 r e) - Y (ix4 b r n (hi e)) * S (ix2 r e) := by
  pointwise [ROPE, fst, snd, spread, lo, hi]
theorem ROPE_hi (Y : FVec Ideal S16x2048x4x128 .f32) (C S : FVec Ideal S2048x64 .f32) (b : Fin 16) (r : Fin 2048) (n : Fin 4) (e : Fin 64) :
    ROPE Y C S (ix4 b r n (hi e)) = Y (ix4 b r n (hi e)) * C (ix2 r e) + Y (ix4 b r n (lo e)) * S (ix2 r e) := by
  pointwise [ROPE, fst, snd, spread, lo, hi]

theorem CMP_0 (Y0 Y1 : FVec Ideal S16x2048x4x128 .f32) (b : Fin 16) (n : Fin 4) (r : Fin 2048) (e : Fin 128) :
    CMP Y0 Y1 (ix5 b 0 n r e) = Y0 (ix4 b r n e) := by
  pointwise [CMP, lift]
theorem CMP_1 (Y0 Y1 : FVec Ideal S16x2048x4x128 .f32) (b : Fin 16) (n : Fin 4) (r : Fin 2048) (e : Fin 128) :
    CMP Y0 Y1 (ix5 b 1 n r e) = Y1 (ix4 b r n e) := by
  pointwise [CMP, lift]
theorem REST_0 (Y0 Y1 Y2 Y3 : FVec Ideal S16x2048x4x128 .f32) (b : Fin 16) (n : Fin 4) (r : Fin 2048) (e : Fin 128) :
    REST Y0 Y1 Y2 Y3 (ix5 b 0 n r e) = Y0 (ix4 b r n e) := by
  pointwise [REST, lift]
theorem REST_1 (Y0 Y1 Y2 Y3 : FVec Ideal S16x2048x4x128 .f32) (b : Fin 16) (n : Fin 4) (r : Fin 2048) (e : Fin 128) :
    REST Y0 Y1 Y2 Y3 (ix5 b 1 n r e) = Y1 (ix4 b r n e) := by
  pointwise [REST, lift]
theorem REST_2 (Y0 Y1 Y2 Y3 : FVec Ideal S16x2048x4x128 .f32) (b : Fin 16) (n : Fin 4) (r : Fin 2048) (e : Fin 128) :
    REST Y0 Y1 Y2 Y3 (ix5 b 2 n r e) = Y2 (ix4 b r n e) := by
  pointwise [REST, lift]
theorem REST_3 (Y0 Y1 Y2 Y3 : FVec Ideal S16x2048x4x128 .f32) (b : Fin 16) (n : Fin 4) (r : Fin 2048) (e : Fin 128) :
    REST Y0 Y1 Y2 Y3 (ix5 b 3 n r e) = Y3 (ix4 b r n e) := by
  pointwise [REST, lift]

end Cert.Reference4Ideal.Kv

end
-- ==== Proof.KvBlk.lean ====
/-
  The key/value projection: what the kernel's blocks hold, and its rows, over the extended reals.
-/
module

public import proofs.«01_k».proof.Proof.KvFrame
public import proofs.«01_k».proof.Proof.KvPay
public import proofs.«01_k».proof.Proof.KvRef
public import Idealize.ShloMosaic.Lib.Pipeline.ReadBack

@[expose] public section

set_option maxRecDepth 16384

noncomputable section

namespace Cert.Kernel4Ideal.Kv

open Cert.Kernel4Ideal Cert.Kernel4Ideal.Gen
open Idealize.ShloMosaic Idealize.ShloMosaic.TcCoe Idealize.SL.Sem
open Idealize.ShloMosaic.Pipeline (Dat)
open Cert.Reference4Ideal.Kv (HR KV ANG lo hi colOf)

theorem idx : ∀ t : Fin cfg0.N,
    win0_0.index t = ![t.val / 12, t.val / 6 % 2, 0] ∧ win0_1.index t = ![0, 0] ∧ win0_2.index t = ![t.val / 12, 0, 0]
    ∧ win0_3.index t = ![t.val / 12, 0, 0] ∧ win0_4.index t = ![0, t.val % 6] ∧ win0_5.index t = ![t.val / 6 % 2, 0] ∧ win0_6.index t = ![t.val / 6 % 2, 0]
    ∧ win0_7.index t = ![t.val / 12, min (t.val % 6) 1, 0, t.val / 6 % 2, 0]
    ∧ win0_8.index t = ![t.val / 12, t.val % 6 - 2, 0, t.val / 6 % 2, 0] := (by decide +kernel : ∀ t : Fin grid0.N, _)

variable (m : (ℓ : Loc nD τ sig) → Buf (Elt Ideal) ℓ)

theorem ib0 (c : Dev nD) (t : Fin cfg0.N) (r : Fin 1024) (d : Fin 2048) (b : Fin 16) (q : Fin 2048)
    (hb : (b : ℕ) = t.val / 12) (hq : (q : ℕ) = t.val / 6 % 2 * 1024 + r) :
    iblk m c 0 t (ix3 0 r d) = m ((c.tc : Thread nD τ).loc main_arg0) (ix3 b q d) := by
  blk_point [iblk, V, idx t]
theorem ib1 (c : Dev nD) (t : Fin cfg0.N) (d : Fin 2048) :
    iblk m c 1 t (ix2 0 d) = m ((c.tc : Thread nD τ).loc main_arg1) (ix1 d) := by
  simp only [iblk]
  entry_read
  blk_simp [idx t]
  pointwise
  blk_ext [idx t]
theorem ib2 (c : Dev nD) (t : Fin cfg0.N) (d : Fin 2048) (b : Fin 16) (hb : (b : ℕ) = t.val / 12) :
    iblk m c 2 t (ix3 0 0 d) = m ((c.tc : Thread nD τ).loc main_arg2) (ix2 b d) := by
  simp only [iblk]
  entry_read
  blk_simp [idx t]
  pointwise
  blk_ext [idx t]
theorem ib3 (c : Dev nD) (t : Fin cfg0.N) (d : Fin 2048) (b : Fin 16) (hb : (b : ℕ) = t.val / 12) :
    iblk m c 3 t (ix3 0 0 d) = m ((c.tc : Thread nD τ).loc main_arg3) (ix2 b d) := by
  simp only [iblk]
  entry_read
  blk_simp [idx t]
  pointwise
  blk_ext [idx t]
theorem ib4 (c : Dev nD) (t : Fin cfg0.N) (d : Fin 2048) (k : Fin 6) (n : Fin 4) (e : Fin 128) (hk : (k : ℕ) = t.val % 6) :
    iblk m c 4 t (ix2 d (col n e)) = m ((c.tc : Thread nD τ).loc main_arg4) (ix2 d (colOf k n e)) := by
  simp only [iblk]
  entry_read
  simp only [col, colOf]
  blk_point [iblk, V, idx t]

/-- The kernel's tables: the cosines twice, and the sines with the first half negated. -/
theorem v15_eq (c : Dev nD) : V m c main_v15 = concatenate S2048x128 1 [⟨S2048x64, Host.cos (F := Ideal) (ANG (F := Ideal))⟩, ⟨S2048x64, Host.cos (F := Ideal) (ANG (F := Ideal))⟩] concatenates_S2048x64_S2048x64_S2048x128_d1 := by
  unfold ANG
  entry_read
  rfl
theorem v17_eq (c : Dev nD) : V m c main_v17 = concatenate S2048x128 1 [⟨S2048x64, Host.negf (Host.sin (F := Ideal) (ANG (F := Ideal)))⟩, ⟨S2048x64, Host.sin (F := Ideal) (ANG (F := Ideal))⟩] concatenates_S2048x64_S2048x64_S2048x128_d1 := by
  unfold ANG
  entry_read
  rfl
theorem ib5 (c : Dev nD) (t : Fin cfg0.N) (r : Fin 1024) (e : Fin 128) (q : Fin 2048) (hq : (q : ℕ) = t.val / 6 % 2 * 1024 + r) :
    iblk m c 5 t (ix2 r e) = V m c main_v15 (ix2 q e) := by
  blk_point [iblk, idx t]
theorem ib6 (c : Dev nD) (t : Fin cfg0.N) (r : Fin 1024) (e : Fin 128) (q : Fin 2048) (hq : (q : ℕ) = t.val / 6 % 2 * 1024 + r) :
    iblk m c 6 t (ix2 r e) = V m c main_v17 (ix2 q e) := by
  blk_point [iblk, idx t]
theorem cs_lo (c : Dev nD) (q : Fin 2048) (e : Fin 64) : V m c main_v15 (ix2 q (lo e)) = Host.cos (F := Ideal) (ANG (F := Ideal)) (ix2 q e) := by
  rw [v15_eq]; generalize Host.cos (F := Ideal) (ANG (F := Ideal)) = T; pointwise [lo]
theorem cs_hi (c : Dev nD) (q : Fin 2048) (e : Fin 64) : V m c main_v15 (ix2 q (hi e)) = Host.cos (F := Ideal) (ANG (F := Ideal)) (ix2 q e) := by
  rw [v15_eq]; generalize Host.cos (F := Ideal) (ANG (F := Ideal)) = T; pointwise [hi]
theorem sn_lo (c : Dev nD) (q : Fin 2048) (e : Fin 64) : (V m c main_v17 (ix2 q (lo e)) : EReal) = -(Host.sin (F := Ideal) (ANG (F := Ideal)) (ix2 q e) : EReal) := by
  rw [v17_eq]; generalize Host.sin (F := Ideal) (ANG (F := Ideal)) = T; pointwise [lo]
theorem sn_hi (c : Dev nD) (q : Fin 2048) (e : Fin 64) : V m c main_v17 (ix2 q (hi e)) = Host.sin (F := Ideal) (ANG (F := Ideal)) (ix2 q e) := by
  rw [v17_eq]; generalize Host.sin (F := Ideal) (ANG (F := Ideal)) = T; pointwise [hi]

/-- The normalized rows, read at an index. -/
theorem rows_eq (x0 : FVec Ideal S1x1024x2048 .f32) (x1 : FVec Ideal S1x2048 .f32) (x2 x3 : FVec Ideal S1x1x2048 .f32) :
    rows (F := Ideal) x0 x1 x2 x3 = k0_pay14 (F := Ideal) x0 x1 x2 x3 := by
  unfold rows
  rw [View.ld_unit_zero (funext fun a => by fin_cases a <;> rfl), View.ld_unit_zero (funext fun a => by fin_cases a <;> rfl),
    View.ld_unit_zero (funext fun a => by fin_cases a <;> rfl), View.ld_unit_zero (funext fun a => by fin_cases a <;> rfl)]

theorem HH_eq (c : Dev nD) (t : Fin cfg0.N) (r : Fin 1024) (d : Fin 2048) (b : Fin 16) (q : Fin 2048)
    (hb : (b : ℕ) = t.val / 12) (hq : (q : ℕ) = t.val / 6 % 2 * 1024 + r) :
    HH (F := Ideal) m c t (ix2 r d) = HR (F := Ideal) (m ((c.tc : Thread nD τ).loc main_arg0)) (m ((c.tc : Thread nD τ).loc main_arg1))
        (m ((c.tc : Thread nD τ).loc main_arg2)) (m ((c.tc : Thread nD τ).loc main_arg3)) (ix3 b q d) := by
  have hb' : (b : ℕ) = (st t).val / 12 := by rw [hb]; show _ = 6 * (t.val / 6) / 12; omega
  have hq' : (q : ℕ) = (st t).val / 6 % 2 * 1024 + r := by rw [hq]; show _ = 6 * (t.val / 6) / 6 % 2 * 1024 + _; omega
  unfold HH
  rw [rows_eq]
  pointwise [k0_pay14, HR]
  simp only [ib0 m c (st t) r _ b q hb' hq', ib1 m c (st t), ib2 m c (st t) _ b hb', ib3 m c (st t) _ b hb']

end Cert.Kernel4Ideal.Kv

end
-- ==== Proof.KvValue.lean ====
/-
  The key/value projection's two result arrays over the extended reals: the reference's functions of the argument arrays.
-/
module

public import proofs.«01_k».proof.Proof.KvBlk

@[expose] public section

set_option maxRecDepth 16384

noncomputable section

namespace Cert.Kernel4Ideal.Kv

open Cert.Kernel4Ideal Cert.Kernel4Ideal.Gen
open Idealize.ShloMosaic Idealize.ShloMosaic.TcCoe Idealize.SL.Sem
open Idealize.ShloMosaic.Pipeline (Dat)
open Cert.Reference4Ideal.Kv

variable (m : (ℓ : Loc nD τ sig) → Buf (Elt Ideal) ℓ)

/-- The reference's products of the argument arrays. -/
def KK (c : Dev nD) : FVec Ideal Cert.Reference4Ideal.S16x2048x6x4x128 .f32 :=
  KV (F := Ideal) (HR (F := Ideal) (m ((c.tc : Thread nD τ).loc main_arg0)) (m ((c.tc : Thread nD τ).loc main_arg1))
        (m ((c.tc : Thread nD τ).loc main_arg2)) (m ((c.tc : Thread nD τ).loc main_arg3))) (m ((c.tc : Thread nD τ).loc main_arg4))

theorem PR_eq (c : Dev nD) (t t' : Fin cfg0.N) (r : Fin 1024) (k : Fin 6) (n : Fin 4) (e : Fin 128) (b : Fin 16) (q : Fin 2048)
    (hb : (b : ℕ) = t.val / 12) (hq : (q : ℕ) = t.val / 6 % 2 * 1024 + r) (hk : (k : ℕ) = t'.val % 6) :
    PR (HH (F := Ideal) m c t) (iblk m c 4 t') r n e = KK m c (ix5 b q k n e) := by
  unfold KK
  rw [KV_apply]
  unfold PR
  exact Finset.sum_congr rfl fun d _ => congrArg₂ (fun u v : EReal => u * v) (HH_eq m c t r d b q hb hq) (ib4 m c t' d k n e hk)

theorem rot_lo (e : Fin 64) : rot (lo e) = hi e := Fin.ext (by show (e.val + 128 - 64) % 128 = 64 + e.val; omega)
theorem rot_hi (e : Fin 64) : rot (hi e) = lo e := Fin.ext (by show (64 + e.val + 128 - 64) % 128 = e.val; omega)

/-- A block of rotated keys is the reference's, -/
theorem key_eq (c : Dev nD) (t : Fin cfg0.N) (r : Fin 1024) (k : Fin 6) (n : Fin 4) (e : Fin 128) (b : Fin 16) (q : Fin 2048)
    (hb : (b : ℕ) = t.val / 12) (hq : (q : ℕ) = t.val / 6 % 2 * 1024 + r) (hk : (k : ℕ) = t.val % 6)
    (Y : FVec Ideal Cert.Reference4Ideal.S16x2048x4x128 .f32) (hY : ∀ e, Y (ix4 b q n e) = KK m c (ix5 b q k n e)) :
    GK (HH (F := Ideal) m c t) (iblk m c 4 t) (iblk m c 5 t) (iblk m c 6 t) (ix5 0 0 n r e)
      = ROPE Y (Host.cos (F := Ideal) (ANG (F := Ideal))) (Host.sin (F := Ideal) (ANG (F := Ideal))) (ix4 b q n e) := by
  rw [GK_apply, PR_eq m c t t r k n e b q hb hq hk, PR_eq m c t t r k n (rot e) b q hb hq hk, ← hY, ← hY,
    ib5 m c t r e q hq, ib6 m c t r e q hq]
  by_cases h : e.val < 64
  · obtain ⟨f, rfl⟩ : ∃ f : Fin 64, e = lo f := ⟨⟨e.val, h⟩, rfl⟩
    rw [ROPE_lo, rot_lo, cs_lo, sn_lo]
    exact (congrArg (fun z : EReal => _ + z) (mul_neg _ _)).trans (sub_eq_add_neg _ _).symm
  · obtain ⟨f, rfl⟩ : ∃ f : Fin 64, e = hi f := ⟨⟨e.val - 64, by omega⟩, Fin.ext (by show e.val = 64 + (e.val - 64); omega)⟩
    rw [ROPE_hi, rot_hi, cs_hi, sn_hi]
/-- and a block of values. -/
theorem val_eq (c : Dev nD) (t t' : Fin cfg0.N) (r : Fin 1024) (k : Fin 6) (n : Fin 4) (e : Fin 128) (b : Fin 16) (q : Fin 2048)
    (hb : (b : ℕ) = t.val / 12) (hq : (q : ℕ) = t.val / 6 % 2 * 1024 + r) (hk : (k : ℕ) = t'.val % 6)
    (Y : FVec Ideal Cert.Reference4Ideal.S16x2048x4x128 .f32) (hY : Y (ix4 b q n e) = KK m c (ix5 b q k n e)) :
    GV (HH (F := Ideal) m c t) (iblk m c 4 t') (ix5 0 0 n r e) = Y (ix4 b q n e) := by
  rw [GV_apply, PR_eq m c t t' r k n e b q hb hq hk, ← hY]

theorem blk7a (c : Dev nD) (t : Fin cfg0.N) (ht : t.val % 6 = 0) (n : Fin 4) (r : Fin 1024) (e : Fin 128) (b : Fin 16) (q : Fin 2048)
    (hb : (b : ℕ) = t.val / 12) (hq : (q : ℕ) = t.val / 6 % 2 * 1024 + r) :
    out7 (F := Ideal) m c t (ix5 0 0 n r e) = REF0 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (ix5 b 0 n q e) := by
  unfold out7 REF0
  rw [CMP_0, if_pos (by omega), outA_eq]
  exact key_eq m c t r 0 n e b q hb hq (by show 0 = t.val % 6; omega) _ fun e => br0_apply _ _ _ _ _
theorem blk7b (c : Dev nD) (t : Fin cfg0.N) (ht : t.val % 6 = 5) (n : Fin 4) (r : Fin 1024) (e : Fin 128) (b : Fin 16) (q : Fin 2048)
    (hb : (b : ℕ) = t.val / 12) (hq : (q : ℕ) = t.val / 6 % 2 * 1024 + r) :
    out7 (F := Ideal) m c t (ix5 0 0 n r e) = REF0 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (ix5 b 1 n q e) := by
  unfold out7 REF0
  rw [CMP_1, if_neg (by omega), outB_eq]
  exact val_eq m c t (nx t) r 1 n e b q hb hq (by show 1 = (6 * (t.val / 6) + 1) % 6; omega) _ (br1_apply _ _ _ _ _)
theorem blk8a (c : Dev nD) (t : Fin cfg0.N) (ht : t.val % 6 = 2) (n : Fin 4) (r : Fin 1024) (e : Fin 128) (b : Fin 16) (q : Fin 2048)
    (hb : (b : ℕ) = t.val / 12) (hq : (q : ℕ) = t.val / 6 % 2 * 1024 + r) :
    out8 (F := Ideal) m c t (ix5 0 0 n r e) = REF1 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (ix5 b 0 n q e) := by
  unfold out8 REF1
  rw [REST_0, if_pos (by omega), outC_eq]
  exact key_eq m c t r 2 n e b q hb hq (by show 2 = t.val % 6; omega) _ fun e => br2_apply _ _ _ _ _
theorem blk8b (c : Dev nD) (t : Fin cfg0.N) (ht : t.val % 6 = 3) (n : Fin 4) (r : Fin 1024) (e : Fin 128) (b : Fin 16) (q : Fin 2048)
    (hb : (b : ℕ) = t.val / 12) (hq : (q : ℕ) = t.val / 6 % 2 * 1024 + r) :
    out8 (F := Ideal) m c t (ix5 0 0 n r e) = REF1 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (ix5 b 1 n q e) := by
  unfold out8 REF1
  rw [REST_1, if_neg (by omega), outD_eq]
  exact val_eq m c t t r 3 n e b q hb hq (by show 3 = t.val % 6; omega) _ (br3_apply _ _ _ _ _)
theorem blk8c (c : Dev nD) (t : Fin cfg0.N) (ht : t.val % 6 = 4) (n : Fin 4) (r : Fin 1024) (e : Fin 128) (b : Fin 16) (q : Fin 2048)
    (hb : (b : ℕ) = t.val / 12) (hq : (q : ℕ) = t.val / 6 % 2 * 1024 + r) :
    out8 (F := Ideal) m c t (ix5 0 0 n r e) = REF1 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (ix5 b 2 n q e) := by
  unfold out8 REF1
  rw [REST_2, if_pos (by omega), outC_eq]
  exact key_eq m c t r 4 n e b q hb hq (by show 4 = t.val % 6; omega) _ fun e => br4_apply _ _ _ _ _
theorem blk8d (c : Dev nD) (t : Fin cfg0.N) (ht : t.val % 6 = 5) (n : Fin 4) (r : Fin 1024) (e : Fin 128) (b : Fin 16) (q : Fin 2048)
    (hb : (b : ℕ) = t.val / 12) (hq : (q : ℕ) = t.val / 6 % 2 * 1024 + r) :
    out8 (F := Ideal) m c t (ix5 0 0 n r e) = REF1 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (ix5 b 3 n q e) := by
  unfold out8 REF1
  rw [REST_3, if_neg (by omega), outD_eq]
  exact val_eq m c t t r 5 n e b q hb hq (by show 5 = t.val % 6; omega) _ (br5_apply _ _ _ _ _)

theorem final7_of (c : Dev nD) (R : FVec Ideal S16x2x4x2048x128 .f32)
    (h : ∀ (t : Fin cfg0.N), t.val % 6 = 0 ∨ t.val % 6 = 5 → ∀ (n : Fin 4) (r : Fin 1024) (e : Fin 128) (b : Fin 16) (k : Fin 2) (q : Fin 2048), (b : ℕ) = t.val / 12 → (k : ℕ) = min (t.val % 6) 1 →
      (q : ℕ) = t.val / 6 % 2 * 1024 + r → out7 (F := Ideal) m c t (ix5 0 0 n r e) = R (ix5 b k n q e)) :
    (dats m 0 c).arrAt 7 (cfgs 0).N = R := by
  refine (dats m 0 c).arrAt_eq_of_covers 7 _ (by decide +kernel) fun t hf y => ?_
  have hw := (flush7 t).1 hf
  blk_simp
  rw [after_7 m c t]
  idx_vars y
  have ht : t.val < 192 := lt_of_lt_of_eq t.isLt N_0
  have hy := y3.isLt
  obtain rfl : y0 = 0 := Subsingleton.elim _ _
  obtain rfl : y1 = 0 := Subsingleton.elim _ _
  refine (h t hw y2 y3 y4 ⟨t.val / 12, by omega⟩ ⟨min (t.val % 6) 1, by omega⟩ ⟨t.val / 6 % 2 * 1024 + y3.val, by omega⟩ rfl rfl rfl).trans ?_
  blk_ext [idx t]

theorem final7 (c : Dev nD) : (dats (F := Ideal) m 0 c).arrAt 7 (cfgs 0).N
    = REF0 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  refine final7_of m c _ fun t hf n r e b k q hb hk hq => ?_
  rcases hf with ht | ht
  · obtain rfl : k = 0 := Fin.ext (by show _ = 0; omega)
    exact blk7a m c t ht n r e b q hb hq
  · obtain rfl : k = 1 := Fin.ext (by show _ = 1; omega)
    exact blk7b m c t ht n r e b q hb hq

theorem final8_of (c : Dev nD) (R : FVec Ideal S16x4x4x2048x128 .bf16)
    (h : ∀ (t : Fin cfg0.N), 2 ≤ t.val % 6 → ∀ (n : Fin 4) (r : Fin 1024) (e : Fin 128) (b : Fin 16) (k : Fin 4) (q : Fin 2048), (b : ℕ) = t.val / 12 → (k : ℕ) = t.val % 6 - 2 →
      (q : ℕ) = t.val / 6 % 2 * 1024 + r → out8 (F := Ideal) m c t (ix5 0 0 n r e) = R (ix5 b k n q e)) :
    (dats m 0 c).arrAt 8 (cfgs 0).N = R := by
  refine (dats m 0 c).arrAt_eq_of_covers 8 _ (by decide +kernel) fun t hf y => ?_
  have hw := (flush8 t).1 hf
  blk_simp
  rw [after_8 m c t]
  idx_vars y
  have ht : t.val < 192 := lt_of_lt_of_eq t.isLt N_0
  have hy := y3.isLt
  obtain rfl : y0 = 0 := Subsingleton.elim _ _
  obtain rfl : y1 = 0 := Subsingleton.elim _ _
  refine (h t hw y2 y3 y4 ⟨t.val / 12, by omega⟩ ⟨t.val % 6 - 2, by omega⟩ ⟨t.val / 6 % 2 * 1024 + y3.val, by omega⟩ rfl rfl rfl).trans ?_
  blk_ext [idx t]

theorem final8 (c : Dev nD) : (dats (F := Ideal) m 0 c).arrAt 8 (cfgs 0).N
    = REF1 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  refine final8_of m c _ fun t hf n r e b k q hb hk hq => ?_
  obtain ht | ht | ht | ht : t.val % 6 = 2 ∨ t.val % 6 = 3 ∨ t.val % 6 = 4 ∨ t.val % 6 = 5 := by omega
  · obtain rfl : k = 0 := Fin.ext (by show _ = 0; omega)
    exact blk8a m c t ht n r e b q hb hq
  · obtain rfl : k = 1 := Fin.ext (by show _ = 1; omega)
    exact blk8b m c t ht n r e b q hb hq
  · obtain rfl : k = 2 := Fin.ext (by show _ = 2; omega)
    exact blk8c m c t ht n r e b q hb hq
  · obtain rfl : k = 3 := Fin.ext (by show _ = 3; omega)
    exact blk8d m c t ht n r e b q hb hq

end Cert.Kernel4Ideal.Kv

end
-- ==== Proof.KvKernel.lean ====
/-
  The key/value projection's frame read at the machine's floats is the frame of the kernel's own program: the two programs are the same text.
-/
module

public import proofs.«01_k».proof.Defs
public import proofs.«01_k».proof.Proof.Gen.Kernel4
public import proofs.«01_k».proof.Proof.Gen.Kernel4Ideal
public import proofs.«01_k».proof.Proof.KvFrame

@[expose] public section

noncomputable section

namespace Cert.Proof

open Idealize.ShloMosaic Idealize.SL.Sem

/-- Both programs print the same body. -/
theorem body4_eq : Cert.Kernel4.cc0_kv_proj (F := Bits) = Cert.Kernel4Ideal.cc0_kv_proj (F := Bits) := rfl

set_option maxHeartbeats 1000000 in
/-- Both programs' body tables are the same. -/
theorem defs4₀_eq : Cert.Kernel4.defs₀ (F := Bits) = Cert.Kernel4Ideal.defs₀ (F := Bits) := by
  unfold Cert.Kernel4.defs₀ Cert.Kernel4Ideal.defs₀
  rw [body4_eq]
  generalize Cert.Kernel4Ideal.cc0_kv_proj (F := Bits) = B
  refine congrArg Defs.onTc (funext fun l => funext fun a => ?_)
  obtain rfl : l = 0 := Subsingleton.elim _ _
  obtain ⟨t, s⟩ := a
  rfl

theorem defs4_eq : Cert.Kernel4.defs (F := Bits) = Cert.Kernel4Ideal.defs (F := Bits) := by
  unfold Cert.Kernel4.defs Cert.Kernel4Ideal.defs
  exact congrArg (Pipeline.defs Cert.Kernel4Ideal.pcfgs) defs4₀_eq

theorem kernel4 : Cert.quiescent_Kernel4 := by
  intro m ρ _
  rw [defs4_eq]
  exact Cert.Kernel4Ideal.Kv.frame (F := Bits) m ρ

end Cert.Proof

end
-- ==== Proof.GmlpRun.lean ====
module

public import proofs.«01_k».proof.Proof.Gen.KernelIdeal.Skeleton
public import proofs.«01_k».proof.Proof.Gen.KernelIdeal.Frame

@[expose] public section

set_option maxRecDepth 16384

noncomputable section

namespace Cert.KernelIdeal.Gmlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The first tile of a block of rows: the block is normalized. -/
abbrev cond1 (i : grid0.Coords) : Prop :=
  Scalar.cmpi .ne (Scalar.extui (Scalar.cmpi .eq (BitVec.ofNat 32 (i 2).val) 0#32)) 0#32 = 1#1
/-- A tile of the gate half. -/
abbrev cond2 (i : grid0.Coords) : Prop := k0_cond2 i = 1#1
/-- The last tile of the gate half: its statistics are taken. -/
abbrev cond3 (i : grid0.Coords) : Prop :=
  Scalar.cmpi .ne (Scalar.extui (Scalar.cmpi .eq (BitVec.ofNat 32 (i 2).val) 3#32)) 0#32 = 1#1
/-- A tile of the mixing half. -/
abbrev cond4 (i : grid0.Coords) : Prop := k0_cond4 i = 1#1
/-- A tile of the output projection. -/
abbrev cond5 (i : grid0.Coords) : Prop := k0_cond5 i = 1#1

set_option maxHeartbeats 2000000 in
/-- The body at the first tile of a block of rows: what it leaves in the normalized rows and in the gate half. -/
noncomputable def runA (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x512 .f32) (harg7 : arg7.IsWhole) (arg8 : Memref sig .tc .vmem S2048x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S16x128x128 .f32) (harg12 : arg12.IsWhole) (arg13 : Memref sig .tc .vmem S16x128x1 .f32) (harg13 : arg13.IsWhole) (arg14 : Memref sig .tc .vmem S4096x512 .bf16) (harg14 : arg14.IsWhole) (arg15 : Memref sig .tc .vmem S1x512 .f32) (harg15 : arg15.IsWhole) (arg16 : Memref sig .tc .vmem S1x512x512 .f32) (harg16 : arg16.IsWhole) (arg17 : Memref sig .tc .vmem S512x2048 .bf16) (harg17 : arg17.IsWhole) (arg18 : Memref sig .tc .vmem S512x4096 .f32) (harg18 : arg18.IsWhole) (arg19 : Memref sig .tc .vmem S512x4096 .bf16) (harg19 : arg19.IsWhole) (arg20 : Memref sig .tc .vmem S512x1 .f32) (harg20 : arg20.IsWhole) (arg21 : Memref sig .tc .vmem S512x1 .f32) (harg21 : arg21.IsWhole) (hc1 : cond1 i) (hc2 : cond2 i) (hc3 : ¬cond3 i) (hc4 : ¬cond4 i) (hc5 : ¬cond5 i)
    (x0 : Vec F S1x512x2048 .f32) (x1 : Vec F S1x2048 .f32) (x2 : Vec F S1x1x2048 .f32) (x3 : Vec F S1x1x2048 .f32) (x4 : Vec F S1x1x512 .f32) (x5 : Vec F S2048x1024 .bf16) (x6 : Vec F S1x1024 .f32) (x7 : Vec F S1x1024 .f32) (x8 : Vec F S1x1024 .f32) (x9 : Vec F S16x128x128 .f32) (x10 : Vec F S16x128x1 .f32) (x11 : Vec F S4096x512 .bf16) (x12 : Vec F S1x512 .f32) (o : Vec F S1x512x512 .f32) (h : Vec F S512x2048 .bf16) (v : Vec F S512x4096 .f32) (mix : Vec F S512x4096 .bf16) (mu : Vec F S512x1 .f32) (rs : Vec F S512x1 .f32) :
    Σ' (L17 : List (View.Piece (Elt F) S512x2048 .bf16)), { L18 : List (View.Piece (Elt F) S512x4096 .f32) //
      ∀ (E : Set ℕ) (K : PUnit → sProp 𝕄),
        iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (arg8.view.loc (c : Thread nD τ) ↦[arg8.view.set]{fullShare} harg8.unread x5) ∗ (arg9.view.loc (c : Thread nD τ) ↦[arg9.view.set]{fullShare} harg9.unread x6) ∗ (arg10.view.loc (c : Thread nD τ) ↦[arg10.view.set]{fullShare} harg10.unread x7) ∗ (arg11.view.loc (c : Thread nD τ) ↦[arg11.view.set]{fullShare} harg11.unread x8) ∗ (arg12.view.loc (c : Thread nD τ) ↦[arg12.view.set]{fullShare} harg12.unread x9) ∗ (arg13.view.loc (c : Thread nD τ) ↦[arg13.view.set]{fullShare} harg13.unread x10) ∗ (arg14.view.loc (c : Thread nD τ) ↦[arg14.view.set]{fullShare} harg14.unread x11) ∗ (arg15.view.loc (c : Thread nD τ) ↦[arg15.view.set]{fullShare} harg15.unread x12) ∗ (arg16.view.loc (c : Thread nD τ) ↦[arg16.view.set]{fullShare} harg16.unread o) ∗ (arg17.view.loc (c : Thread nD τ) ↦[arg17.view.set]{fullShare} harg17.unread h) ∗ (arg18.view.loc (c : Thread nD τ) ↦[arg18.view.set]{fullShare} harg18.unread v) ∗ (arg19.view.loc (c : Thread nD τ) ↦[arg19.view.set]{fullShare} harg19.unread mix) ∗ (arg20.view.loc (c : Thread nD τ) ↦[arg20.view.set]{fullShare} harg20.unread mu) ∗ (arg21.view.loc (c : Thread nD τ) ↦[arg21.view.set]{fullShare} harg21.unread rs)
            ∗ (iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (arg8.view.loc (c : Thread nD τ) ↦[arg8.view.set]{fullShare} harg8.unread x5) ∗ (arg9.view.loc (c : Thread nD τ) ↦[arg9.view.set]{fullShare} harg9.unread x6) ∗ (arg10.view.loc (c : Thread nD τ) ↦[arg10.view.set]{fullShare} harg10.unread x7) ∗ (arg11.view.loc (c : Thread nD τ) ↦[arg11.view.set]{fullShare} harg11.unread x8) ∗ (arg12.view.loc (c : Thread nD τ) ↦[arg12.view.set]{fullShare} harg12.unread x9) ∗ (arg13.view.loc (c : Thread nD τ) ↦[arg13.view.set]{fullShare} harg13.unread x10) ∗ (arg14.view.loc (c : Thread nD τ) ↦[arg14.view.set]{fullShare} harg14.unread x11) ∗ (arg15.view.loc (c : Thread nD τ) ↦[arg15.view.set]{fullShare} harg15.unread x12) ∗ (arg16.view.loc (c : Thread nD τ) ↦[arg16.view.set]{fullShare} harg16.unread o) ∗ (arg17.view.loc (c : Thread nD τ) ↦[arg17.view.set]{fullShare} arg17.view.writes (Elt F) (harg17.unread h) L17) ∗ (arg18.view.loc (c : Thread nD τ) ↦[arg18.view.set]{fullShare} arg18.view.writes (Elt F) (harg18.unread v) L18) ∗ (arg19.view.loc (c : Thread nD τ) ↦[arg19.view.set]{fullShare} harg19.unread mix) ∗ (arg20.view.loc (c : Thread nD τ) ↦[arg20.view.set]{fullShare} harg20.unread mu) ∗ (arg21.view.loc (c : Thread nD τ) ↦[arg21.view.set]{fullShare} harg21.unread rs)) -∗ K ⟨⟩))
          ⊢ wp frame (wpE (defs₀ (F := F)) Variants.none c none) E (cc0_gmlp i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, fun E K => ?run⟩
  case run =>
    iintro ⟨H3, H4, H5, H6, H7, H8, H9, H10, H11, H12, H13, H14, H15, H16, H17, H18, H19, H20, H21, Hk⟩
    simp only [cc0_gmlp_eq_skeleton]; unfold cc0_gmlp_skel
    sl_exec (disch := first | sl_exact hc1 | sl_exact hc2 | sl_exact hc3 | sl_exact hc4 | sl_exact hc5)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

set_option maxHeartbeats 2000000 in
/-- The body at a middle tile of the gate half: what it leaves there. -/
noncomputable def runB (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x512 .f32) (harg7 : arg7.IsWhole) (arg8 : Memref sig .tc .vmem S2048x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S16x128x128 .f32) (harg12 : arg12.IsWhole) (arg13 : Memref sig .tc .vmem S16x128x1 .f32) (harg13 : arg13.IsWhole) (arg14 : Memref sig .tc .vmem S4096x512 .bf16) (harg14 : arg14.IsWhole) (arg15 : Memref sig .tc .vmem S1x512 .f32) (harg15 : arg15.IsWhole) (arg16 : Memref sig .tc .vmem S1x512x512 .f32) (harg16 : arg16.IsWhole) (arg17 : Memref sig .tc .vmem S512x2048 .bf16) (harg17 : arg17.IsWhole) (arg18 : Memref sig .tc .vmem S512x4096 .f32) (harg18 : arg18.IsWhole) (arg19 : Memref sig .tc .vmem S512x4096 .bf16) (harg19 : arg19.IsWhole) (arg20 : Memref sig .tc .vmem S512x1 .f32) (harg20 : arg20.IsWhole) (arg21 : Memref sig .tc .vmem S512x1 .f32) (harg21 : arg21.IsWhole) (hc2 : cond2 i) (hc1 : ¬cond1 i) (hc3 : ¬cond3 i) (hc4 : ¬cond4 i) (hc5 : ¬cond5 i)
    (x0 : Vec F S1x512x2048 .f32) (x1 : Vec F S1x2048 .f32) (x2 : Vec F S1x1x2048 .f32) (x3 : Vec F S1x1x2048 .f32) (x4 : Vec F S1x1x512 .f32) (x5 : Vec F S2048x1024 .bf16) (x6 : Vec F S1x1024 .f32) (x7 : Vec F S1x1024 .f32) (x8 : Vec F S1x1024 .f32) (x9 : Vec F S16x128x128 .f32) (x10 : Vec F S16x128x1 .f32) (x11 : Vec F S4096x512 .bf16) (x12 : Vec F S1x512 .f32) (o : Vec F S1x512x512 .f32) (h : Vec F S512x2048 .bf16) (v : Vec F S512x4096 .f32) (mix : Vec F S512x4096 .bf16) (mu : Vec F S512x1 .f32) (rs : Vec F S512x1 .f32) :
    { L18 : List (View.Piece (Elt F) S512x4096 .f32) //
      ∀ (E : Set ℕ) (K : PUnit → sProp 𝕄),
        iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (arg8.view.loc (c : Thread nD τ) ↦[arg8.view.set]{fullShare} harg8.unread x5) ∗ (arg9.view.loc (c : Thread nD τ) ↦[arg9.view.set]{fullShare} harg9.unread x6) ∗ (arg10.view.loc (c : Thread nD τ) ↦[arg10.view.set]{fullShare} harg10.unread x7) ∗ (arg11.view.loc (c : Thread nD τ) ↦[arg11.view.set]{fullShare} harg11.unread x8) ∗ (arg12.view.loc (c : Thread nD τ) ↦[arg12.view.set]{fullShare} harg12.unread x9) ∗ (arg13.view.loc (c : Thread nD τ) ↦[arg13.view.set]{fullShare} harg13.unread x10) ∗ (arg14.view.loc (c : Thread nD τ) ↦[arg14.view.set]{fullShare} harg14.unread x11) ∗ (arg15.view.loc (c : Thread nD τ) ↦[arg15.view.set]{fullShare} harg15.unread x12) ∗ (arg16.view.loc (c : Thread nD τ) ↦[arg16.view.set]{fullShare} harg16.unread o) ∗ (arg17.view.loc (c : Thread nD τ) ↦[arg17.view.set]{fullShare} harg17.unread h) ∗ (arg18.view.loc (c : Thread nD τ) ↦[arg18.view.set]{fullShare} harg18.unread v) ∗ (arg19.view.loc (c : Thread nD τ) ↦[arg19.view.set]{fullShare} harg19.unread mix) ∗ (arg20.view.loc (c : Thread nD τ) ↦[arg20.view.set]{fullShare} harg20.unread mu) ∗ (arg21.view.loc (c : Thread nD τ) ↦[arg21.view.set]{fullShare} harg21.unread rs)
            ∗ (iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (arg8.view.loc (c : Thread nD τ) ↦[arg8.view.set]{fullShare} harg8.unread x5) ∗ (arg9.view.loc (c : Thread nD τ) ↦[arg9.view.set]{fullShare} harg9.unread x6) ∗ (arg10.view.loc (c : Thread nD τ) ↦[arg10.view.set]{fullShare} harg10.unread x7) ∗ (arg11.view.loc (c : Thread nD τ) ↦[arg11.view.set]{fullShare} harg11.unread x8) ∗ (arg12.view.loc (c : Thread nD τ) ↦[arg12.view.set]{fullShare} harg12.unread x9) ∗ (arg13.view.loc (c : Thread nD τ) ↦[arg13.view.set]{fullShare} harg13.unread x10) ∗ (arg14.view.loc (c : Thread nD τ) ↦[arg14.view.set]{fullShare} harg14.unread x11) ∗ (arg15.view.loc (c : Thread nD τ) ↦[arg15.view.set]{fullShare} harg15.unread x12) ∗ (arg16.view.loc (c : Thread nD τ) ↦[arg16.view.set]{fullShare} harg16.unread o) ∗ (arg17.view.loc (c : Thread nD τ) ↦[arg17.view.set]{fullShare} harg17.unread h) ∗ (arg18.view.loc (c : Thread nD τ) ↦[arg18.view.set]{fullShare} arg18.view.writes (Elt F) (harg18.unread v) L18) ∗ (arg19.view.loc (c : Thread nD τ) ↦[arg19.view.set]{fullShare} harg19.unread mix) ∗ (arg20.view.loc (c : Thread nD τ) ↦[arg20.view.set]{fullShare} harg20.unread mu) ∗ (arg21.view.loc (c : Thread nD τ) ↦[arg21.view.set]{fullShare} harg21.unread rs)) -∗ K ⟨⟩))
          ⊢ wp frame (wpE (defs₀ (F := F)) Variants.none c none) E (cc0_gmlp i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, fun E K => ?run⟩
  case run =>
    iintro ⟨H3, H4, H5, H6, H7, H8, H9, H10, H11, H12, H13, H14, H15, H16, H17, H18, H19, H20, H21, Hk⟩
    simp only [cc0_gmlp_eq_skeleton]; unfold cc0_gmlp_skel
    sl_exec (disch := first | sl_exact hc1 | sl_exact hc2 | sl_exact hc3 | sl_exact hc4 | sl_exact hc5)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

set_option maxHeartbeats 2000000 in
/-- The body at the last tile of the gate half: what it leaves there and in the two columns of statistics. -/
noncomputable def runC (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x512 .f32) (harg7 : arg7.IsWhole) (arg8 : Memref sig .tc .vmem S2048x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S16x128x128 .f32) (harg12 : arg12.IsWhole) (arg13 : Memref sig .tc .vmem S16x128x1 .f32) (harg13 : arg13.IsWhole) (arg14 : Memref sig .tc .vmem S4096x512 .bf16) (harg14 : arg14.IsWhole) (arg15 : Memref sig .tc .vmem S1x512 .f32) (harg15 : arg15.IsWhole) (arg16 : Memref sig .tc .vmem S1x512x512 .f32) (harg16 : arg16.IsWhole) (arg17 : Memref sig .tc .vmem S512x2048 .bf16) (harg17 : arg17.IsWhole) (arg18 : Memref sig .tc .vmem S512x4096 .f32) (harg18 : arg18.IsWhole) (arg19 : Memref sig .tc .vmem S512x4096 .bf16) (harg19 : arg19.IsWhole) (arg20 : Memref sig .tc .vmem S512x1 .f32) (harg20 : arg20.IsWhole) (arg21 : Memref sig .tc .vmem S512x1 .f32) (harg21 : arg21.IsWhole) (hc2 : cond2 i) (hc3 : cond3 i) (hc1 : ¬cond1 i) (hc4 : ¬cond4 i) (hc5 : ¬cond5 i)
    (x0 : Vec F S1x512x2048 .f32) (x1 : Vec F S1x2048 .f32) (x2 : Vec F S1x1x2048 .f32) (x3 : Vec F S1x1x2048 .f32) (x4 : Vec F S1x1x512 .f32) (x5 : Vec F S2048x1024 .bf16) (x6 : Vec F S1x1024 .f32) (x7 : Vec F S1x1024 .f32) (x8 : Vec F S1x1024 .f32) (x9 : Vec F S16x128x128 .f32) (x10 : Vec F S16x128x1 .f32) (x11 : Vec F S4096x512 .bf16) (x12 : Vec F S1x512 .f32) (o : Vec F S1x512x512 .f32) (h : Vec F S512x2048 .bf16) (v : Vec F S512x4096 .f32) (mix : Vec F S512x4096 .bf16) (mu : Vec F S512x1 .f32) (rs : Vec F S512x1 .f32) :
    Σ' (L18 : List (View.Piece (Elt F) S512x4096 .f32)), Σ' (L20 : List (View.Piece (Elt F) S512x1 .f32)), { L21 : List (View.Piece (Elt F) S512x1 .f32) //
      ∀ (E : Set ℕ) (K : PUnit → sProp 𝕄),
        iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (arg8.view.loc (c : Thread nD τ) ↦[arg8.view.set]{fullShare} harg8.unread x5) ∗ (arg9.view.loc (c : Thread nD τ) ↦[arg9.view.set]{fullShare} harg9.unread x6) ∗ (arg10.view.loc (c : Thread nD τ) ↦[arg10.view.set]{fullShare} harg10.unread x7) ∗ (arg11.view.loc (c : Thread nD τ) ↦[arg11.view.set]{fullShare} harg11.unread x8) ∗ (arg12.view.loc (c : Thread nD τ) ↦[arg12.view.set]{fullShare} harg12.unread x9) ∗ (arg13.view.loc (c : Thread nD τ) ↦[arg13.view.set]{fullShare} harg13.unread x10) ∗ (arg14.view.loc (c : Thread nD τ) ↦[arg14.view.set]{fullShare} harg14.unread x11) ∗ (arg15.view.loc (c : Thread nD τ) ↦[arg15.view.set]{fullShare} harg15.unread x12) ∗ (arg16.view.loc (c : Thread nD τ) ↦[arg16.view.set]{fullShare} harg16.unread o) ∗ (arg17.view.loc (c : Thread nD τ) ↦[arg17.view.set]{fullShare} harg17.unread h) ∗ (arg18.view.loc (c : Thread nD τ) ↦[arg18.view.set]{fullShare} harg18.unread v) ∗ (arg19.view.loc (c : Thread nD τ) ↦[arg19.view.set]{fullShare} harg19.unread mix) ∗ (arg20.view.loc (c : Thread nD τ) ↦[arg20.view.set]{fullShare} harg20.unread mu) ∗ (arg21.view.loc (c : Thread nD τ) ↦[arg21.view.set]{fullShare} harg21.unread rs)
            ∗ (iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (arg8.view.loc (c : Thread nD τ) ↦[arg8.view.set]{fullShare} harg8.unread x5) ∗ (arg9.view.loc (c : Thread nD τ) ↦[arg9.view.set]{fullShare} harg9.unread x6) ∗ (arg10.view.loc (c : Thread nD τ) ↦[arg10.view.set]{fullShare} harg10.unread x7) ∗ (arg11.view.loc (c : Thread nD τ) ↦[arg11.view.set]{fullShare} harg11.unread x8) ∗ (arg12.view.loc (c : Thread nD τ) ↦[arg12.view.set]{fullShare} harg12.unread x9) ∗ (arg13.view.loc (c : Thread nD τ) ↦[arg13.view.set]{fullShare} harg13.unread x10) ∗ (arg14.view.loc (c : Thread nD τ) ↦[arg14.view.set]{fullShare} harg14.unread x11) ∗ (arg15.view.loc (c : Thread nD τ) ↦[arg15.view.set]{fullShare} harg15.unread x12) ∗ (arg16.view.loc (c : Thread nD τ) ↦[arg16.view.set]{fullShare} harg16.unread o) ∗ (arg17.view.loc (c : Thread nD τ) ↦[arg17.view.set]{fullShare} harg17.unread h) ∗ (arg18.view.loc (c : Thread nD τ) ↦[arg18.view.set]{fullShare} arg18.view.writes (Elt F) (harg18.unread v) L18) ∗ (arg19.view.loc (c : Thread nD τ) ↦[arg19.view.set]{fullShare} harg19.unread mix) ∗ (arg20.view.loc (c : Thread nD τ) ↦[arg20.view.set]{fullShare} arg20.view.writes (Elt F) (harg20.unread mu) L20) ∗ (arg21.view.loc (c : Thread nD τ) ↦[arg21.view.set]{fullShare} arg21.view.writes (Elt F) (harg21.unread rs) L21)) -∗ K ⟨⟩))
          ⊢ wp frame (wpE (defs₀ (F := F)) Variants.none c none) E (cc0_gmlp i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, fun E K => ?run⟩
  case run =>
    iintro ⟨H3, H4, H5, H6, H7, H8, H9, H10, H11, H12, H13, H14, H15, H16, H17, H18, H19, H20, H21, Hk⟩
    simp only [cc0_gmlp_eq_skeleton]; unfold cc0_gmlp_skel
    sl_exec (disch := first | sl_exact hc1 | sl_exact hc2 | sl_exact hc3 | sl_exact hc4 | sl_exact hc5)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

end Cert.KernelIdeal.Gmlp

end
-- ==== Proof.GmlpRunE.lean ====
module

public import proofs.«01_k».proof.Proof.GmlpRun

@[expose] public section

set_option maxRecDepth 16384

noncomputable section

namespace Cert.KernelIdeal.Gmlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- The body at a tile of the output projection: what it leaves in the output block. -/
noncomputable def runE (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x512 .f32) (harg7 : arg7.IsWhole) (arg8 : Memref sig .tc .vmem S2048x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S16x128x128 .f32) (harg12 : arg12.IsWhole) (arg13 : Memref sig .tc .vmem S16x128x1 .f32) (harg13 : arg13.IsWhole) (arg14 : Memref sig .tc .vmem S4096x512 .bf16) (harg14 : arg14.IsWhole) (arg15 : Memref sig .tc .vmem S1x512 .f32) (harg15 : arg15.IsWhole) (arg16 : Memref sig .tc .vmem S1x512x512 .f32) (harg16 : arg16.IsWhole) (arg17 : Memref sig .tc .vmem S512x2048 .bf16) (harg17 : arg17.IsWhole) (arg18 : Memref sig .tc .vmem S512x4096 .f32) (harg18 : arg18.IsWhole) (arg19 : Memref sig .tc .vmem S512x4096 .bf16) (harg19 : arg19.IsWhole) (arg20 : Memref sig .tc .vmem S512x1 .f32) (harg20 : arg20.IsWhole) (arg21 : Memref sig .tc .vmem S512x1 .f32) (harg21 : arg21.IsWhole) (hc5 : cond5 i) (hc1 : ¬cond1 i) (hc2 : ¬cond2 i) (hc3 : ¬cond3 i) (hc4 : ¬cond4 i)
    (x0 : Vec F S1x512x2048 .f32) (x1 : Vec F S1x2048 .f32) (x2 : Vec F S1x1x2048 .f32) (x3 : Vec F S1x1x2048 .f32) (x4 : Vec F S1x1x512 .f32) (x5 : Vec F S2048x1024 .bf16) (x6 : Vec F S1x1024 .f32) (x7 : Vec F S1x1024 .f32) (x8 : Vec F S1x1024 .f32) (x9 : Vec F S16x128x128 .f32) (x10 : Vec F S16x128x1 .f32) (x11 : Vec F S4096x512 .bf16) (x12 : Vec F S1x512 .f32) (o : Vec F S1x512x512 .f32) (h : Vec F S512x2048 .bf16) (v : Vec F S512x4096 .f32) (mix : Vec F S512x4096 .bf16) (mu : Vec F S512x1 .f32) (rs : Vec F S512x1 .f32) :
    { L16 : List (View.Piece (Elt F) S1x512x512 .f32) //
      ∀ (E : Set ℕ) (K : PUnit → sProp 𝕄),
        iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (arg8.view.loc (c : Thread nD τ) ↦[arg8.view.set]{fullShare} harg8.unread x5) ∗ (arg9.view.loc (c : Thread nD τ) ↦[arg9.view.set]{fullShare} harg9.unread x6) ∗ (arg10.view.loc (c : Thread nD τ) ↦[arg10.view.set]{fullShare} harg10.unread x7) ∗ (arg11.view.loc (c : Thread nD τ) ↦[arg11.view.set]{fullShare} harg11.unread x8) ∗ (arg12.view.loc (c : Thread nD τ) ↦[arg12.view.set]{fullShare} harg12.unread x9) ∗ (arg13.view.loc (c : Thread nD τ) ↦[arg13.view.set]{fullShare} harg13.unread x10) ∗ (arg14.view.loc (c : Thread nD τ) ↦[arg14.view.set]{fullShare} harg14.unread x11) ∗ (arg15.view.loc (c : Thread nD τ) ↦[arg15.view.set]{fullShare} harg15.unread x12) ∗ (arg16.view.loc (c : Thread nD τ) ↦[arg16.view.set]{fullShare} harg16.unread o) ∗ (arg17.view.loc (c : Thread nD τ) ↦[arg17.view.set]{fullShare} harg17.unread h) ∗ (arg18.view.loc (c : Thread nD τ) ↦[arg18.view.set]{fullShare} harg18.unread v) ∗ (arg19.view.loc (c : Thread nD τ) ↦[arg19.view.set]{fullShare} harg19.unread mix) ∗ (arg20.view.loc (c : Thread nD τ) ↦[arg20.view.set]{fullShare} harg20.unread mu) ∗ (arg21.view.loc (c : Thread nD τ) ↦[arg21.view.set]{fullShare} harg21.unread rs)
            ∗ (iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (arg8.view.loc (c : Thread nD τ) ↦[arg8.view.set]{fullShare} harg8.unread x5) ∗ (arg9.view.loc (c : Thread nD τ) ↦[arg9.view.set]{fullShare} harg9.unread x6) ∗ (arg10.view.loc (c : Thread nD τ) ↦[arg10.view.set]{fullShare} harg10.unread x7) ∗ (arg11.view.loc (c : Thread nD τ) ↦[arg11.view.set]{fullShare} harg11.unread x8) ∗ (arg12.view.loc (c : Thread nD τ) ↦[arg12.view.set]{fullShare} harg12.unread x9) ∗ (arg13.view.loc (c : Thread nD τ) ↦[arg13.view.set]{fullShare} harg13.unread x10) ∗ (arg14.view.loc (c : Thread nD τ) ↦[arg14.view.set]{fullShare} harg14.unread x11) ∗ (arg15.view.loc (c : Thread nD τ) ↦[arg15.view.set]{fullShare} harg15.unread x12) ∗ (arg16.view.loc (c : Thread nD τ) ↦[arg16.view.set]{fullShare} arg16.view.writes (Elt F) (harg16.unread o) L16) ∗ (arg17.view.loc (c : Thread nD τ) ↦[arg17.view.set]{fullShare} harg17.unread h) ∗ (arg18.view.loc (c : Thread nD τ) ↦[arg18.view.set]{fullShare} harg18.unread v) ∗ (arg19.view.loc (c : Thread nD τ) ↦[arg19.view.set]{fullShare} harg19.unread mix) ∗ (arg20.view.loc (c : Thread nD τ) ↦[arg20.view.set]{fullShare} harg20.unread mu) ∗ (arg21.view.loc (c : Thread nD τ) ↦[arg21.view.set]{fullShare} harg21.unread rs)) -∗ K ⟨⟩))
          ⊢ wp frame (wpE (defs₀ (F := F)) Variants.none c none) E (cc0_gmlp i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, fun E K => ?run⟩
  case run =>
    iintro ⟨H3, H4, H5, H6, H7, H8, H9, H10, H11, H12, H13, H14, H15, H16, H17, H18, H19, H20, H21, Hk⟩
    simp only [cc0_gmlp_eq_skeleton]; unfold cc0_gmlp_skel
    sl_exec (disch := first | sl_exact hc1 | sl_exact hc2 | sl_exact hc3 | sl_exact hc4 | sl_exact hc5)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

end Cert.KernelIdeal.Gmlp

end
-- ==== Proof.GmlpRunD.lean ====
module

public import proofs.«01_k».proof.Proof.GmlpRunE

@[expose] public section

set_option maxRecDepth 16384

noncomputable section

namespace Cert.KernelIdeal.Gmlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- The body at a tile of the mixing half: what it leaves in the mixed rows. -/
noncomputable def runD (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x512 .f32) (harg7 : arg7.IsWhole) (arg8 : Memref sig .tc .vmem S2048x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S16x128x128 .f32) (harg12 : arg12.IsWhole) (arg13 : Memref sig .tc .vmem S16x128x1 .f32) (harg13 : arg13.IsWhole) (arg14 : Memref sig .tc .vmem S4096x512 .bf16) (harg14 : arg14.IsWhole) (arg15 : Memref sig .tc .vmem S1x512 .f32) (harg15 : arg15.IsWhole) (arg16 : Memref sig .tc .vmem S1x512x512 .f32) (harg16 : arg16.IsWhole) (arg17 : Memref sig .tc .vmem S512x2048 .bf16) (harg17 : arg17.IsWhole) (arg18 : Memref sig .tc .vmem S512x4096 .f32) (harg18 : arg18.IsWhole) (arg19 : Memref sig .tc .vmem S512x4096 .bf16) (harg19 : arg19.IsWhole) (arg20 : Memref sig .tc .vmem S512x1 .f32) (harg20 : arg20.IsWhole) (arg21 : Memref sig .tc .vmem S512x1 .f32) (harg21 : arg21.IsWhole) (hc4 : cond4 i) (hc1 : ¬cond1 i) (hc2 : ¬cond2 i) (hc3 : ¬cond3 i) (hc5 : ¬cond5 i)
    (x0 : Vec F S1x512x2048 .f32) (x1 : Vec F S1x2048 .f32) (x2 : Vec F S1x1x2048 .f32) (x3 : Vec F S1x1x2048 .f32) (x4 : Vec F S1x1x512 .f32) (x5 : Vec F S2048x1024 .bf16) (x6 : Vec F S1x1024 .f32) (x7 : Vec F S1x1024 .f32) (x8 : Vec F S1x1024 .f32) (x9 : Vec F S16x128x128 .f32) (x10 : Vec F S16x128x1 .f32) (x11 : Vec F S4096x512 .bf16) (x12 : Vec F S1x512 .f32) (o : Vec F S1x512x512 .f32) (h : Vec F S512x2048 .bf16) (v : Vec F S512x4096 .f32) (mix : Vec F S512x4096 .bf16) (mu : Vec F S512x1 .f32) (rs : Vec F S512x1 .f32) :
    { L19 : List (View.Piece (Elt F) S512x4096 .bf16) //
      ∀ (E : Set ℕ) (K : PUnit → sProp 𝕄),
        iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (arg8.view.loc (c : Thread nD τ) ↦[arg8.view.set]{fullShare} harg8.unread x5) ∗ (arg9.view.loc (c : Thread nD τ) ↦[arg9.view.set]{fullShare} harg9.unread x6) ∗ (arg10.view.loc (c : Thread nD τ) ↦[arg10.view.set]{fullShare} harg10.unread x7) ∗ (arg11.view.loc (c : Thread nD τ) ↦[arg11.view.set]{fullShare} harg11.unread x8) ∗ (arg12.view.loc (c : Thread nD τ) ↦[arg12.view.set]{fullShare} harg12.unread x9) ∗ (arg13.view.loc (c : Thread nD τ) ↦[arg13.view.set]{fullShare} harg13.unread x10) ∗ (arg14.view.loc (c : Thread nD τ) ↦[arg14.view.set]{fullShare} harg14.unread x11) ∗ (arg15.view.loc (c : Thread nD τ) ↦[arg15.view.set]{fullShare} harg15.unread x12) ∗ (arg16.view.loc (c : Thread nD τ) ↦[arg16.view.set]{fullShare} harg16.unread o) ∗ (arg17.view.loc (c : Thread nD τ) ↦[arg17.view.set]{fullShare} harg17.unread h) ∗ (arg18.view.loc (c : Thread nD τ) ↦[arg18.view.set]{fullShare} harg18.unread v) ∗ (arg19.view.loc (c : Thread nD τ) ↦[arg19.view.set]{fullShare} harg19.unread mix) ∗ (arg20.view.loc (c : Thread nD τ) ↦[arg20.view.set]{fullShare} harg20.unread mu) ∗ (arg21.view.loc (c : Thread nD τ) ↦[arg21.view.set]{fullShare} harg21.unread rs)
            ∗ (iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (arg8.view.loc (c : Thread nD τ) ↦[arg8.view.set]{fullShare} harg8.unread x5) ∗ (arg9.view.loc (c : Thread nD τ) ↦[arg9.view.set]{fullShare} harg9.unread x6) ∗ (arg10.view.loc (c : Thread nD τ) ↦[arg10.view.set]{fullShare} harg10.unread x7) ∗ (arg11.view.loc (c : Thread nD τ) ↦[arg11.view.set]{fullShare} harg11.unread x8) ∗ (arg12.view.loc (c : Thread nD τ) ↦[arg12.view.set]{fullShare} harg12.unread x9) ∗ (arg13.view.loc (c : Thread nD τ) ↦[arg13.view.set]{fullShare} harg13.unread x10) ∗ (arg14.view.loc (c : Thread nD τ) ↦[arg14.view.set]{fullShare} harg14.unread x11) ∗ (arg15.view.loc (c : Thread nD τ) ↦[arg15.view.set]{fullShare} harg15.unread x12) ∗ (arg16.view.loc (c : Thread nD τ) ↦[arg16.view.set]{fullShare} harg16.unread o) ∗ (arg17.view.loc (c : Thread nD τ) ↦[arg17.view.set]{fullShare} harg17.unread h) ∗ (arg18.view.loc (c : Thread nD τ) ↦[arg18.view.set]{fullShare} harg18.unread v) ∗ (arg19.view.loc (c : Thread nD τ) ↦[arg19.view.set]{fullShare} arg19.view.writes (Elt F) (harg19.unread mix) L19) ∗ (arg20.view.loc (c : Thread nD τ) ↦[arg20.view.set]{fullShare} harg20.unread mu) ∗ (arg21.view.loc (c : Thread nD τ) ↦[arg21.view.set]{fullShare} harg21.unread rs)) -∗ K ⟨⟩))
          ⊢ wp frame (wpE (defs₀ (F := F)) Variants.none c none) E (cc0_gmlp i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, fun E K => ?run⟩
  case run =>
    iintro ⟨H3, H4, H5, H6, H7, H8, H9, H10, H11, H12, H13, H14, H15, H16, H17, H18, H19, H20, H21, Hk⟩
    simp only [cc0_gmlp_eq_skeleton]; unfold cc0_gmlp_skel
    sl_exec (disch := first | sl_exact hc1 | sl_exact hc2 | sl_exact hc3 | sl_exact hc4 | sl_exact hc5)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

end Cert.KernelIdeal.Gmlp

end
-- ==== Proof.GmlpIdx.lean ====
module

public import proofs.«01_k».proof.Proof.GmlpRun

@[expose] public section

set_option maxRecDepth 16384

noncomputable section

namespace Cert.KernelIdeal.Gmlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! The words the body computes from its grid coordinates, in closed form at every point. -/

theorem hcond1 : ∀ t : Fin cfg0.N, cond1 (grid0.coords t) ↔ t.val % 12 = 0 := (by decide +kernel : ∀ t : Fin grid0.N, _)
theorem hcond2 : ∀ t : Fin cfg0.N, cond2 (grid0.coords t) ↔ t.val % 12 < 4 := (by decide +kernel : ∀ t : Fin grid0.N, _)
theorem hcond3 : ∀ t : Fin cfg0.N, cond3 (grid0.coords t) ↔ t.val % 12 = 3 := (by decide +kernel : ∀ t : Fin grid0.N, _)
theorem hcond4 : ∀ t : Fin cfg0.N, cond4 (grid0.coords t) ↔ 4 ≤ t.val % 12 ∧ t.val % 12 < 8 := (by decide +kernel : ∀ t : Fin grid0.N, _)
theorem hcond5 : ∀ t : Fin cfg0.N, cond5 (grid0.coords t) ↔ 8 ≤ t.val % 12 := (by decide +kernel : ∀ t : Fin grid0.N, _)
theorem hflush : ∀ t : Fin cfg0.N, (cfg0.win 13).flush t = true ↔ 8 ≤ t.val % 12 := (by decide +kernel : ∀ t : Fin grid0.N, _)

theorem off1_eq : ∀ t : Fin cfg0.N, t.val % 12 < 4 → ∀ e : Fin 2,
    k0_off1 (grid0.coords t) (BitVec.ofNat 32 (512 * e.val)) = ![0, 1024 * (t.val % 12) + 512 * e.val] := (by decide +kernel : ∀ t : Fin grid0.N, _)
theorem off2_eq : ∀ t : Fin cfg0.N, 4 ≤ t.val % 12 → t.val % 12 < 8 → ∀ g : Fin 4,
    k0_off2 (grid0.coords t) (BitVec.ofNat 32 (256 * g.val)) = ![0, 256 * (4 * (t.val % 12 - 4) + g.val)] := (by decide +kernel : ∀ t : Fin grid0.N, _)
theorem off3_eq : ∀ t : Fin cfg0.N, 4 ≤ t.val % 12 → t.val % 12 < 8 → ∀ g : Fin 4,
    k0_off3 (grid0.coords t) (BitVec.ofNat 32 g.val) = ![4 * (t.val % 12 - 4) + g.val, 0, 0] := (by decide +kernel : ∀ t : Fin grid0.N, _)
theorem off4_eq : ∀ t : Fin cfg0.N, 4 ≤ t.val % 12 → t.val % 12 < 8 → ∀ g : Fin 4,
    k0_off4 (grid0.coords t) (BitVec.ofNat 32 g.val) = ![4 * (t.val % 12 - 4) + g.val, 0, 0] := (by decide +kernel : ∀ t : Fin grid0.N, _)
theorem off5_eq : ∀ t : Fin cfg0.N, 4 ≤ t.val % 12 → t.val % 12 < 8 → ∀ g : Fin 4,
    k0_off5 (grid0.coords t) (BitVec.ofNat 32 (256 * g.val)) = ![128 * 0, 256 * (4 * (t.val % 12 - 4) + g.val)] := (by decide +kernel : ∀ t : Fin grid0.N, _)
theorem off6_eq : ∀ t : Fin cfg0.N, 4 ≤ t.val % 12 → t.val % 12 < 8 → ∀ g : Fin 4,
    k0_off6 (grid0.coords t) (BitVec.ofNat 32 (256 * g.val)) = ![128 * 1, 256 * (4 * (t.val % 12 - 4) + g.val)] := (by decide +kernel : ∀ t : Fin grid0.N, _)
theorem off7_eq : ∀ t : Fin cfg0.N, 4 ≤ t.val % 12 → t.val % 12 < 8 → ∀ g : Fin 4,
    k0_off7 (grid0.coords t) (BitVec.ofNat 32 (256 * g.val)) = ![128 * 2, 256 * (4 * (t.val % 12 - 4) + g.val)] := (by decide +kernel : ∀ t : Fin grid0.N, _)
theorem off8_eq : ∀ t : Fin cfg0.N, 4 ≤ t.val % 12 → t.val % 12 < 8 → ∀ g : Fin 4,
    k0_off8 (grid0.coords t) (BitVec.ofNat 32 (256 * g.val)) = ![128 * 3, 256 * (4 * (t.val % 12 - 4) + g.val)] := (by decide +kernel : ∀ t : Fin grid0.N, _)
theorem off9_eq : ∀ t : Fin cfg0.N, 8 ≤ t.val % 12 → ∀ e : Fin 2,
    k0_off9 (grid0.coords t) (BitVec.ofNat 32 (256 * e.val)) = ![0, 0, 512 * (t.val % 12 - 8) + 256 * e.val] := (by decide +kernel : ∀ t : Fin grid0.N, _)

end Cert.KernelIdeal.Gmlp

end
-- ==== Proof.GmlpPay.lean ====
module

public import proofs.«01_k».proof.Proof.Gen.KernelIdeal.Skeleton

@[expose] public section

set_option maxRecDepth 16384

noncomputable section

namespace Cert.KernelIdeal.Gmlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- A row chunk of the mixed rows of one group: the first half, by the group's own mixing of the normalized second half. -/
def mixP (r : Fin 4) (h : Vec F S512x2048 .bf16) (w : Vec F S2048x256 .bf16) (b : Vec F S1x256 .f32) (v : Vec F S512x256 .f32) (mu rs : Vec F S512x1 .f32) (lg lb : Vec F S1x256 .f32) (ws : Vec F S1x128x128 .f32) (bs : Vec F S1x128x1 .f32) : FVec F S128x256 .bf16 :=
  match r with
  | 0 => k0_pay17 k0_pay11 (k0_pay12 h w b) (k0_pay13 v mu rs) (k0_pay14 lg) lb ws bs
  | 1 => k0_pay18 k0_pay11 (k0_pay12 h w b) (k0_pay13 v mu rs) (k0_pay14 lg) lb ws bs
  | 2 => k0_pay20 (k0_pay12 h w b) (k0_pay16 k0_pay11 ws) (k0_pay19 (k0_pay13 v mu rs) (k0_pay14 lg) lb) bs
  | 3 => k0_pay21 (k0_pay12 h w b) (k0_pay15 (k0_pay13 v mu rs) (k0_pay14 lg) lb) (k0_pay16 k0_pay11 ws) bs

variable (h : Vec F S512x2048 .bf16) (w : Vec F S2048x256 .bf16) (b : Vec F S1x256 .f32) (v : Vec F S512x256 .f32) (mu rs : Vec F S512x1 .f32) (lg lb : Vec F S1x256 .f32) (ws : Vec F S1x128x128 .f32) (bs : Vec F S1x128x1 .f32)

/-! Each group of a tile spells its row chunks by payloads of its own: they are the same functions. -/

theorem pay_0_1 : k0_pay29 (k0_pay25 (k0_pay22 h w b) (k0_pay23 h w b) k0_pay24) (k0_pay28 k0_pay11 v mu rs lg lb ws bs) = mixP 0 h w b v mu rs lg lb ws bs := rfl
theorem pay_1_1 : k0_pay30 (k0_pay25 (k0_pay22 h w b) (k0_pay23 h w b) k0_pay24) (k0_pay26 v mu rs lg lb) (k0_pay27 k0_pay11 ws) bs = mixP 1 h w b v mu rs lg lb ws bs := rfl
theorem pay_2_1 : k0_pay31 (k0_pay25 (k0_pay22 h w b) (k0_pay23 h w b) k0_pay24) (k0_pay26 v mu rs lg lb) (k0_pay27 k0_pay11 ws) bs = mixP 2 h w b v mu rs lg lb ws bs := rfl
theorem pay_3_1 : k0_pay33 (k0_pay32 (k0_pay25 (k0_pay22 h w b) (k0_pay23 h w b) k0_pay24) (k0_pay26 v mu rs lg lb) (k0_pay27 k0_pay11 ws) bs) = mixP 3 h w b v mu rs lg lb ws bs := rfl
theorem pay_0_2 : k0_pay38 k0_pay11 (k0_pay34 h w b) (k0_pay35 v mu rs lg) lb ws bs = mixP 0 h w b v mu rs lg lb ws bs := rfl
theorem pay_1_2 : k0_pay39 k0_pay11 (k0_pay34 h w b) (k0_pay35 v mu rs lg) lb ws bs = mixP 1 h w b v mu rs lg lb ws bs := rfl
theorem pay_2_2 : k0_pay41 (k0_pay34 h w b) (k0_pay40 k0_pay11 (k0_pay35 v mu rs lg) lb ws) bs = mixP 2 h w b v mu rs lg lb ws bs := rfl
theorem pay_3_2 : k0_pay42 (k0_pay34 h w b) (k0_pay36 (k0_pay35 v mu rs lg) lb) (k0_pay37 k0_pay11 ws) bs = mixP 3 h w b v mu rs lg lb ws bs := rfl
theorem pay_0_3 : k0_pay49 (k0_pay48 k0_pay11 (k0_pay43 h w b) (k0_pay44 h w b) v mu rs lg lb ws bs) = mixP 0 h w b v mu rs lg lb ws bs := rfl
theorem pay_1_3 : k0_pay50 (k0_pay45 (k0_pay43 h w b) (k0_pay44 h w b)) (k0_pay46 v mu rs lg lb) (k0_pay47 k0_pay11 ws) bs = mixP 1 h w b v mu rs lg lb ws bs := rfl
theorem pay_2_3 : k0_pay51 (k0_pay45 (k0_pay43 h w b) (k0_pay44 h w b)) (k0_pay46 v mu rs lg lb) (k0_pay47 k0_pay11 ws) bs = mixP 2 h w b v mu rs lg lb ws bs := rfl
theorem pay_3_3 : k0_pay6 (k0_pay52 (k0_pay45 (k0_pay43 h w b) (k0_pay44 h w b)) (k0_pay46 v mu rs lg lb) (k0_pay47 k0_pay11 ws) bs) = mixP 3 h w b v mu rs lg lb ws bs := rfl

theorem pay_gate (h : Vec F S512x2048 .bf16) (w : Vec F S2048x512 .bf16) (b : Vec F S1x512 .f32) : k0_pay2 (k0_pay9 h w b) (k0_pay10 h w b) = k0_pay8 h w b := rfl

theorem pay_out (x : Vec F S512x4096 .bf16) (w : Vec F S4096x256 .bf16) (r : Vec F S1x512x256 .f32) (g : Vec F S1x1x256 .f32) (b : Vec F S1x256 .f32) :
    k0_pay7 (k0_pay54 x w) (k0_pay55 r) g b = k0_pay53 x w r g b := rfl

end Cert.KernelIdeal.Gmlp

end
-- ==== Proof.GmlpVals.lean ====
module

public import proofs.«01_k».proof.Proof.GmlpRunD
public import proofs.«01_k».proof.Proof.GmlpIdx
public import proofs.«01_k».proof.Proof.GmlpPay
public import Idealize.ShloMosaic.Lib.WholeRead
public import Idealize.ShloMosaic.Lib.WritesUnit
public import Idealize.ShloMosaic.Lib.Pointwise

@[expose] public section

set_option maxRecDepth 16384

noncomputable section

namespace Cert.KernelIdeal.Gmlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## Loads and stores through whole buffers -/

/-- The part of an array a unit-stride rectangle reads. -/
def sub {s : Shape} {e : EltTy} (x : Vec F s e) (off size : Fin s.rank → ℕ) (inb : ∀ a, off a + size a ≤ s.size a) :
    (Rect.unit off size inb).shape.Idx → Elt F e := fun k => x ((Rect.unit off size inb).toLoadRect.idx k)

/-- A load at offsets of closed form reads the part of the array they name. -/
theorem readAt_sub {sp : Space} {s : Shape} {e : EltTy} {arg : Memref sig .tc sp s e} (harg : arg.IsWhole) (x : Vec F s e) {off off' size : Fin s.rank → ℕ}
    (inb : ∀ a, off a + size a ≤ s.size a) (inb' : ∀ a, off' a + size a ≤ s.size a) (h : off = off') :
    View.readAt (Elt F) arg.view (Rect.unit off size inb).toLoadRect (harg.unread x) = sub x off' size inb' := by
  subst h
  exact funext fun k => harg.readAt_unread x _ k

/-- A whole load reads the contents, whatever they were written by. -/
theorem readAt_all {sp : Space} {s : Shape} {e : EltTy} {arg : Memref sig .tc sp s e} (harg : arg.IsWhole) (f : arg.view.ty.Contents (Elt F)) {off : Fin s.rank → ℕ}
    (inb : ∀ a, off a + s.size a ≤ s.size a) :
    View.readAt (Elt F) arg.view (Rect.unit off s.size inb).toLoadRect f = arg.view.read (Elt F) f := by
  funext k
  refine congrArg (arg.view.read (Elt F) f) (funext fun a => Fin.ext ?_)
  show off a + 1 * (k a).val = (k a).val
  have := inb a
  omega

theorem readAt_full {sp : Space} {s : Shape} {e : EltTy} {arg : Memref sig .tc sp s e} (harg : arg.IsWhole) (x : Vec F s e) {off : Fin s.rank → ℕ}
    (inb : ∀ a, off a + s.size a ≤ s.size a) :
    View.readAt (Elt F) arg.view (Rect.unit off s.size inb).toLoadRect (harg.unread x) = x :=
  (readAt_all harg _ inb).trans (harg.read_unread x)

/-- A whole store leaves what it stored. -/
theorem read_store {sp : Space} {s : Shape} {e : EltTy} {arg : Memref sig .tc sp s e} (harg : arg.IsWhole) (f : arg.view.ty.Contents (Elt F)) {off : Fin s.rank → ℕ}
    (inb : ∀ a, off a + s.size a ≤ s.size a) (w : (Rect.unit off s.size inb).shape.Idx → Elt F e) :
    arg.view.read (Elt F) (arg.view.writes (Elt F) f [⟨Rect.unit off s.size inb, w⟩]) = w := by
  funext y
  exact View.read_writes_cons_unit_of_mem arg.view f inb w [] y y rfl fun a => by
    have := inb a
    omega

/-! ## What the scratch buffers and the output block hold -/

variable (m : (ℓ : Loc nD τ sig) → Buf (Elt F) ℓ)

/-- Point `j` of the twelve that work on block of rows `q`. -/
def pt (q : Fin 64) (j : Fin 12) : Fin cfg0.N := ⟨12 * q.val + j.val, by
  have h : cfg0.N = 768 := N_0
  rw [h]; omega⟩

theorem in2 (n k w o d : ℕ) (h : o + w ≤ d) (hn : k ≤ n) : ∀ a : Fin 2, (![0, o] : Fin 2 → ℕ) a + (![k, w] : Fin 2 → ℕ) a ≤ (![n, d] : Fin 2 → ℕ) a :=
  Fin.forall_fin_two.mpr ⟨by show 0 + k ≤ n; omega, h⟩
theorem in3 (n k o w d p r : ℕ) (hp : r ≤ p) (hn : k ≤ n) (h : o + w ≤ d) : ∀ a : Fin 3, (![0, 0, o] : Fin 3 → ℕ) a + (![r, k, w] : Fin 3 → ℕ) a ≤ (![p, n, d] : Fin 3 → ℕ) a := by
  intro a; fin_cases a
  · show 0 + r ≤ p; omega
  · show 0 + k ≤ n; omega
  · exact h
theorem in3g (o d k n : ℕ) (h : o + 1 ≤ d) : ∀ a : Fin 3, (![o, 0, 0] : Fin 3 → ℕ) a + (![1, k, n] : Fin 3 → ℕ) a ≤ (![d, k, n] : Fin 3 → ℕ) a := by
  intro a; fin_cases a
  · exact h
  · show 0 + k ≤ k; omega
  · show 0 + n ≤ n; omega

/-- The normalized, modulated rows of block `q`. -/
def HH (c : Dev nD) (q : Fin 64) : Vec F S512x2048 .bf16 :=
  k0_pay1 (iblk m c 0 (pt q 0)) (iblk m c 1 (pt q 0)) (iblk m c 2 (pt q 0)) (iblk m c 3 (pt q 0))

/-- Columns `512 e …` of the gate half. -/
def VVt (c : Dev nD) (q : Fin 64) (j : Fin 4) (e : Fin 2) : FVec F S512x512 .f32 :=
  k0_pay8 (HH m c q)
    (sub (s := S2048x1024) (iblk m c 5 (pt q ⟨j.val, by omega⟩)) ![0, 512 * e.val] ![2048, 512] (in2 _ _ _ _ _ (by omega) (by omega)))
    (sub (s := S1x1024) (iblk m c 6 (pt q ⟨j.val, by omega⟩)) ![0, 512 * e.val] ![1, 512] (in2 _ _ _ _ _ (by omega) (by omega)))

/-- The gate half of block `q`. -/
def VV (c : Dev nD) (q : Fin 64) : Vec F S512x4096 .f32 := fun y =>
  VVt m c q ⟨(y 1).val / 1024, by have : (y 1).val < 4096 := (y 1).isLt; omega⟩ ⟨(y 1).val / 512 % 2, by omega⟩
    (ix2 (y 0) ⟨(y 1).val % 512, by omega⟩)

/-- Row chunk `r` of group `4 j + g` of the mixed rows. -/
def MMt (c : Dev nD) (q : Fin 64) (r : Fin 4) (j : Fin 4) (g : Fin 4) : FVec F S128x256 .bf16 :=
  mixP r (HH m c q)
    (sub (s := S2048x1024) (iblk m c 5 (pt q ⟨4 + j.val, by omega⟩)) ![0, 256 * g.val] ![2048, 256] (in2 _ _ _ _ _ (by omega) (by omega)))
    (sub (s := S1x1024) (iblk m c 6 (pt q ⟨4 + j.val, by omega⟩)) ![0, 256 * g.val] ![1, 256] (in2 _ _ _ _ _ (by omega) (by omega)))
    (sub (s := S512x4096) (VV m c q) ![0, 256 * (4 * j.val + g.val)] ![512, 256] (in2 _ _ _ _ _ (by omega) (by omega)))
    (k0_pay4 (VV m c q)) (k0_pay5 (VV m c q))
    (sub (s := S1x1024) (iblk m c 7 (pt q ⟨4 + j.val, by omega⟩)) ![0, 256 * g.val] ![1, 256] (in2 _ _ _ _ _ (by omega) (by omega)))
    (sub (s := S1x1024) (iblk m c 8 (pt q ⟨4 + j.val, by omega⟩)) ![0, 256 * g.val] ![1, 256] (in2 _ _ _ _ _ (by omega) (by omega)))
    (sub (s := S16x128x128) (iblk m c 9 (pt q ⟨4 + j.val, by omega⟩)) ![4 * j.val + g.val, 0, 0] ![1, 128, 128] (in3g _ _ _ _ (by omega)))
    (sub (s := S16x128x1) (iblk m c 10 (pt q ⟨4 + j.val, by omega⟩)) ![4 * j.val + g.val, 0, 0] ![1, 128, 1] (in3g _ _ _ _ (by omega)))

/-- The mixed rows of block `q`. -/
def MM (c : Dev nD) (q : Fin 64) : Vec F S512x4096 .bf16 := fun y =>
  MMt m c q ⟨(y 0).val / 128, by have : (y 0).val < 512 := (y 0).isLt; omega⟩
    ⟨(y 1).val / 1024, by have : (y 1).val < 4096 := (y 1).isLt; omega⟩ ⟨(y 1).val / 256 % 4, by omega⟩
    (ix2 ⟨(y 0).val % 128, by omega⟩ ⟨(y 1).val % 256, by omega⟩)

/-- Columns `256 e …` of output block `jj` of rows `q`. -/
def OOt (c : Dev nD) (q : Fin 64) (jj : Fin 4) (e : Fin 2) : FVec F S1x512x256 .f32 :=
  k0_pay53 (MM m c q)
    (sub (s := S4096x512) (iblk m c 11 (pt q ⟨8 + jj.val, by omega⟩)) ![0, 256 * e.val] ![4096, 256] (in2 _ _ _ _ _ (by omega) (by omega)))
    (sub (s := S1x512x2048) (iblk m c 0 (pt q ⟨8 + jj.val, by omega⟩)) ![0, 0, 512 * jj.val + 256 * e.val] ![1, 512, 256] (in3 _ _ _ _ _ _ _ (by omega) (by omega) (by omega)))
    (sub (s := S1x1x512) (iblk m c 4 (pt q ⟨8 + jj.val, by omega⟩)) ![0, 0, 256 * e.val] ![1, 1, 256] (in3 _ _ _ _ _ _ _ (by omega) (by omega) (by omega)))
    (sub (s := S1x512) (iblk m c 12 (pt q ⟨8 + jj.val, by omega⟩)) ![0, 256 * e.val] ![1, 256] (in2 _ _ _ _ _ (by omega) (by omega)))

/-- Output block `jj` of rows `q`. -/
def OO (c : Dev nD) (q : Fin 64) (jj : Fin 4) : Vec F S1x512x512 .f32 := fun y =>
  OOt m c q jj ⟨(y 2).val / 256, by have : (y 2).val < 512 := (y 2).isLt; omega⟩ (ix3 (y 0) (y 1) ⟨(y 2).val % 256, by omega⟩)

/-! ## Each store is a part of those arrays -/

theorem gatePiece (c : Dev nD) (q : Fin 64) (j : Fin 4) (e : Fin 2) {off : Fin 2 → ℕ} (inb : ∀ a, off a + (![512, 512] : Fin 2 → ℕ) a ≤ S512x4096.size a)
    (hoff : off = ![0, 1024 * j.val + 512 * e.val]) (w : FVec F S512x512 .f32) (hw : w = VVt m c q j e) :
    ∀ x : S512x512.Idx, w x = VV m c q ((Rect.unit (s := S512x4096) off ![512, 512] inb).emb x) := by
  subst hoff hw
  intro x
  have h0 : (x 0).val < 512 := (x 0).isLt
  have h1 : (x 1).val < 512 := (x 1).isLt
  unfold VV
  have e0 : ((Rect.unit (s := S512x4096) ![0, 1024 * j.val + 512 * e.val] ![512, 512] inb).emb x 0).val = (x 0).val := by
    show 0 + 1 * (x 0).val = _; omega
  have e1 : ((Rect.unit (s := S512x4096) ![0, 1024 * j.val + 512 * e.val] ![512, 512] inb).emb x 1).val = 1024 * j.val + 512 * e.val + (x 1).val := by
    show 1024 * j.val + 512 * e.val + 1 * (x 1).val = _; omega
  congr 1
  · exact Fin.ext (by simp only [e1]; omega)
  · exact Fin.ext (by simp only [e1]; omega)
  · funext a
    fin_cases a
    · exact Fin.ext e0.symm
    · exact Fin.ext (by show (x 1).val = _ % 512; rw [e1]; omega)

theorem mixPiece (c : Dev nD) (q : Fin 64) (r j g : Fin 4) {off : Fin 2 → ℕ} (inb : ∀ a, off a + (![128, 256] : Fin 2 → ℕ) a ≤ S512x4096.size a)
    (hoff : off = ![128 * r.val, 256 * (4 * j.val + g.val)]) (w : FVec F S128x256 .bf16) (hw : w = MMt m c q r j g) :
    ∀ x : S128x256.Idx, w x = MM m c q ((Rect.unit (s := S512x4096) off ![128, 256] inb).emb x) := by
  subst hoff hw
  intro x
  have h0 : (x 0).val < 128 := (x 0).isLt
  have h1 : (x 1).val < 256 := (x 1).isLt
  unfold MM
  have e0 : ((Rect.unit (s := S512x4096) ![128 * r.val, 256 * (4 * j.val + g.val)] ![128, 256] inb).emb x 0).val = 128 * r.val + (x 0).val := by
    show 128 * r.val + 1 * (x 0).val = _; omega
  have e1 : ((Rect.unit (s := S512x4096) ![128 * r.val, 256 * (4 * j.val + g.val)] ![128, 256] inb).emb x 1).val = 256 * (4 * j.val + g.val) + (x 1).val := by
    show 256 * (4 * j.val + g.val) + 1 * (x 1).val = _; omega
  congr 1
  · exact Fin.ext (by simp only [e0]; omega)
  · exact Fin.ext (by simp only [e1]; omega)
  · exact Fin.ext (by simp only [e1]; omega)
  · funext a
    fin_cases a
    · exact Fin.ext (by show (x 0).val = _ % 128; rw [e0]; omega)
    · exact Fin.ext (by show (x 1).val = _ % 256; rw [e1]; omega)

theorem outPiece (c : Dev nD) (q : Fin 64) (jj : Fin 4) (e : Fin 2) {off : Fin 3 → ℕ} (inb : ∀ a, off a + (![1, 512, 256] : Fin 3 → ℕ) a ≤ S1x512x512.size a)
    (hoff : off = ![0, 0, 256 * e.val]) (w : FVec F S1x512x256 .f32) (hw : w = OOt m c q jj e) :
    ∀ x : S1x512x256.Idx, w x = OO m c q jj ((Rect.unit (s := S1x512x512) off ![1, 512, 256] inb).emb x) := by
  subst hoff hw
  intro x
  have h0 : (x 0).val < 1 := (x 0).isLt
  have h1 : (x 1).val < 512 := (x 1).isLt
  have h2 : (x 2).val < 256 := (x 2).isLt
  unfold OO
  have e0 : ((Rect.unit (s := S1x512x512) ![0, 0, 256 * e.val] ![1, 512, 256] inb).emb x 0).val = (x 0).val := by
    show 0 + 1 * (x 0).val = _; omega
  have e1 : ((Rect.unit (s := S1x512x512) ![0, 0, 256 * e.val] ![1, 512, 256] inb).emb x 1).val = (x 1).val := by
    show 0 + 1 * (x 1).val = _; omega
  have e2 : ((Rect.unit (s := S1x512x512) ![0, 0, 256 * e.val] ![1, 512, 256] inb).emb x 2).val = 256 * e.val + (x 2).val := by
    show 256 * e.val + 1 * (x 2).val = _; omega
  congr 1
  · exact Fin.ext (by simp only [e2]; omega)
  · funext a
    fin_cases a
    · exact Fin.ext e0.symm
    · exact Fin.ext e1.symm
    · exact Fin.ext (by show (x 2).val = _ % 256; rw [e2]; omega)

end Cert.KernelIdeal.Gmlp

end
-- ==== Proof.GmlpCases.lean ====
module

public import proofs.«01_k».proof.Proof.GmlpVals

@[expose] public section

set_option maxRecDepth 16384

noncomputable section

namespace Cert.KernelIdeal.Gmlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

theorem pt_mod (q : Fin 64) (j : Fin 12) : (pt q j).val % 12 = j.val := by show (12 * q.val + j.val) % 12 = j.val; omega

/-- Two stores side by side extend the part of the gate half already there. -/
theorem gate_read (c : Dev nD) (q : Fin 64) (j : Fin 4) (arg : Memref sig .tc .vmem S512x4096 .f32) (harg : arg.IsWhole) (v : Vec F S512x4096 .f32)
    (hv : ∀ y : S512x4096.Idx, (y 1).val < 1024 * j.val → v y = VV m c q y)
    {off1 off0 : Fin 2 → ℕ} (inb1 : ∀ a, off1 a + (![512, 512] : Fin 2 → ℕ) a ≤ S512x4096.size a) (inb0 : ∀ a, off0 a + (![512, 512] : Fin 2 → ℕ) a ≤ S512x4096.size a)
    (h1 : off1 = ![0, 1024 * j.val + 512 * (1 : Fin 2).val]) (h0 : off0 = ![0, 1024 * j.val + 512 * (0 : Fin 2).val])
    (w1 w0 : FVec F S512x512 .f32) (hw1 : w1 = VVt m c q j 1) (hw0 : w0 = VVt m c q j 0) :
    ∀ y : S512x4096.Idx, (y 1).val < 1024 * j.val + 1024 →
      arg.view.read (Elt F) (arg.view.writes (Elt F) (harg.unread v)
        [⟨Rect.unit (s := S512x4096) off1 ![512, 512] inb1, w1⟩, ⟨Rect.unit (s := S512x4096) off0 ![512, 512] inb0, w0⟩]) y = VV m c q y := by
  intro y hy
  have p1 := gatePiece m c q j 1 inb1 h1 w1 hw1
  have p0 := gatePiece m c q j 0 inb0 h0 w0 hw0
  have hy0 : (y 0).val < 512 := (y 0).isLt
  by_cases hlt : (y 1).val < 1024 * j.val
  · rw [View.read_writes_apply_of_forall_not_mem, harg.read_unread]
    · exact hv y hlt
    · intro p hp
      simp only [List.mem_cons, List.not_mem_nil, or_false] at hp
      rcases hp with rfl | rfl
      · rw [Rect.mem_set_unit]
        intro hall
        have := (hall 1).1
        rw [h1] at this
        change 1024 * j.val + 512 * 1 ≤ (y 1).val at this
        omega
      · rw [Rect.mem_set_unit]
        intro hall
        have := (hall 1).1
        rw [h0] at this
        change 1024 * j.val + 512 * 0 ≤ (y 1).val at this
        omega
  · refine View.read_writes_apply_of_pieces _ _ (VV m c q) _ ?_ y ?_
    · intro p hp
      simp only [List.mem_cons, List.not_mem_nil, or_false] at hp
      rcases hp with rfl | rfl
      · exact p1
      · exact p0
    · by_cases hl : (y 1).val < 1024 * j.val + 512
      · refine ⟨_, List.mem_cons_of_mem _ List.mem_cons_self, ?_⟩
        rw [Rect.mem_set_unit]
        subst h0
        refine Fin.forall_fin_two.mpr ⟨⟨Nat.zero_le _, ?_⟩, ?_, ?_⟩
        · show (y 0).val < 0 + 512; omega
        · show 1024 * j.val + 512 * 0 ≤ (y 1).val; omega
        · show (y 1).val < 1024 * j.val + 512 * 0 + 512; omega
      · refine ⟨_, List.mem_cons_self, ?_⟩
        rw [Rect.mem_set_unit]
        subst h1
        refine Fin.forall_fin_two.mpr ⟨⟨Nat.zero_le _, ?_⟩, ?_, ?_⟩
        · show (y 0).val < 0 + 512; omega
        · show 1024 * j.val + 512 * 1 ≤ (y 1).val; omega
        · show (y 1).val < 1024 * j.val + 512 * 1 + 512; omega

theorem pay1_congr {x x' : Vec F S1x512x2048 .f32} {g g' : Vec F S1x2048 .f32} {a a' b b' : Vec F S1x1x2048 .f32}
    (hx : x = x') (hg : g = g') (ha : a = a') (hb : b = b') : k0_pay1 x g a b = k0_pay1 x' g' a' b' := by
  subst hx hg ha hb; rfl
theorem pay8_congr {x x' : Vec F S512x2048 .bf16} {w w' : Vec F S2048x512 .bf16} {b b' : Vec F S1x512 .f32}
    (hx : x = x') (hw : w = w') (hb : b = b') : k0_pay8 x w b = k0_pay8 x' w' b' := by
  subst hx hw hb; rfl

set_option maxHeartbeats 1000000 in
theorem A_h (c : Dev nD) (q : Fin 64) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x512 .f32) (harg7 : arg7.IsWhole) (arg8 : Memref sig .tc .vmem S2048x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S16x128x128 .f32) (harg12 : arg12.IsWhole) (arg13 : Memref sig .tc .vmem S16x128x1 .f32) (harg13 : arg13.IsWhole) (arg14 : Memref sig .tc .vmem S4096x512 .bf16) (harg14 : arg14.IsWhole) (arg15 : Memref sig .tc .vmem S1x512 .f32) (harg15 : arg15.IsWhole) (arg16 : Memref sig .tc .vmem S1x512x512 .f32) (harg16 : arg16.IsWhole) (arg17 : Memref sig .tc .vmem S512x2048 .bf16) (harg17 : arg17.IsWhole) (arg18 : Memref sig .tc .vmem S512x4096 .f32) (harg18 : arg18.IsWhole) (arg19 : Memref sig .tc .vmem S512x4096 .bf16) (harg19 : arg19.IsWhole) (arg20 : Memref sig .tc .vmem S512x1 .f32) (harg20 : arg20.IsWhole) (arg21 : Memref sig .tc .vmem S512x1 .f32) (harg21 : arg21.IsWhole) (hc1 : cond1 (grid0.coords (pt q 0))) (hc2 : cond2 (grid0.coords (pt q 0))) (hc3 : ¬cond3 (grid0.coords (pt q 0))) (hc4 : ¬cond4 (grid0.coords (pt q 0))) (hc5 : ¬cond5 (grid0.coords (pt q 0))) (o : Vec F S1x512x512 .f32) (h : Vec F S512x2048 .bf16) (v : Vec F S512x4096 .f32) (mix : Vec F S512x4096 .bf16) (mu rs : Vec F S512x1 .f32) :
    arg17.view.read (Elt F) (arg17.view.writes (Elt F) (harg17.unread h) (runA c (grid0.coords (pt q 0)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc1 hc2 hc3 hc4 hc5 (iblk m c 0 (pt q 0)) (iblk m c 1 (pt q 0)) (iblk m c 2 (pt q 0)) (iblk m c 3 (pt q 0)) (iblk m c 4 (pt q 0)) (iblk m c 5 (pt q 0)) (iblk m c 6 (pt q 0)) (iblk m c 7 (pt q 0)) (iblk m c 8 (pt q 0)) (iblk m c 9 (pt q 0)) (iblk m c 10 (pt q 0)) (iblk m c 11 (pt q 0)) (iblk m c 12 (pt q 0)) o h v mix mu rs).1) = HH m c q := by
  refine (read_store harg17 (harg17.unread h) inb_S512x2048_S512x2048_0_0 _).trans ?_
  exact pay1_congr (readAt_full harg3 _ _) (readAt_full harg4 _ _) (readAt_full harg5 _ _) (readAt_full harg6 _ _)

set_option maxHeartbeats 1000000 in
theorem A_v (c : Dev nD) (q : Fin 64) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x512 .f32) (harg7 : arg7.IsWhole) (arg8 : Memref sig .tc .vmem S2048x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S16x128x128 .f32) (harg12 : arg12.IsWhole) (arg13 : Memref sig .tc .vmem S16x128x1 .f32) (harg13 : arg13.IsWhole) (arg14 : Memref sig .tc .vmem S4096x512 .bf16) (harg14 : arg14.IsWhole) (arg15 : Memref sig .tc .vmem S1x512 .f32) (harg15 : arg15.IsWhole) (arg16 : Memref sig .tc .vmem S1x512x512 .f32) (harg16 : arg16.IsWhole) (arg17 : Memref sig .tc .vmem S512x2048 .bf16) (harg17 : arg17.IsWhole) (arg18 : Memref sig .tc .vmem S512x4096 .f32) (harg18 : arg18.IsWhole) (arg19 : Memref sig .tc .vmem S512x4096 .bf16) (harg19 : arg19.IsWhole) (arg20 : Memref sig .tc .vmem S512x1 .f32) (harg20 : arg20.IsWhole) (arg21 : Memref sig .tc .vmem S512x1 .f32) (harg21 : arg21.IsWhole) (hc1 : cond1 (grid0.coords (pt q 0))) (hc2 : cond2 (grid0.coords (pt q 0))) (hc3 : ¬cond3 (grid0.coords (pt q 0))) (hc4 : ¬cond4 (grid0.coords (pt q 0))) (hc5 : ¬cond5 (grid0.coords (pt q 0))) (o : Vec F S1x512x512 .f32) (h : Vec F S512x2048 .bf16) (v : Vec F S512x4096 .f32) (mix : Vec F S512x4096 .bf16) (mu rs : Vec F S512x1 .f32) :
    ∀ y : S512x4096.Idx, (y 1).val < 1024 * (0 : Fin 4).val + 1024 → arg18.view.read (Elt F) (arg18.view.writes (Elt F) (harg18.unread v) (runA c (grid0.coords (pt q 0)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc1 hc2 hc3 hc4 hc5 (iblk m c 0 (pt q 0)) (iblk m c 1 (pt q 0)) (iblk m c 2 (pt q 0)) (iblk m c 3 (pt q 0)) (iblk m c 4 (pt q 0)) (iblk m c 5 (pt q 0)) (iblk m c 6 (pt q 0)) (iblk m c 7 (pt q 0)) (iblk m c 8 (pt q 0)) (iblk m c 9 (pt q 0)) (iblk m c 10 (pt q 0)) (iblk m c 11 (pt q 0)) (iblk m c 12 (pt q 0)) o h v mix mu rs).2.1) y = VV m c q y := by
  refine gate_read m c q 0 arg18 harg18 v (fun y hy => absurd hy (Nat.not_lt_zero _)) _ _ (off1_eq (pt q 0) ?_ 1 |>.trans ?_) (off1_eq (pt q 0) ?_ 0 |>.trans ?_) _ _ ?_ ?_
  · rw [pt_mod]; decide
  · rw [pt_mod]; try rfl
  · rw [pt_mod]; decide
  · rw [pt_mod]; try rfl
  · unfold runA.sl.r runA.sl.r_1
    rw [pay_gate]
    refine pay8_congr ?_ ?_ ?_
    · unfold runA.sl.v19
      refine (readAt_all harg17 _ _).trans ?_
      unfold runA.sl.H17_1
      refine (read_store harg17 _ _ _).trans ?_
      exact pay1_congr (readAt_full harg3 _ _) (readAt_full harg4 _ _) (readAt_full harg5 _ _) (readAt_full harg6 _ _)
    · exact readAt_sub harg8 _ _ _ rfl
    · exact readAt_sub harg9 _ _ _ rfl
  · refine pay8_congr ?_ ?_ ?_
    · unfold runA.sl.v19
      refine (readAt_all harg17 _ _).trans ?_
      unfold runA.sl.H17_1
      refine (read_store harg17 _ _ _).trans ?_
      exact pay1_congr (readAt_full harg3 _ _) (readAt_full harg4 _ _) (readAt_full harg5 _ _) (readAt_full harg6 _ _)
    · exact readAt_sub harg8 _ _ _ rfl
    · exact readAt_sub harg9 _ _ _ rfl

set_option maxHeartbeats 1000000 in
theorem B_v (c : Dev nD) (q : Fin 64) (j : Fin 4) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x512 .f32) (harg7 : arg7.IsWhole) (arg8 : Memref sig .tc .vmem S2048x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S16x128x128 .f32) (harg12 : arg12.IsWhole) (arg13 : Memref sig .tc .vmem S16x128x1 .f32) (harg13 : arg13.IsWhole) (arg14 : Memref sig .tc .vmem S4096x512 .bf16) (harg14 : arg14.IsWhole) (arg15 : Memref sig .tc .vmem S1x512 .f32) (harg15 : arg15.IsWhole) (arg16 : Memref sig .tc .vmem S1x512x512 .f32) (harg16 : arg16.IsWhole) (arg17 : Memref sig .tc .vmem S512x2048 .bf16) (harg17 : arg17.IsWhole) (arg18 : Memref sig .tc .vmem S512x4096 .f32) (harg18 : arg18.IsWhole) (arg19 : Memref sig .tc .vmem S512x4096 .bf16) (harg19 : arg19.IsWhole) (arg20 : Memref sig .tc .vmem S512x1 .f32) (harg20 : arg20.IsWhole) (arg21 : Memref sig .tc .vmem S512x1 .f32) (harg21 : arg21.IsWhole) (hc2 : cond2 (grid0.coords (pt q ⟨j.val, by omega⟩))) (hc1 : ¬cond1 (grid0.coords (pt q ⟨j.val, by omega⟩))) (hc3 : ¬cond3 (grid0.coords (pt q ⟨j.val, by omega⟩))) (hc4 : ¬cond4 (grid0.coords (pt q ⟨j.val, by omega⟩))) (hc5 : ¬cond5 (grid0.coords (pt q ⟨j.val, by omega⟩))) (o : Vec F S1x512x512 .f32) (v : Vec F S512x4096 .f32) (mix : Vec F S512x4096 .bf16) (mu rs : Vec F S512x1 .f32) (hv : ∀ y : S512x4096.Idx, (y 1).val < 1024 * j.val → v y = VV m c q y) :
    ∀ y : S512x4096.Idx, (y 1).val < 1024 * j.val + 1024 → arg18.view.read (Elt F) (arg18.view.writes (Elt F) (harg18.unread v) (runB c (grid0.coords (pt q ⟨j.val, by omega⟩)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc2 hc1 hc3 hc4 hc5 (iblk m c 0 (pt q ⟨j.val, by omega⟩)) (iblk m c 1 (pt q ⟨j.val, by omega⟩)) (iblk m c 2 (pt q ⟨j.val, by omega⟩)) (iblk m c 3 (pt q ⟨j.val, by omega⟩)) (iblk m c 4 (pt q ⟨j.val, by omega⟩)) (iblk m c 5 (pt q ⟨j.val, by omega⟩)) (iblk m c 6 (pt q ⟨j.val, by omega⟩)) (iblk m c 7 (pt q ⟨j.val, by omega⟩)) (iblk m c 8 (pt q ⟨j.val, by omega⟩)) (iblk m c 9 (pt q ⟨j.val, by omega⟩)) (iblk m c 10 (pt q ⟨j.val, by omega⟩)) (iblk m c 11 (pt q ⟨j.val, by omega⟩)) (iblk m c 12 (pt q ⟨j.val, by omega⟩)) o (HH m c q) v mix mu rs).1) y = VV m c q y := by
  refine gate_read m c q j arg18 harg18 v hv _ _ (off1_eq (pt q ⟨j.val, by omega⟩) ?_ 1 |>.trans ?_) (off1_eq (pt q ⟨j.val, by omega⟩) ?_ 0 |>.trans ?_) _ _ ?_ ?_
  · rw [pt_mod]; exact j.isLt
  · rw [pt_mod]; try rfl
  · rw [pt_mod]; exact j.isLt
  · rw [pt_mod]; try rfl
  · unfold runB.sl.r runB.sl.r_1
    rw [pay_gate]
    refine pay8_congr ?_ ?_ ?_
    · exact readAt_full harg17 _ _
    · exact readAt_sub harg8 _ _ _ rfl
    · exact readAt_sub harg9 _ _ _ rfl
  · refine pay8_congr ?_ ?_ ?_
    · exact readAt_full harg17 _ _
    · exact readAt_sub harg8 _ _ _ rfl
    · exact readAt_sub harg9 _ _ _ rfl

set_option maxHeartbeats 1000000 in
theorem C_v (c : Dev nD) (q : Fin 64) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x512 .f32) (harg7 : arg7.IsWhole) (arg8 : Memref sig .tc .vmem S2048x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S16x128x128 .f32) (harg12 : arg12.IsWhole) (arg13 : Memref sig .tc .vmem S16x128x1 .f32) (harg13 : arg13.IsWhole) (arg14 : Memref sig .tc .vmem S4096x512 .bf16) (harg14 : arg14.IsWhole) (arg15 : Memref sig .tc .vmem S1x512 .f32) (harg15 : arg15.IsWhole) (arg16 : Memref sig .tc .vmem S1x512x512 .f32) (harg16 : arg16.IsWhole) (arg17 : Memref sig .tc .vmem S512x2048 .bf16) (harg17 : arg17.IsWhole) (arg18 : Memref sig .tc .vmem S512x4096 .f32) (harg18 : arg18.IsWhole) (arg19 : Memref sig .tc .vmem S512x4096 .bf16) (harg19 : arg19.IsWhole) (arg20 : Memref sig .tc .vmem S512x1 .f32) (harg20 : arg20.IsWhole) (arg21 : Memref sig .tc .vmem S512x1 .f32) (harg21 : arg21.IsWhole) (hc2 : cond2 (grid0.coords (pt q 3))) (hc3 : cond3 (grid0.coords (pt q 3))) (hc1 : ¬cond1 (grid0.coords (pt q 3))) (hc4 : ¬cond4 (grid0.coords (pt q 3))) (hc5 : ¬cond5 (grid0.coords (pt q 3))) (o : Vec F S1x512x512 .f32) (v : Vec F S512x4096 .f32) (mix : Vec F S512x4096 .bf16) (mu rs : Vec F S512x1 .f32) (hv : ∀ y : S512x4096.Idx, (y 1).val < 1024 * (3 : Fin 4).val → v y = VV m c q y) :
    arg18.view.read (Elt F) (arg18.view.writes (Elt F) (harg18.unread v) (runC c (grid0.coords (pt q 3)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc2 hc3 hc1 hc4 hc5 (iblk m c 0 (pt q 3)) (iblk m c 1 (pt q 3)) (iblk m c 2 (pt q 3)) (iblk m c 3 (pt q 3)) (iblk m c 4 (pt q 3)) (iblk m c 5 (pt q 3)) (iblk m c 6 (pt q 3)) (iblk m c 7 (pt q 3)) (iblk m c 8 (pt q 3)) (iblk m c 9 (pt q 3)) (iblk m c 10 (pt q 3)) (iblk m c 11 (pt q 3)) (iblk m c 12 (pt q 3)) o (HH m c q) v mix mu rs).1) = VV m c q := by
  funext y
  refine gate_read m c q 3 arg18 harg18 v hv _ _ (off1_eq (pt q 3) ?_ 1 |>.trans ?_) (off1_eq (pt q 3) ?_ 0 |>.trans ?_) _ _ ?_ ?_ y (y 1).isLt
  · rw [pt_mod]; decide
  · rw [pt_mod]; try rfl
  · rw [pt_mod]; decide
  · rw [pt_mod]; try rfl
  · unfold runC.sl.r runC.sl.r_1
    rw [pay_gate]
    refine pay8_congr ?_ ?_ ?_
    · exact readAt_full harg17 _ _
    · exact readAt_sub harg8 _ _ _ rfl
    · exact readAt_sub harg9 _ _ _ rfl
  · refine pay8_congr ?_ ?_ ?_
    · exact readAt_full harg17 _ _
    · exact readAt_sub harg8 _ _ _ rfl
    · exact readAt_sub harg9 _ _ _ rfl

set_option maxHeartbeats 1000000 in
theorem C_mu (c : Dev nD) (q : Fin 64) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x512 .f32) (harg7 : arg7.IsWhole) (arg8 : Memref sig .tc .vmem S2048x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S16x128x128 .f32) (harg12 : arg12.IsWhole) (arg13 : Memref sig .tc .vmem S16x128x1 .f32) (harg13 : arg13.IsWhole) (arg14 : Memref sig .tc .vmem S4096x512 .bf16) (harg14 : arg14.IsWhole) (arg15 : Memref sig .tc .vmem S1x512 .f32) (harg15 : arg15.IsWhole) (arg16 : Memref sig .tc .vmem S1x512x512 .f32) (harg16 : arg16.IsWhole) (arg17 : Memref sig .tc .vmem S512x2048 .bf16) (harg17 : arg17.IsWhole) (arg18 : Memref sig .tc .vmem S512x4096 .f32) (harg18 : arg18.IsWhole) (arg19 : Memref sig .tc .vmem S512x4096 .bf16) (harg19 : arg19.IsWhole) (arg20 : Memref sig .tc .vmem S512x1 .f32) (harg20 : arg20.IsWhole) (arg21 : Memref sig .tc .vmem S512x1 .f32) (harg21 : arg21.IsWhole) (hc2 : cond2 (grid0.coords (pt q 3))) (hc3 : cond3 (grid0.coords (pt q 3))) (hc1 : ¬cond1 (grid0.coords (pt q 3))) (hc4 : ¬cond4 (grid0.coords (pt q 3))) (hc5 : ¬cond5 (grid0.coords (pt q 3))) (o : Vec F S1x512x512 .f32) (v : Vec F S512x4096 .f32) (mix : Vec F S512x4096 .bf16) (mu rs : Vec F S512x1 .f32) (hv : ∀ y : S512x4096.Idx, (y 1).val < 1024 * (3 : Fin 4).val → v y = VV m c q y) :
    arg20.view.read (Elt F) (arg20.view.writes (Elt F) (harg20.unread mu) (runC c (grid0.coords (pt q 3)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc2 hc3 hc1 hc4 hc5 (iblk m c 0 (pt q 3)) (iblk m c 1 (pt q 3)) (iblk m c 2 (pt q 3)) (iblk m c 3 (pt q 3)) (iblk m c 4 (pt q 3)) (iblk m c 5 (pt q 3)) (iblk m c 6 (pt q 3)) (iblk m c 7 (pt q 3)) (iblk m c 8 (pt q 3)) (iblk m c 9 (pt q 3)) (iblk m c 10 (pt q 3)) (iblk m c 11 (pt q 3)) (iblk m c 12 (pt q 3)) o (HH m c q) v mix mu rs).2.1) = k0_pay4 (VV m c q) := by
  refine (read_store harg20 _ _ _).trans (congrArg k0_pay4 ?_)
  exact (readAt_all harg18 _ _).trans (C_v m c q arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc2 hc3 hc1 hc4 hc5 o v mix mu rs hv)

set_option maxHeartbeats 1000000 in
theorem C_rs (c : Dev nD) (q : Fin 64) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x512 .f32) (harg7 : arg7.IsWhole) (arg8 : Memref sig .tc .vmem S2048x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S16x128x128 .f32) (harg12 : arg12.IsWhole) (arg13 : Memref sig .tc .vmem S16x128x1 .f32) (harg13 : arg13.IsWhole) (arg14 : Memref sig .tc .vmem S4096x512 .bf16) (harg14 : arg14.IsWhole) (arg15 : Memref sig .tc .vmem S1x512 .f32) (harg15 : arg15.IsWhole) (arg16 : Memref sig .tc .vmem S1x512x512 .f32) (harg16 : arg16.IsWhole) (arg17 : Memref sig .tc .vmem S512x2048 .bf16) (harg17 : arg17.IsWhole) (arg18 : Memref sig .tc .vmem S512x4096 .f32) (harg18 : arg18.IsWhole) (arg19 : Memref sig .tc .vmem S512x4096 .bf16) (harg19 : arg19.IsWhole) (arg20 : Memref sig .tc .vmem S512x1 .f32) (harg20 : arg20.IsWhole) (arg21 : Memref sig .tc .vmem S512x1 .f32) (harg21 : arg21.IsWhole) (hc2 : cond2 (grid0.coords (pt q 3))) (hc3 : cond3 (grid0.coords (pt q 3))) (hc1 : ¬cond1 (grid0.coords (pt q 3))) (hc4 : ¬cond4 (grid0.coords (pt q 3))) (hc5 : ¬cond5 (grid0.coords (pt q 3))) (o : Vec F S1x512x512 .f32) (v : Vec F S512x4096 .f32) (mix : Vec F S512x4096 .bf16) (mu rs : Vec F S512x1 .f32) (hv : ∀ y : S512x4096.Idx, (y 1).val < 1024 * (3 : Fin 4).val → v y = VV m c q y) :
    arg21.view.read (Elt F) (arg21.view.writes (Elt F) (harg21.unread rs) (runC c (grid0.coords (pt q 3)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc2 hc3 hc1 hc4 hc5 (iblk m c 0 (pt q 3)) (iblk m c 1 (pt q 3)) (iblk m c 2 (pt q 3)) (iblk m c 3 (pt q 3)) (iblk m c 4 (pt q 3)) (iblk m c 5 (pt q 3)) (iblk m c 6 (pt q 3)) (iblk m c 7 (pt q 3)) (iblk m c 8 (pt q 3)) (iblk m c 9 (pt q 3)) (iblk m c 10 (pt q 3)) (iblk m c 11 (pt q 3)) (iblk m c 12 (pt q 3)) o (HH m c q) v mix mu rs).2.2.1) = k0_pay5 (VV m c q) := by
  refine (read_store harg21 _ _ _).trans (congrArg k0_pay5 ?_)
  exact (readAt_all harg18 _ _).trans (C_v m c q arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc2 hc3 hc1 hc4 hc5 o v mix mu rs hv)

theorem pay53_congr {x x' : Vec F S512x4096 .bf16} {w w' : Vec F S4096x256 .bf16} {r r' : Vec F S1x512x256 .f32} {g g' : Vec F S1x1x256 .f32} {b b' : Vec F S1x256 .f32}
    (hx : x = x') (hw : w = w') (hr : r = r') (hg : g = g') (hb : b = b') : k0_pay53 x w r g b = k0_pay53 x' w' r' g' b' := by
  subst hx hw hr hg hb; rfl

set_option maxHeartbeats 1000000 in
theorem E_out (c : Dev nD) (q : Fin 64) (jj : Fin 4) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x512 .f32) (harg7 : arg7.IsWhole) (arg8 : Memref sig .tc .vmem S2048x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S16x128x128 .f32) (harg12 : arg12.IsWhole) (arg13 : Memref sig .tc .vmem S16x128x1 .f32) (harg13 : arg13.IsWhole) (arg14 : Memref sig .tc .vmem S4096x512 .bf16) (harg14 : arg14.IsWhole) (arg15 : Memref sig .tc .vmem S1x512 .f32) (harg15 : arg15.IsWhole) (arg16 : Memref sig .tc .vmem S1x512x512 .f32) (harg16 : arg16.IsWhole) (arg17 : Memref sig .tc .vmem S512x2048 .bf16) (harg17 : arg17.IsWhole) (arg18 : Memref sig .tc .vmem S512x4096 .f32) (harg18 : arg18.IsWhole) (arg19 : Memref sig .tc .vmem S512x4096 .bf16) (harg19 : arg19.IsWhole) (arg20 : Memref sig .tc .vmem S512x1 .f32) (harg20 : arg20.IsWhole) (arg21 : Memref sig .tc .vmem S512x1 .f32) (harg21 : arg21.IsWhole) (hc5 : cond5 (grid0.coords (pt q ⟨8 + jj.val, by omega⟩))) (hc1 : ¬cond1 (grid0.coords (pt q ⟨8 + jj.val, by omega⟩))) (hc2 : ¬cond2 (grid0.coords (pt q ⟨8 + jj.val, by omega⟩))) (hc3 : ¬cond3 (grid0.coords (pt q ⟨8 + jj.val, by omega⟩))) (hc4 : ¬cond4 (grid0.coords (pt q ⟨8 + jj.val, by omega⟩))) (o : Vec F S1x512x512 .f32) (h : Vec F S512x2048 .bf16) (v : Vec F S512x4096 .f32) (mu rs : Vec F S512x1 .f32) :
    arg16.view.read (Elt F) (arg16.view.writes (Elt F) (harg16.unread o) (runE c (grid0.coords (pt q ⟨8 + jj.val, by omega⟩)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc5 hc1 hc2 hc3 hc4 (iblk m c 0 (pt q ⟨8 + jj.val, by omega⟩)) (iblk m c 1 (pt q ⟨8 + jj.val, by omega⟩)) (iblk m c 2 (pt q ⟨8 + jj.val, by omega⟩)) (iblk m c 3 (pt q ⟨8 + jj.val, by omega⟩)) (iblk m c 4 (pt q ⟨8 + jj.val, by omega⟩)) (iblk m c 5 (pt q ⟨8 + jj.val, by omega⟩)) (iblk m c 6 (pt q ⟨8 + jj.val, by omega⟩)) (iblk m c 7 (pt q ⟨8 + jj.val, by omega⟩)) (iblk m c 8 (pt q ⟨8 + jj.val, by omega⟩)) (iblk m c 9 (pt q ⟨8 + jj.val, by omega⟩)) (iblk m c 10 (pt q ⟨8 + jj.val, by omega⟩)) (iblk m c 11 (pt q ⟨8 + jj.val, by omega⟩)) (iblk m c 12 (pt q ⟨8 + jj.val, by omega⟩)) o h v (MM m c q) mu rs).1) = OO m c q jj := by
  have key : ∀ p ∈ (runE c (grid0.coords (pt q ⟨8 + jj.val, by omega⟩)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc5 hc1 hc2 hc3 hc4 (iblk m c 0 (pt q ⟨8 + jj.val, by omega⟩)) (iblk m c 1 (pt q ⟨8 + jj.val, by omega⟩)) (iblk m c 2 (pt q ⟨8 + jj.val, by omega⟩)) (iblk m c 3 (pt q ⟨8 + jj.val, by omega⟩)) (iblk m c 4 (pt q ⟨8 + jj.val, by omega⟩)) (iblk m c 5 (pt q ⟨8 + jj.val, by omega⟩)) (iblk m c 6 (pt q ⟨8 + jj.val, by omega⟩)) (iblk m c 7 (pt q ⟨8 + jj.val, by omega⟩)) (iblk m c 8 (pt q ⟨8 + jj.val, by omega⟩)) (iblk m c 9 (pt q ⟨8 + jj.val, by omega⟩)) (iblk m c 10 (pt q ⟨8 + jj.val, by omega⟩)) (iblk m c 11 (pt q ⟨8 + jj.val, by omega⟩)) (iblk m c 12 (pt q ⟨8 + jj.val, by omega⟩)) o h v (MM m c q) mu rs).1, ∀ x : p.1.shape.Idx, p.2 x = OO m c q jj (p.1.emb x) := by
    unfold runE
    intro p hp
    simp only [List.mem_cons, List.not_mem_nil, or_false] at hp
    rcases hp with rfl | rfl
    · refine outPiece m c q jj 1 inb_S1x512x512_S1x512x256_0_0_256 rfl _ ?_
      unfold runE.sl.r runE.sl.r_1
      refine (pay_out _ _ _ _ _).trans ?_
      refine pay53_congr ?_ ?_ ?_ ?_ ?_
      · exact readAt_full harg19 _ _
      · exact readAt_sub harg14 _ _ _ rfl
      · refine readAt_sub harg3 _ _ _ ((off9_eq (pt q ⟨8 + jj.val, by omega⟩) ?_ 1).trans ?_)
        · rw [pt_mod]; exact Nat.le_add_right _ _
        · rw [pt_mod]; exact congrArg (fun n => ![0, 0, 512 * n + 256 * (1 : Fin 2).val]) (Nat.add_sub_cancel_left 8 jj.val)
      · exact readAt_sub harg7 _ _ _ rfl
      · exact readAt_sub harg15 _ _ _ rfl

    · refine outPiece m c q jj 0 inb_S1x512x512_S1x512x256_0_0_0 rfl _ ?_
      refine pay53_congr ?_ ?_ ?_ ?_ ?_
      · exact readAt_full harg19 _ _
      · exact readAt_sub harg14 _ _ _ rfl
      · refine readAt_sub harg3 _ _ _ ((off9_eq (pt q ⟨8 + jj.val, by omega⟩) ?_ 0).trans ?_)
        · rw [pt_mod]; exact Nat.le_add_right _ _
        · rw [pt_mod]; exact congrArg (fun n => ![0, 0, 512 * n + 256 * (0 : Fin 2).val]) (Nat.add_sub_cancel_left 8 jj.val)
      · exact readAt_sub harg7 _ _ _ rfl
      · exact readAt_sub harg15 _ _ _ rfl

  funext y
  have hy0 : (y 0).val < 1 := (y 0).isLt
  have hy1 : (y 1).val < 512 := (y 1).isLt
  have hy2 : (y 2).val < 512 := (y 2).isLt
  refine View.read_writes_apply_of_pieces _ _ (OO m c q jj) _ key y ?_
  by_cases hl : (y 2).val < 256
  · refine ⟨_, List.mem_cons_of_mem _ List.mem_cons_self, ?_⟩
    show y ∈ (Rect.unit (s := S1x512x512) ![0, 0, 0] ![1, 512, 256] inb_S1x512x512_S1x512x256_0_0_0).set
    refine Rect.mem_set_unit.mpr ?_
    intro a; fin_cases a
    · exact ⟨Nat.zero_le _, by show (y 0).val < 0 + 1; omega⟩
    · exact ⟨Nat.zero_le _, by show (y 1).val < 0 + 512; omega⟩
    · exact ⟨Nat.zero_le _, by show (y 2).val < 0 + 256; omega⟩
  · refine ⟨_, List.mem_cons_self, ?_⟩
    show y ∈ (Rect.unit (s := S1x512x512) ![0, 0, 256] ![1, 512, 256] inb_S1x512x512_S1x512x256_0_0_256).set
    refine Rect.mem_set_unit.mpr ?_
    intro a; fin_cases a
    · exact ⟨Nat.zero_le _, by show (y 0).val < 0 + 1; omega⟩
    · exact ⟨Nat.zero_le _, by show (y 1).val < 0 + 512; omega⟩
    · exact ⟨by show 256 ≤ (y 2).val; omega, by show (y 2).val < 256 + 256; omega⟩

end Cert.KernelIdeal.Gmlp

end
-- ==== Proof.GmlpCaseD.lean ====
module

public import proofs.«01_k».proof.Proof.GmlpCases

@[expose] public section

set_option maxRecDepth 16384

noncomputable section

namespace Cert.KernelIdeal.Gmlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

theorem mixP_congr (r : Fin 4) {h h' : Vec F S512x2048 .bf16} {w w' : Vec F S2048x256 .bf16} {b b' : Vec F S1x256 .f32} {v v' : Vec F S512x256 .f32} {mu mu' rs rs' : Vec F S512x1 .f32} {lg lg' lb lb' : Vec F S1x256 .f32} {ws ws' : Vec F S1x128x128 .f32} {bs bs' : Vec F S1x128x1 .f32} (eh : h = h') (ew : w = w') (eb : b = b') (ev : v = v') (emu : mu = mu') (ers : rs = rs') (elg : lg = lg') (elb : lb = lb') (ews : ws = ws') (ebs : bs = bs') :
    mixP r h w b v mu rs lg lb ws bs = mixP r h' w' b' v' mu' rs' lg' lb' ws' bs' := by
  subst eh ew eb ev emu ers elg elb ews ebs; rfl

set_option maxHeartbeats 4000000 in
theorem D_piece (c : Dev nD) (q : Fin 64) (j : Fin 4) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x512 .f32) (harg7 : arg7.IsWhole) (arg8 : Memref sig .tc .vmem S2048x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S16x128x128 .f32) (harg12 : arg12.IsWhole) (arg13 : Memref sig .tc .vmem S16x128x1 .f32) (harg13 : arg13.IsWhole) (arg14 : Memref sig .tc .vmem S4096x512 .bf16) (harg14 : arg14.IsWhole) (arg15 : Memref sig .tc .vmem S1x512 .f32) (harg15 : arg15.IsWhole) (arg16 : Memref sig .tc .vmem S1x512x512 .f32) (harg16 : arg16.IsWhole) (arg17 : Memref sig .tc .vmem S512x2048 .bf16) (harg17 : arg17.IsWhole) (arg18 : Memref sig .tc .vmem S512x4096 .f32) (harg18 : arg18.IsWhole) (arg19 : Memref sig .tc .vmem S512x4096 .bf16) (harg19 : arg19.IsWhole) (arg20 : Memref sig .tc .vmem S512x1 .f32) (harg20 : arg20.IsWhole) (arg21 : Memref sig .tc .vmem S512x1 .f32) (harg21 : arg21.IsWhole) (hc4 : cond4 (grid0.coords (pt q ⟨4 + j.val, by omega⟩))) (hc1 : ¬cond1 (grid0.coords (pt q ⟨4 + j.val, by omega⟩))) (hc2 : ¬cond2 (grid0.coords (pt q ⟨4 + j.val, by omega⟩))) (hc3 : ¬cond3 (grid0.coords (pt q ⟨4 + j.val, by omega⟩))) (hc5 : ¬cond5 (grid0.coords (pt q ⟨4 + j.val, by omega⟩))) (o : Vec F S1x512x512 .f32) (mix : Vec F S512x4096 .bf16)  :
    ∀ p ∈ (runD c (grid0.coords (pt q ⟨4 + j.val, by omega⟩)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc4 hc1 hc2 hc3 hc5 (iblk m c 0 (pt q ⟨4 + j.val, by omega⟩)) (iblk m c 1 (pt q ⟨4 + j.val, by omega⟩)) (iblk m c 2 (pt q ⟨4 + j.val, by omega⟩)) (iblk m c 3 (pt q ⟨4 + j.val, by omega⟩)) (iblk m c 4 (pt q ⟨4 + j.val, by omega⟩)) (iblk m c 5 (pt q ⟨4 + j.val, by omega⟩)) (iblk m c 6 (pt q ⟨4 + j.val, by omega⟩)) (iblk m c 7 (pt q ⟨4 + j.val, by omega⟩)) (iblk m c 8 (pt q ⟨4 + j.val, by omega⟩)) (iblk m c 9 (pt q ⟨4 + j.val, by omega⟩)) (iblk m c 10 (pt q ⟨4 + j.val, by omega⟩)) (iblk m c 11 (pt q ⟨4 + j.val, by omega⟩)) (iblk m c 12 (pt q ⟨4 + j.val, by omega⟩)) o (HH m c q) (VV m c q) mix (k0_pay4 (VV m c q)) (k0_pay5 (VV m c q))).1, ∀ x : p.1.shape.Idx, p.2 x = MM m c q (p.1.emb x) := by
  have h4 : 4 ≤ (pt q ⟨4 + j.val, by omega⟩).val % 12 := by rw [pt_mod]; exact Nat.le_add_right _ _
  have h8 : (pt q ⟨4 + j.val, by omega⟩).val % 12 < 8 := by rw [pt_mod]; show 4 + j.val < 8; omega
  have hsub : (pt q ⟨4 + j.val, by omega⟩).val % 12 - 4 = j.val := by rw [pt_mod]; exact Nat.add_sub_cancel_left 4 j.val
  unfold runD
  intro p hp
  simp only [List.mem_cons, List.not_mem_nil, or_false] at hp
  rcases hp with rfl | rfl | rfl | rfl | rfl | rfl | rfl | rfl | rfl | rfl | rfl | rfl | rfl | rfl | rfl | rfl
  · refine mixPiece m c q 3 j 3 (k0_off8_inb _ hc4 3) ((off8_eq (pt q ⟨4 + j.val, by omega⟩) h4 h8 3).trans (congrArg (fun n => ![128 * (3 : Fin 4).val, 256 * (4 * n + (3 : Fin 4).val)]) hsub)) _ ?_
    refine (pay_3_3 ..).trans ?_
    refine mixP_congr _ ?_ ?_ ?_ ?_ ?_ ?_ ?_ ?_ ?_ ?_
    · exact readAt_full harg17 _ _
    · exact readAt_sub harg8 _ _ _ rfl
    · exact readAt_sub harg9 _ _ _ rfl
    · exact readAt_sub harg18 _ _ _ ((off2_eq (pt q ⟨4 + j.val, by omega⟩) h4 h8 3).trans (congrArg (fun n => ![0, 256 * (4 * n + (3 : Fin 4).val)]) hsub))
    · exact readAt_full harg20 _ _
    · exact readAt_full harg21 _ _
    · exact readAt_sub harg10 _ _ _ rfl
    · exact readAt_sub harg11 _ _ _ rfl
    · exact readAt_sub harg12 _ _ _ ((off3_eq (pt q ⟨4 + j.val, by omega⟩) h4 h8 3).trans (congrArg (fun n => ![4 * n + (3 : Fin 4).val, 0, 0]) hsub))
    · exact readAt_sub harg13 _ _ _ ((off4_eq (pt q ⟨4 + j.val, by omega⟩) h4 h8 3).trans (congrArg (fun n => ![4 * n + (3 : Fin 4).val, 0, 0]) hsub))
  · refine mixPiece m c q 2 j 3 (k0_off7_inb _ hc4 3) ((off7_eq (pt q ⟨4 + j.val, by omega⟩) h4 h8 3).trans (congrArg (fun n => ![128 * (2 : Fin 4).val, 256 * (4 * n + (3 : Fin 4).val)]) hsub)) _ ?_
    refine (pay_2_3 ..).trans ?_
    refine mixP_congr _ ?_ ?_ ?_ ?_ ?_ ?_ ?_ ?_ ?_ ?_
    · exact readAt_full harg17 _ _
    · exact readAt_sub harg8 _ _ _ rfl
    · exact readAt_sub harg9 _ _ _ rfl
    · exact readAt_sub harg18 _ _ _ ((off2_eq (pt q ⟨4 + j.val, by omega⟩) h4 h8 3).trans (congrArg (fun n => ![0, 256 * (4 * n + (3 : Fin 4).val)]) hsub))
    · exact readAt_full harg20 _ _
    · exact readAt_full harg21 _ _
    · exact readAt_sub harg10 _ _ _ rfl
    · exact readAt_sub harg11 _ _ _ rfl
    · exact readAt_sub harg12 _ _ _ ((off3_eq (pt q ⟨4 + j.val, by omega⟩) h4 h8 3).trans (congrArg (fun n => ![4 * n + (3 : Fin 4).val, 0, 0]) hsub))
    · exact readAt_sub harg13 _ _ _ ((off4_eq (pt q ⟨4 + j.val, by omega⟩) h4 h8 3).trans (congrArg (fun n => ![4 * n + (3 : Fin 4).val, 0, 0]) hsub))
  · refine mixPiece m c q 1 j 3 (k0_off6_inb _ hc4 3) ((off6_eq (pt q ⟨4 + j.val, by omega⟩) h4 h8 3).trans (congrArg (fun n => ![128 * (1 : Fin 4).val, 256 * (4 * n + (3 : Fin 4).val)]) hsub)) _ ?_
    refine (pay_1_3 ..).trans ?_
    refine mixP_congr _ ?_ ?_ ?_ ?_ ?_ ?_ ?_ ?_ ?_ ?_
    · exact readAt_full harg17 _ _
    · exact readAt_sub harg8 _ _ _ rfl
    · exact readAt_sub harg9 _ _ _ rfl
    · exact readAt_sub harg18 _ _ _ ((off2_eq (pt q ⟨4 + j.val, by omega⟩) h4 h8 3).trans (congrArg (fun n => ![0, 256 * (4 * n + (3 : Fin 4).val)]) hsub))
    · exact readAt_full harg20 _ _
    · exact readAt_full harg21 _ _
    · exact readAt_sub harg10 _ _ _ rfl
    · exact readAt_sub harg11 _ _ _ rfl
    · exact readAt_sub harg12 _ _ _ ((off3_eq (pt q ⟨4 + j.val, by omega⟩) h4 h8 3).trans (congrArg (fun n => ![4 * n + (3 : Fin 4).val, 0, 0]) hsub))
    · exact readAt_sub harg13 _ _ _ ((off4_eq (pt q ⟨4 + j.val, by omega⟩) h4 h8 3).trans (congrArg (fun n => ![4 * n + (3 : Fin 4).val, 0, 0]) hsub))
  · refine mixPiece m c q 0 j 3 (k0_off5_inb _ hc4 3) ((off5_eq (pt q ⟨4 + j.val, by omega⟩) h4 h8 3).trans (congrArg (fun n => ![128 * (0 : Fin 4).val, 256 * (4 * n + (3 : Fin 4).val)]) hsub)) _ ?_
    refine (pay_0_3 ..).trans ?_
    refine mixP_congr _ ?_ ?_ ?_ ?_ ?_ ?_ ?_ ?_ ?_ ?_
    · exact readAt_full harg17 _ _
    · exact readAt_sub harg8 _ _ _ rfl
    · exact readAt_sub harg9 _ _ _ rfl
    · exact readAt_sub harg18 _ _ _ ((off2_eq (pt q ⟨4 + j.val, by omega⟩) h4 h8 3).trans (congrArg (fun n => ![0, 256 * (4 * n + (3 : Fin 4).val)]) hsub))
    · exact readAt_full harg20 _ _
    · exact readAt_full harg21 _ _
    · exact readAt_sub harg10 _ _ _ rfl
    · exact readAt_sub harg11 _ _ _ rfl
    · exact readAt_sub harg12 _ _ _ ((off3_eq (pt q ⟨4 + j.val, by omega⟩) h4 h8 3).trans (congrArg (fun n => ![4 * n + (3 : Fin 4).val, 0, 0]) hsub))
    · exact readAt_sub harg13 _ _ _ ((off4_eq (pt q ⟨4 + j.val, by omega⟩) h4 h8 3).trans (congrArg (fun n => ![4 * n + (3 : Fin 4).val, 0, 0]) hsub))
  · refine mixPiece m c q 3 j 2 (k0_off8_inb _ hc4 2) ((off8_eq (pt q ⟨4 + j.val, by omega⟩) h4 h8 2).trans (congrArg (fun n => ![128 * (3 : Fin 4).val, 256 * (4 * n + (2 : Fin 4).val)]) hsub)) _ ?_
    refine (pay_3_2 ..).trans ?_
    refine mixP_congr _ ?_ ?_ ?_ ?_ ?_ ?_ ?_ ?_ ?_ ?_
    · exact readAt_full harg17 _ _
    · exact readAt_sub harg8 _ _ _ rfl
    · exact readAt_sub harg9 _ _ _ rfl
    · exact readAt_sub harg18 _ _ _ ((off2_eq (pt q ⟨4 + j.val, by omega⟩) h4 h8 2).trans (congrArg (fun n => ![0, 256 * (4 * n + (2 : Fin 4).val)]) hsub))
    · exact readAt_full harg20 _ _
    · exact readAt_full harg21 _ _
    · exact readAt_sub harg10 _ _ _ rfl
    · exact readAt_sub harg11 _ _ _ rfl
    · exact readAt_sub harg12 _ _ _ ((off3_eq (pt q ⟨4 + j.val, by omega⟩) h4 h8 2).trans (congrArg (fun n => ![4 * n + (2 : Fin 4).val, 0, 0]) hsub))
    · exact readAt_sub harg13 _ _ _ ((off4_eq (pt q ⟨4 + j.val, by omega⟩) h4 h8 2).trans (congrArg (fun n => ![4 * n + (2 : Fin 4).val, 0, 0]) hsub))
  · refine mixPiece m c q 2 j 2 (k0_off7_inb _ hc4 2) ((off7_eq (pt q ⟨4 + j.val, by omega⟩) h4 h8 2).trans (congrArg (fun n => ![128 * (2 : Fin 4).val, 256 * (4 * n + (2 : Fin 4).val)]) hsub)) _ ?_
    refine (pay_2_2 ..).trans ?_
    refine mixP_congr _ ?_ ?_ ?_ ?_ ?_ ?_ ?_ ?_ ?_ ?_
    · exact readAt_full harg17 _ _
    · exact readAt_sub harg8 _ _ _ rfl
    · exact readAt_sub harg9 _ _ _ rfl
    · exact readAt_sub harg18 _ _ _ ((off2_eq (pt q ⟨4 + j.val, by omega⟩) h4 h8 2).trans (congrArg (fun n => ![0, 256 * (4 * n + (2 : Fin 4).val)]) hsub))
    · exact readAt_full harg20 _ _
    · exact readAt_full harg21 _ _
    · exact readAt_sub harg10 _ _ _ rfl
    · exact readAt_sub harg11 _ _ _ rfl
    · exact readAt_sub harg12 _ _ _ ((off3_eq (pt q ⟨4 + j.val, by omega⟩) h4 h8 2).trans (congrArg (fun n => ![4 * n + (2 : Fin 4).val, 0, 0]) hsub))
    · exact readAt_sub harg13 _ _ _ ((off4_eq (pt q ⟨4 + j.val, by omega⟩) h4 h8 2).trans (congrArg (fun n => ![4 * n + (2 : Fin 4).val, 0, 0]) hsub))
  · refine mixPiece m c q 1 j 2 (k0_off6_inb _ hc4 2) ((off6_eq (pt q ⟨4 + j.val, by omega⟩) h4 h8 2).trans (congrArg (fun n => ![128 * (1 : Fin 4).val, 256 * (4 * n + (2 : Fin 4).val)]) hsub)) _ ?_
    refine (pay_1_2 ..).trans ?_
    refine mixP_congr _ ?_ ?_ ?_ ?_ ?_ ?_ ?_ ?_ ?_ ?_
    · exact readAt_full harg17 _ _
    · exact readAt_sub harg8 _ _ _ rfl
    · exact readAt_sub harg9 _ _ _ rfl
    · exact readAt_sub harg18 _ _ _ ((off2_eq (pt q ⟨4 + j.val, by omega⟩) h4 h8 2).trans (congrArg (fun n => ![0, 256 * (4 * n + (2 : Fin 4).val)]) hsub))
    · exact readAt_full harg20 _ _
    · exact readAt_full harg21 _ _
    · exact readAt_sub harg10 _ _ _ rfl
    · exact readAt_sub harg11 _ _ _ rfl
    · exact readAt_sub harg12 _ _ _ ((off3_eq (pt q ⟨4 + j.val, by omega⟩) h4 h8 2).trans (congrArg (fun n => ![4 * n + (2 : Fin 4).val, 0, 0]) hsub))
    · exact readAt_sub harg13 _ _ _ ((off4_eq (pt q ⟨4 + j.val, by omega⟩) h4 h8 2).trans (congrArg (fun n => ![4 * n + (2 : Fin 4).val, 0, 0]) hsub))
  · refine mixPiece m c q 0 j 2 (k0_off5_inb _ hc4 2) ((off5_eq (pt q ⟨4 + j.val, by omega⟩) h4 h8 2).trans (congrArg (fun n => ![128 * (0 : Fin 4).val, 256 * (4 * n + (2 : Fin 4).val)]) hsub)) _ ?_
    refine (pay_0_2 ..).trans ?_
    refine mixP_congr _ ?_ ?_ ?_ ?_ ?_ ?_ ?_ ?_ ?_ ?_
    · exact readAt_full harg17 _ _
    · exact readAt_sub harg8 _ _ _ rfl
    · exact readAt_sub harg9 _ _ _ rfl
    · exact readAt_sub harg18 _ _ _ ((off2_eq (pt q ⟨4 + j.val, by omega⟩) h4 h8 2).trans (congrArg (fun n => ![0, 256 * (4 * n + (2 : Fin 4).val)]) hsub))
    · exact readAt_full harg20 _ _
    · exact readAt_full harg21 _ _
    · exact readAt_sub harg10 _ _ _ rfl
    · exact readAt_sub harg11 _ _ _ rfl
    · exact readAt_sub harg12 _ _ _ ((off3_eq (pt q ⟨4 + j.val, by omega⟩) h4 h8 2).trans (congrArg (fun n => ![4 * n + (2 : Fin 4).val, 0, 0]) hsub))
    · exact readAt_sub harg13 _ _ _ ((off4_eq (pt q ⟨4 + j.val, by omega⟩) h4 h8 2).trans (congrArg (fun n => ![4 * n + (2 : Fin 4).val, 0, 0]) hsub))
  · refine mixPiece m c q 3 j 1 (k0_off8_inb _ hc4 1) ((off8_eq (pt q ⟨4 + j.val, by omega⟩) h4 h8 1).trans (congrArg (fun n => ![128 * (3 : Fin 4).val, 256 * (4 * n + (1 : Fin 4).val)]) hsub)) _ ?_
    refine (pay_3_1 ..).trans ?_
    refine mixP_congr _ ?_ ?_ ?_ ?_ ?_ ?_ ?_ ?_ ?_ ?_
    · exact readAt_full harg17 _ _
    · exact readAt_sub harg8 _ _ _ rfl
    · exact readAt_sub harg9 _ _ _ rfl
    · exact readAt_sub harg18 _ _ _ ((off2_eq (pt q ⟨4 + j.val, by omega⟩) h4 h8 1).trans (congrArg (fun n => ![0, 256 * (4 * n + (1 : Fin 4).val)]) hsub))
    · exact readAt_full harg20 _ _
    · exact readAt_full harg21 _ _
    · exact readAt_sub harg10 _ _ _ rfl
    · exact readAt_sub harg11 _ _ _ rfl
    · exact readAt_sub harg12 _ _ _ ((off3_eq (pt q ⟨4 + j.val, by omega⟩) h4 h8 1).trans (congrArg (fun n => ![4 * n + (1 : Fin 4).val, 0, 0]) hsub))
    · exact readAt_sub harg13 _ _ _ ((off4_eq (pt q ⟨4 + j.val, by omega⟩) h4 h8 1).trans (congrArg (fun n => ![4 * n + (1 : Fin 4).val, 0, 0]) hsub))
  · refine mixPiece m c q 2 j 1 (k0_off7_inb _ hc4 1) ((off7_eq (pt q ⟨4 + j.val, by omega⟩) h4 h8 1).trans (congrArg (fun n => ![128 * (2 : Fin 4).val, 256 * (4 * n + (1 : Fin 4).val)]) hsub)) _ ?_
    refine (pay_2_1 ..).trans ?_
    refine mixP_congr _ ?_ ?_ ?_ ?_ ?_ ?_ ?_ ?_ ?_ ?_
    · exact readAt_full harg17 _ _
    · exact readAt_sub harg8 _ _ _ rfl
    · exact readAt_sub harg9 _ _ _ rfl
    · exact readAt_sub harg18 _ _ _ ((off2_eq (pt q ⟨4 + j.val, by omega⟩) h4 h8 1).trans (congrArg (fun n => ![0, 256 * (4 * n + (1 : Fin 4).val)]) hsub))
    · exact readAt_full harg20 _ _
    · exact readAt_full harg21 _ _
    · exact readAt_sub harg10 _ _ _ rfl
    · exact readAt_sub harg11 _ _ _ rfl
    · exact readAt_sub harg12 _ _ _ ((off3_eq (pt q ⟨4 + j.val, by omega⟩) h4 h8 1).trans (congrArg (fun n => ![4 * n + (1 : Fin 4).val, 0, 0]) hsub))
    · exact readAt_sub harg13 _ _ _ ((off4_eq (pt q ⟨4 + j.val, by omega⟩) h4 h8 1).trans (congrArg (fun n => ![4 * n + (1 : Fin 4).val, 0, 0]) hsub))
  · refine mixPiece m c q 1 j 1 (k0_off6_inb _ hc4 1) ((off6_eq (pt q ⟨4 + j.val, by omega⟩) h4 h8 1).trans (congrArg (fun n => ![128 * (1 : Fin 4).val, 256 * (4 * n + (1 : Fin 4).val)]) hsub)) _ ?_
    refine (pay_1_1 ..).trans ?_
    refine mixP_congr _ ?_ ?_ ?_ ?_ ?_ ?_ ?_ ?_ ?_ ?_
    · exact readAt_full harg17 _ _
    · exact readAt_sub harg8 _ _ _ rfl
    · exact readAt_sub harg9 _ _ _ rfl
    · exact readAt_sub harg18 _ _ _ ((off2_eq (pt q ⟨4 + j.val, by omega⟩) h4 h8 1).trans (congrArg (fun n => ![0, 256 * (4 * n + (1 : Fin 4).val)]) hsub))
    · exact readAt_full harg20 _ _
    · exact readAt_full harg21 _ _
    · exact readAt_sub harg10 _ _ _ rfl
    · exact readAt_sub harg11 _ _ _ rfl
    · exact readAt_sub harg12 _ _ _ ((off3_eq (pt q ⟨4 + j.val, by omega⟩) h4 h8 1).trans (congrArg (fun n => ![4 * n + (1 : Fin 4).val, 0, 0]) hsub))
    · exact readAt_sub harg13 _ _ _ ((off4_eq (pt q ⟨4 + j.val, by omega⟩) h4 h8 1).trans (congrArg (fun n => ![4 * n + (1 : Fin 4).val, 0, 0]) hsub))
  · refine mixPiece m c q 0 j 1 (k0_off5_inb _ hc4 1) ((off5_eq (pt q ⟨4 + j.val, by omega⟩) h4 h8 1).trans (congrArg (fun n => ![128 * (0 : Fin 4).val, 256 * (4 * n + (1 : Fin 4).val)]) hsub)) _ ?_
    refine (pay_0_1 ..).trans ?_
    refine mixP_congr _ ?_ ?_ ?_ ?_ ?_ ?_ ?_ ?_ ?_ ?_
    · exact readAt_full harg17 _ _
    · exact readAt_sub harg8 _ _ _ rfl
    · exact readAt_sub harg9 _ _ _ rfl
    · exact readAt_sub harg18 _ _ _ ((off2_eq (pt q ⟨4 + j.val, by omega⟩) h4 h8 1).trans (congrArg (fun n => ![0, 256 * (4 * n + (1 : Fin 4).val)]) hsub))
    · exact readAt_full harg20 _ _
    · exact readAt_full harg21 _ _
    · exact readAt_sub harg10 _ _ _ rfl
    · exact readAt_sub harg11 _ _ _ rfl
    · exact readAt_sub harg12 _ _ _ ((off3_eq (pt q ⟨4 + j.val, by omega⟩) h4 h8 1).trans (congrArg (fun n => ![4 * n + (1 : Fin 4).val, 0, 0]) hsub))
    · exact readAt_sub harg13 _ _ _ ((off4_eq (pt q ⟨4 + j.val, by omega⟩) h4 h8 1).trans (congrArg (fun n => ![4 * n + (1 : Fin 4).val, 0, 0]) hsub))
  · refine mixPiece m c q 3 j 0 (k0_off8_inb _ hc4 0) ((off8_eq (pt q ⟨4 + j.val, by omega⟩) h4 h8 0).trans (congrArg (fun n => ![128 * (3 : Fin 4).val, 256 * (4 * n + (0 : Fin 4).val)]) hsub)) _ ?_
    refine (?_ : mixP (F := F) 3 _ _ _ _ _ _ _ _ _ _ = _)
    refine mixP_congr _ ?_ ?_ ?_ ?_ ?_ ?_ ?_ ?_ ?_ ?_
    · exact readAt_full harg17 _ _
    · exact readAt_sub harg8 _ _ _ rfl
    · exact readAt_sub harg9 _ _ _ rfl
    · exact readAt_sub harg18 _ _ _ ((off2_eq (pt q ⟨4 + j.val, by omega⟩) h4 h8 0).trans (congrArg (fun n => ![0, 256 * (4 * n + (0 : Fin 4).val)]) hsub))
    · exact readAt_full harg20 _ _
    · exact readAt_full harg21 _ _
    · exact readAt_sub harg10 _ _ _ rfl
    · exact readAt_sub harg11 _ _ _ rfl
    · exact readAt_sub harg12 _ _ _ ((off3_eq (pt q ⟨4 + j.val, by omega⟩) h4 h8 0).trans (congrArg (fun n => ![4 * n + (0 : Fin 4).val, 0, 0]) hsub))
    · exact readAt_sub harg13 _ _ _ ((off4_eq (pt q ⟨4 + j.val, by omega⟩) h4 h8 0).trans (congrArg (fun n => ![4 * n + (0 : Fin 4).val, 0, 0]) hsub))
  · refine mixPiece m c q 2 j 0 (k0_off7_inb _ hc4 0) ((off7_eq (pt q ⟨4 + j.val, by omega⟩) h4 h8 0).trans (congrArg (fun n => ![128 * (2 : Fin 4).val, 256 * (4 * n + (0 : Fin 4).val)]) hsub)) _ ?_
    refine (?_ : mixP (F := F) 2 _ _ _ _ _ _ _ _ _ _ = _)
    refine mixP_congr _ ?_ ?_ ?_ ?_ ?_ ?_ ?_ ?_ ?_ ?_
    · exact readAt_full harg17 _ _
    · exact readAt_sub harg8 _ _ _ rfl
    · exact readAt_sub harg9 _ _ _ rfl
    · exact readAt_sub harg18 _ _ _ ((off2_eq (pt q ⟨4 + j.val, by omega⟩) h4 h8 0).trans (congrArg (fun n => ![0, 256 * (4 * n + (0 : Fin 4).val)]) hsub))
    · exact readAt_full harg20 _ _
    · exact readAt_full harg21 _ _
    · exact readAt_sub harg10 _ _ _ rfl
    · exact readAt_sub harg11 _ _ _ rfl
    · exact readAt_sub harg12 _ _ _ ((off3_eq (pt q ⟨4 + j.val, by omega⟩) h4 h8 0).trans (congrArg (fun n => ![4 * n + (0 : Fin 4).val, 0, 0]) hsub))
    · exact readAt_sub harg13 _ _ _ ((off4_eq (pt q ⟨4 + j.val, by omega⟩) h4 h8 0).trans (congrArg (fun n => ![4 * n + (0 : Fin 4).val, 0, 0]) hsub))
  · refine mixPiece m c q 1 j 0 (k0_off6_inb _ hc4 0) ((off6_eq (pt q ⟨4 + j.val, by omega⟩) h4 h8 0).trans (congrArg (fun n => ![128 * (1 : Fin 4).val, 256 * (4 * n + (0 : Fin 4).val)]) hsub)) _ ?_
    refine (?_ : mixP (F := F) 1 _ _ _ _ _ _ _ _ _ _ = _)
    refine mixP_congr _ ?_ ?_ ?_ ?_ ?_ ?_ ?_ ?_ ?_ ?_
    · exact readAt_full harg17 _ _
    · exact readAt_sub harg8 _ _ _ rfl
    · exact readAt_sub harg9 _ _ _ rfl
    · exact readAt_sub harg18 _ _ _ ((off2_eq (pt q ⟨4 + j.val, by omega⟩) h4 h8 0).trans (congrArg (fun n => ![0, 256 * (4 * n + (0 : Fin 4).val)]) hsub))
    · exact readAt_full harg20 _ _
    · exact readAt_full harg21 _ _
    · exact readAt_sub harg10 _ _ _ rfl
    · exact readAt_sub harg11 _ _ _ rfl
    · exact readAt_sub harg12 _ _ _ ((off3_eq (pt q ⟨4 + j.val, by omega⟩) h4 h8 0).trans (congrArg (fun n => ![4 * n + (0 : Fin 4).val, 0, 0]) hsub))
    · exact readAt_sub harg13 _ _ _ ((off4_eq (pt q ⟨4 + j.val, by omega⟩) h4 h8 0).trans (congrArg (fun n => ![4 * n + (0 : Fin 4).val, 0, 0]) hsub))
  · refine mixPiece m c q 0 j 0 (k0_off5_inb _ hc4 0) ((off5_eq (pt q ⟨4 + j.val, by omega⟩) h4 h8 0).trans (congrArg (fun n => ![128 * (0 : Fin 4).val, 256 * (4 * n + (0 : Fin 4).val)]) hsub)) _ ?_
    refine (?_ : mixP (F := F) 0 _ _ _ _ _ _ _ _ _ _ = _)
    refine mixP_congr _ ?_ ?_ ?_ ?_ ?_ ?_ ?_ ?_ ?_ ?_
    · exact readAt_full harg17 _ _
    · exact readAt_sub harg8 _ _ _ rfl
    · exact readAt_sub harg9 _ _ _ rfl
    · exact readAt_sub harg18 _ _ _ ((off2_eq (pt q ⟨4 + j.val, by omega⟩) h4 h8 0).trans (congrArg (fun n => ![0, 256 * (4 * n + (0 : Fin 4).val)]) hsub))
    · exact readAt_full harg20 _ _
    · exact readAt_full harg21 _ _
    · exact readAt_sub harg10 _ _ _ rfl
    · exact readAt_sub harg11 _ _ _ rfl
    · exact readAt_sub harg12 _ _ _ ((off3_eq (pt q ⟨4 + j.val, by omega⟩) h4 h8 0).trans (congrArg (fun n => ![4 * n + (0 : Fin 4).val, 0, 0]) hsub))
    · exact readAt_sub harg13 _ _ _ ((off4_eq (pt q ⟨4 + j.val, by omega⟩) h4 h8 0).trans (congrArg (fun n => ![4 * n + (0 : Fin 4).val, 0, 0]) hsub))

/-- Where a tile of the mixed array lies. -/
theorem mix_mem (r : Fin 4) (j g : Fin 4) {off : Fin 2 → ℕ} (inb : ∀ a, off a + (![128, 256] : Fin 2 → ℕ) a ≤ S512x4096.size a)
    (hoff : off = ![128 * r.val, 256 * (4 * j.val + g.val)]) (y : S512x4096.Idx)
    (h0 : 128 * r.val ≤ (y 0).val) (h0' : (y 0).val < 128 * r.val + 128)
    (h1 : 256 * (4 * j.val + g.val) ≤ (y 1).val) (h1' : (y 1).val < 256 * (4 * j.val + g.val) + 256) :
    y ∈ (Rect.unit (s := S512x4096) off ![128, 256] inb).set := by
  subst hoff
  rw [Rect.mem_set_unit]
  exact Fin.forall_fin_two.mpr ⟨⟨h0, h0'⟩, h1, h1'⟩

theorem mix_not_mem (r : Fin 4) (j g : Fin 4) {off : Fin 2 → ℕ} (inb : ∀ a, off a + (![128, 256] : Fin 2 → ℕ) a ≤ S512x4096.size a)
    (hoff : off = ![128 * r.val, 256 * (4 * j.val + g.val)]) (y : S512x4096.Idx) (h : (y 1).val < 1024 * j.val) :
    y ∉ (Rect.unit (s := S512x4096) off ![128, 256] inb).set := by
  subst hoff
  rw [Rect.mem_set_unit]
  intro hall
  have h1 : 256 * (4 * j.val + g.val) ≤ (y 1).val := (hall 1).1
  omega

set_option maxHeartbeats 4000000 in
theorem D_not_mem (c : Dev nD) (q : Fin 64) (j : Fin 4) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x512 .f32) (harg7 : arg7.IsWhole) (arg8 : Memref sig .tc .vmem S2048x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S16x128x128 .f32) (harg12 : arg12.IsWhole) (arg13 : Memref sig .tc .vmem S16x128x1 .f32) (harg13 : arg13.IsWhole) (arg14 : Memref sig .tc .vmem S4096x512 .bf16) (harg14 : arg14.IsWhole) (arg15 : Memref sig .tc .vmem S1x512 .f32) (harg15 : arg15.IsWhole) (arg16 : Memref sig .tc .vmem S1x512x512 .f32) (harg16 : arg16.IsWhole) (arg17 : Memref sig .tc .vmem S512x2048 .bf16) (harg17 : arg17.IsWhole) (arg18 : Memref sig .tc .vmem S512x4096 .f32) (harg18 : arg18.IsWhole) (arg19 : Memref sig .tc .vmem S512x4096 .bf16) (harg19 : arg19.IsWhole) (arg20 : Memref sig .tc .vmem S512x1 .f32) (harg20 : arg20.IsWhole) (arg21 : Memref sig .tc .vmem S512x1 .f32) (harg21 : arg21.IsWhole) (hc4 : cond4 (grid0.coords (pt q ⟨4 + j.val, by omega⟩))) (hc1 : ¬cond1 (grid0.coords (pt q ⟨4 + j.val, by omega⟩))) (hc2 : ¬cond2 (grid0.coords (pt q ⟨4 + j.val, by omega⟩))) (hc3 : ¬cond3 (grid0.coords (pt q ⟨4 + j.val, by omega⟩))) (hc5 : ¬cond5 (grid0.coords (pt q ⟨4 + j.val, by omega⟩))) (o : Vec F S1x512x512 .f32) (mix : Vec F S512x4096 .bf16)  (y : S512x4096.Idx) (hlt : (y 1).val < 1024 * j.val) :
    ∀ p ∈ (runD c (grid0.coords (pt q ⟨4 + j.val, by omega⟩)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc4 hc1 hc2 hc3 hc5 (iblk m c 0 (pt q ⟨4 + j.val, by omega⟩)) (iblk m c 1 (pt q ⟨4 + j.val, by omega⟩)) (iblk m c 2 (pt q ⟨4 + j.val, by omega⟩)) (iblk m c 3 (pt q ⟨4 + j.val, by omega⟩)) (iblk m c 4 (pt q ⟨4 + j.val, by omega⟩)) (iblk m c 5 (pt q ⟨4 + j.val, by omega⟩)) (iblk m c 6 (pt q ⟨4 + j.val, by omega⟩)) (iblk m c 7 (pt q ⟨4 + j.val, by omega⟩)) (iblk m c 8 (pt q ⟨4 + j.val, by omega⟩)) (iblk m c 9 (pt q ⟨4 + j.val, by omega⟩)) (iblk m c 10 (pt q ⟨4 + j.val, by omega⟩)) (iblk m c 11 (pt q ⟨4 + j.val, by omega⟩)) (iblk m c 12 (pt q ⟨4 + j.val, by omega⟩)) o (HH m c q) (VV m c q) mix (k0_pay4 (VV m c q)) (k0_pay5 (VV m c q))).1, y ∉ p.1.set := by
  have h4 : 4 ≤ (pt q ⟨4 + j.val, by omega⟩).val % 12 := by rw [pt_mod]; exact Nat.le_add_right _ _
  have h8 : (pt q ⟨4 + j.val, by omega⟩).val % 12 < 8 := by rw [pt_mod]; show 4 + j.val < 8; omega
  have hsub : (pt q ⟨4 + j.val, by omega⟩).val % 12 - 4 = j.val := by rw [pt_mod]; exact Nat.add_sub_cancel_left 4 j.val
  unfold runD
  intro p hp
  simp only [List.mem_cons, List.not_mem_nil, or_false] at hp
  rcases hp with rfl | rfl | rfl | rfl | rfl | rfl | rfl | rfl | rfl | rfl | rfl | rfl | rfl | rfl | rfl | rfl
  · exact mix_not_mem 3 j 3 (k0_off8_inb _ hc4 3) ((off8_eq (pt q ⟨4 + j.val, by omega⟩) h4 h8 3).trans (congrArg (fun n => ![128 * (3 : Fin 4).val, 256 * (4 * n + (3 : Fin 4).val)]) hsub)) y hlt
  · exact mix_not_mem 2 j 3 (k0_off7_inb _ hc4 3) ((off7_eq (pt q ⟨4 + j.val, by omega⟩) h4 h8 3).trans (congrArg (fun n => ![128 * (2 : Fin 4).val, 256 * (4 * n + (3 : Fin 4).val)]) hsub)) y hlt
  · exact mix_not_mem 1 j 3 (k0_off6_inb _ hc4 3) ((off6_eq (pt q ⟨4 + j.val, by omega⟩) h4 h8 3).trans (congrArg (fun n => ![128 * (1 : Fin 4).val, 256 * (4 * n + (3 : Fin 4).val)]) hsub)) y hlt
  · exact mix_not_mem 0 j 3 (k0_off5_inb _ hc4 3) ((off5_eq (pt q ⟨4 + j.val, by omega⟩) h4 h8 3).trans (congrArg (fun n => ![128 * (0 : Fin 4).val, 256 * (4 * n + (3 : Fin 4).val)]) hsub)) y hlt
  · exact mix_not_mem 3 j 2 (k0_off8_inb _ hc4 2) ((off8_eq (pt q ⟨4 + j.val, by omega⟩) h4 h8 2).trans (congrArg (fun n => ![128 * (3 : Fin 4).val, 256 * (4 * n + (2 : Fin 4).val)]) hsub)) y hlt
  · exact mix_not_mem 2 j 2 (k0_off7_inb _ hc4 2) ((off7_eq (pt q ⟨4 + j.val, by omega⟩) h4 h8 2).trans (congrArg (fun n => ![128 * (2 : Fin 4).val, 256 * (4 * n + (2 : Fin 4).val)]) hsub)) y hlt
  · exact mix_not_mem 1 j 2 (k0_off6_inb _ hc4 2) ((off6_eq (pt q ⟨4 + j.val, by omega⟩) h4 h8 2).trans (congrArg (fun n => ![128 * (1 : Fin 4).val, 256 * (4 * n + (2 : Fin 4).val)]) hsub)) y hlt
  · exact mix_not_mem 0 j 2 (k0_off5_inb _ hc4 2) ((off5_eq (pt q ⟨4 + j.val, by omega⟩) h4 h8 2).trans (congrArg (fun n => ![128 * (0 : Fin 4).val, 256 * (4 * n + (2 : Fin 4).val)]) hsub)) y hlt
  · exact mix_not_mem 3 j 1 (k0_off8_inb _ hc4 1) ((off8_eq (pt q ⟨4 + j.val, by omega⟩) h4 h8 1).trans (congrArg (fun n => ![128 * (3 : Fin 4).val, 256 * (4 * n + (1 : Fin 4).val)]) hsub)) y hlt
  · exact mix_not_mem 2 j 1 (k0_off7_inb _ hc4 1) ((off7_eq (pt q ⟨4 + j.val, by omega⟩) h4 h8 1).trans (congrArg (fun n => ![128 * (2 : Fin 4).val, 256 * (4 * n + (1 : Fin 4).val)]) hsub)) y hlt
  · exact mix_not_mem 1 j 1 (k0_off6_inb _ hc4 1) ((off6_eq (pt q ⟨4 + j.val, by omega⟩) h4 h8 1).trans (congrArg (fun n => ![128 * (1 : Fin 4).val, 256 * (4 * n + (1 : Fin 4).val)]) hsub)) y hlt
  · exact mix_not_mem 0 j 1 (k0_off5_inb _ hc4 1) ((off5_eq (pt q ⟨4 + j.val, by omega⟩) h4 h8 1).trans (congrArg (fun n => ![128 * (0 : Fin 4).val, 256 * (4 * n + (1 : Fin 4).val)]) hsub)) y hlt
  · exact mix_not_mem 3 j 0 (k0_off8_inb _ hc4 0) ((off8_eq (pt q ⟨4 + j.val, by omega⟩) h4 h8 0).trans (congrArg (fun n => ![128 * (3 : Fin 4).val, 256 * (4 * n + (0 : Fin 4).val)]) hsub)) y hlt
  · exact mix_not_mem 2 j 0 (k0_off7_inb _ hc4 0) ((off7_eq (pt q ⟨4 + j.val, by omega⟩) h4 h8 0).trans (congrArg (fun n => ![128 * (2 : Fin 4).val, 256 * (4 * n + (0 : Fin 4).val)]) hsub)) y hlt
  · exact mix_not_mem 1 j 0 (k0_off6_inb _ hc4 0) ((off6_eq (pt q ⟨4 + j.val, by omega⟩) h4 h8 0).trans (congrArg (fun n => ![128 * (1 : Fin 4).val, 256 * (4 * n + (0 : Fin 4).val)]) hsub)) y hlt
  · exact mix_not_mem 0 j 0 (k0_off5_inb _ hc4 0) ((off5_eq (pt q ⟨4 + j.val, by omega⟩) h4 h8 0).trans (congrArg (fun n => ![128 * (0 : Fin 4).val, 256 * (4 * n + (0 : Fin 4).val)]) hsub)) y hlt

set_option maxHeartbeats 4000000 in
theorem D_cover (c : Dev nD) (q : Fin 64) (j : Fin 4) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x512 .f32) (harg7 : arg7.IsWhole) (arg8 : Memref sig .tc .vmem S2048x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S16x128x128 .f32) (harg12 : arg12.IsWhole) (arg13 : Memref sig .tc .vmem S16x128x1 .f32) (harg13 : arg13.IsWhole) (arg14 : Memref sig .tc .vmem S4096x512 .bf16) (harg14 : arg14.IsWhole) (arg15 : Memref sig .tc .vmem S1x512 .f32) (harg15 : arg15.IsWhole) (arg16 : Memref sig .tc .vmem S1x512x512 .f32) (harg16 : arg16.IsWhole) (arg17 : Memref sig .tc .vmem S512x2048 .bf16) (harg17 : arg17.IsWhole) (arg18 : Memref sig .tc .vmem S512x4096 .f32) (harg18 : arg18.IsWhole) (arg19 : Memref sig .tc .vmem S512x4096 .bf16) (harg19 : arg19.IsWhole) (arg20 : Memref sig .tc .vmem S512x1 .f32) (harg20 : arg20.IsWhole) (arg21 : Memref sig .tc .vmem S512x1 .f32) (harg21 : arg21.IsWhole) (hc4 : cond4 (grid0.coords (pt q ⟨4 + j.val, by omega⟩))) (hc1 : ¬cond1 (grid0.coords (pt q ⟨4 + j.val, by omega⟩))) (hc2 : ¬cond2 (grid0.coords (pt q ⟨4 + j.val, by omega⟩))) (hc3 : ¬cond3 (grid0.coords (pt q ⟨4 + j.val, by omega⟩))) (hc5 : ¬cond5 (grid0.coords (pt q ⟨4 + j.val, by omega⟩))) (o : Vec F S1x512x512 .f32) (mix : Vec F S512x4096 .bf16)  (y : S512x4096.Idx) (hge : 1024 * j.val ≤ (y 1).val) (hlt : (y 1).val < 1024 * j.val + 1024) :
    ∃ p ∈ (runD c (grid0.coords (pt q ⟨4 + j.val, by omega⟩)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc4 hc1 hc2 hc3 hc5 (iblk m c 0 (pt q ⟨4 + j.val, by omega⟩)) (iblk m c 1 (pt q ⟨4 + j.val, by omega⟩)) (iblk m c 2 (pt q ⟨4 + j.val, by omega⟩)) (iblk m c 3 (pt q ⟨4 + j.val, by omega⟩)) (iblk m c 4 (pt q ⟨4 + j.val, by omega⟩)) (iblk m c 5 (pt q ⟨4 + j.val, by omega⟩)) (iblk m c 6 (pt q ⟨4 + j.val, by omega⟩)) (iblk m c 7 (pt q ⟨4 + j.val, by omega⟩)) (iblk m c 8 (pt q ⟨4 + j.val, by omega⟩)) (iblk m c 9 (pt q ⟨4 + j.val, by omega⟩)) (iblk m c 10 (pt q ⟨4 + j.val, by omega⟩)) (iblk m c 11 (pt q ⟨4 + j.val, by omega⟩)) (iblk m c 12 (pt q ⟨4 + j.val, by omega⟩)) o (HH m c q) (VV m c q) mix (k0_pay4 (VV m c q)) (k0_pay5 (VV m c q))).1, y ∈ p.1.set := by
  have h4 : 4 ≤ (pt q ⟨4 + j.val, by omega⟩).val % 12 := by rw [pt_mod]; exact Nat.le_add_right _ _
  have h8 : (pt q ⟨4 + j.val, by omega⟩).val % 12 < 8 := by rw [pt_mod]; show 4 + j.val < 8; omega
  have hsub : (pt q ⟨4 + j.val, by omega⟩).val % 12 - 4 = j.val := by rw [pt_mod]; exact Nat.add_sub_cancel_left 4 j.val
  have hy0 : (y 0).val < 512 := (y 0).isLt
  unfold runD
  have hr : ∃ r : Fin 4, 128 * r.val ≤ (y 0).val ∧ (y 0).val < 128 * r.val + 128 := ⟨⟨(y 0).val / 128, by omega⟩, by show 128 * ((y 0).val / 128) ≤ _; omega, by show _ < 128 * ((y 0).val / 128) + 128; omega⟩
  have hg : ∃ g : Fin 4, 256 * (4 * j.val + g.val) ≤ (y 1).val ∧ (y 1).val < 256 * (4 * j.val + g.val) + 256 := ⟨⟨((y 1).val - 1024 * j.val) / 256, by omega⟩, by show 256 * (4 * j.val + ((y 1).val - 1024 * j.val) / 256) ≤ _; omega, by show _ < 256 * (4 * j.val + ((y 1).val - 1024 * j.val) / 256) + 256; omega⟩
  obtain ⟨r, hr0, hr1⟩ := hr
  obtain ⟨g, hg0, hg1⟩ := hg
  fin_cases g <;> fin_cases r
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), mix_mem 0 j 0 (k0_off5_inb _ hc4 0) ((off5_eq (pt q ⟨4 + j.val, by omega⟩) h4 h8 0).trans (congrArg (fun n => ![128 * (0 : Fin 4).val, 256 * (4 * n + (0 : Fin 4).val)]) hsub)) y hr0 hr1 hg0 hg1⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), mix_mem 1 j 0 (k0_off6_inb _ hc4 0) ((off6_eq (pt q ⟨4 + j.val, by omega⟩) h4 h8 0).trans (congrArg (fun n => ![128 * (1 : Fin 4).val, 256 * (4 * n + (0 : Fin 4).val)]) hsub)) y hr0 hr1 hg0 hg1⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), mix_mem 2 j 0 (k0_off7_inb _ hc4 0) ((off7_eq (pt q ⟨4 + j.val, by omega⟩) h4 h8 0).trans (congrArg (fun n => ![128 * (2 : Fin 4).val, 256 * (4 * n + (0 : Fin 4).val)]) hsub)) y hr0 hr1 hg0 hg1⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), mix_mem 3 j 0 (k0_off8_inb _ hc4 0) ((off8_eq (pt q ⟨4 + j.val, by omega⟩) h4 h8 0).trans (congrArg (fun n => ![128 * (3 : Fin 4).val, 256 * (4 * n + (0 : Fin 4).val)]) hsub)) y hr0 hr1 hg0 hg1⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), mix_mem 0 j 1 (k0_off5_inb _ hc4 1) ((off5_eq (pt q ⟨4 + j.val, by omega⟩) h4 h8 1).trans (congrArg (fun n => ![128 * (0 : Fin 4).val, 256 * (4 * n + (1 : Fin 4).val)]) hsub)) y hr0 hr1 hg0 hg1⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), mix_mem 1 j 1 (k0_off6_inb _ hc4 1) ((off6_eq (pt q ⟨4 + j.val, by omega⟩) h4 h8 1).trans (congrArg (fun n => ![128 * (1 : Fin 4).val, 256 * (4 * n + (1 : Fin 4).val)]) hsub)) y hr0 hr1 hg0 hg1⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mix_mem 2 j 1 (k0_off7_inb _ hc4 1) ((off7_eq (pt q ⟨4 + j.val, by omega⟩) h4 h8 1).trans (congrArg (fun n => ![128 * (2 : Fin 4).val, 256 * (4 * n + (1 : Fin 4).val)]) hsub)) y hr0 hr1 hg0 hg1⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))), mix_mem 3 j 1 (k0_off8_inb _ hc4 1) ((off8_eq (pt q ⟨4 + j.val, by omega⟩) h4 h8 1).trans (congrArg (fun n => ![128 * (3 : Fin 4).val, 256 * (4 * n + (1 : Fin 4).val)]) hsub)) y hr0 hr1 hg0 hg1⟩
  · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mix_mem 0 j 2 (k0_off5_inb _ hc4 2) ((off5_eq (pt q ⟨4 + j.val, by omega⟩) h4 h8 2).trans (congrArg (fun n => ![128 * (0 : Fin 4).val, 256 * (4 * n + (2 : Fin 4).val)]) hsub)) y hr0 hr1 hg0 hg1⟩
  · exact ⟨_, List.mem_cons_of_mem _ (List.mem_cons_of_mem _ (List.mem_cons_of_mem _ (List.mem_cons_of_mem _ (List.mem_cons_of_mem _ (List.mem_cons_of_mem _ List.mem_cons_self))))), mix_mem 1 j 2 (k0_off6_inb _ hc4 2) ((off6_eq (pt q ⟨4 + j.val, by omega⟩) h4 h8 2).trans (congrArg (fun n => ![128 * (1 : Fin 4).val, 256 * (4 * n + (2 : Fin 4).val)]) hsub)) y hr0 hr1 hg0 hg1⟩
  · exact ⟨_, List.mem_cons_of_mem _ (List.mem_cons_of_mem _ (List.mem_cons_of_mem _ (List.mem_cons_of_mem _ (List.mem_cons_of_mem _ List.mem_cons_self)))), mix_mem 2 j 2 (k0_off7_inb _ hc4 2) ((off7_eq (pt q ⟨4 + j.val, by omega⟩) h4 h8 2).trans (congrArg (fun n => ![128 * (2 : Fin 4).val, 256 * (4 * n + (2 : Fin 4).val)]) hsub)) y hr0 hr1 hg0 hg1⟩
  · exact ⟨_, List.mem_cons_of_mem _ (List.mem_cons_of_mem _ (List.mem_cons_of_mem _ (List.mem_cons_of_mem _ List.mem_cons_self))), mix_mem 3 j 2 (k0_off8_inb _ hc4 2) ((off8_eq (pt q ⟨4 + j.val, by omega⟩) h4 h8 2).trans (congrArg (fun n => ![128 * (3 : Fin 4).val, 256 * (4 * n + (2 : Fin 4).val)]) hsub)) y hr0 hr1 hg0 hg1⟩
  · exact ⟨_, List.mem_cons_of_mem _ (List.mem_cons_of_mem _ (List.mem_cons_of_mem _ List.mem_cons_self)), mix_mem 0 j 3 (k0_off5_inb _ hc4 3) ((off5_eq (pt q ⟨4 + j.val, by omega⟩) h4 h8 3).trans (congrArg (fun n => ![128 * (0 : Fin 4).val, 256 * (4 * n + (3 : Fin 4).val)]) hsub)) y hr0 hr1 hg0 hg1⟩
  · exact ⟨_, List.mem_cons_of_mem _ (List.mem_cons_of_mem _ List.mem_cons_self), mix_mem 1 j 3 (k0_off6_inb _ hc4 3) ((off6_eq (pt q ⟨4 + j.val, by omega⟩) h4 h8 3).trans (congrArg (fun n => ![128 * (1 : Fin 4).val, 256 * (4 * n + (3 : Fin 4).val)]) hsub)) y hr0 hr1 hg0 hg1⟩
  · exact ⟨_, List.mem_cons_of_mem _ List.mem_cons_self, mix_mem 2 j 3 (k0_off7_inb _ hc4 3) ((off7_eq (pt q ⟨4 + j.val, by omega⟩) h4 h8 3).trans (congrArg (fun n => ![128 * (2 : Fin 4).val, 256 * (4 * n + (3 : Fin 4).val)]) hsub)) y hr0 hr1 hg0 hg1⟩
  · exact ⟨_, List.mem_cons_self, mix_mem 3 j 3 (k0_off8_inb _ hc4 3) ((off8_eq (pt q ⟨4 + j.val, by omega⟩) h4 h8 3).trans (congrArg (fun n => ![128 * (3 : Fin 4).val, 256 * (4 * n + (3 : Fin 4).val)]) hsub)) y hr0 hr1 hg0 hg1⟩

set_option maxHeartbeats 4000000 in
theorem D_mix (c : Dev nD) (q : Fin 64) (j : Fin 4) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x512 .f32) (harg7 : arg7.IsWhole) (arg8 : Memref sig .tc .vmem S2048x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S16x128x128 .f32) (harg12 : arg12.IsWhole) (arg13 : Memref sig .tc .vmem S16x128x1 .f32) (harg13 : arg13.IsWhole) (arg14 : Memref sig .tc .vmem S4096x512 .bf16) (harg14 : arg14.IsWhole) (arg15 : Memref sig .tc .vmem S1x512 .f32) (harg15 : arg15.IsWhole) (arg16 : Memref sig .tc .vmem S1x512x512 .f32) (harg16 : arg16.IsWhole) (arg17 : Memref sig .tc .vmem S512x2048 .bf16) (harg17 : arg17.IsWhole) (arg18 : Memref sig .tc .vmem S512x4096 .f32) (harg18 : arg18.IsWhole) (arg19 : Memref sig .tc .vmem S512x4096 .bf16) (harg19 : arg19.IsWhole) (arg20 : Memref sig .tc .vmem S512x1 .f32) (harg20 : arg20.IsWhole) (arg21 : Memref sig .tc .vmem S512x1 .f32) (harg21 : arg21.IsWhole) (hc4 : cond4 (grid0.coords (pt q ⟨4 + j.val, by omega⟩))) (hc1 : ¬cond1 (grid0.coords (pt q ⟨4 + j.val, by omega⟩))) (hc2 : ¬cond2 (grid0.coords (pt q ⟨4 + j.val, by omega⟩))) (hc3 : ¬cond3 (grid0.coords (pt q ⟨4 + j.val, by omega⟩))) (hc5 : ¬cond5 (grid0.coords (pt q ⟨4 + j.val, by omega⟩))) (o : Vec F S1x512x512 .f32) (mix : Vec F S512x4096 .bf16)  (hm : ∀ y : S512x4096.Idx, (y 1).val < 1024 * j.val → mix y = MM m c q y) :
    ∀ y : S512x4096.Idx, (y 1).val < 1024 * j.val + 1024 → arg19.view.read (Elt F) (arg19.view.writes (Elt F) (harg19.unread mix) (runD c (grid0.coords (pt q ⟨4 + j.val, by omega⟩)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc4 hc1 hc2 hc3 hc5 (iblk m c 0 (pt q ⟨4 + j.val, by omega⟩)) (iblk m c 1 (pt q ⟨4 + j.val, by omega⟩)) (iblk m c 2 (pt q ⟨4 + j.val, by omega⟩)) (iblk m c 3 (pt q ⟨4 + j.val, by omega⟩)) (iblk m c 4 (pt q ⟨4 + j.val, by omega⟩)) (iblk m c 5 (pt q ⟨4 + j.val, by omega⟩)) (iblk m c 6 (pt q ⟨4 + j.val, by omega⟩)) (iblk m c 7 (pt q ⟨4 + j.val, by omega⟩)) (iblk m c 8 (pt q ⟨4 + j.val, by omega⟩)) (iblk m c 9 (pt q ⟨4 + j.val, by omega⟩)) (iblk m c 10 (pt q ⟨4 + j.val, by omega⟩)) (iblk m c 11 (pt q ⟨4 + j.val, by omega⟩)) (iblk m c 12 (pt q ⟨4 + j.val, by omega⟩)) o (HH m c q) (VV m c q) mix (k0_pay4 (VV m c q)) (k0_pay5 (VV m c q))).1) y = MM m c q y := by
  intro y hy
  by_cases hlt : (y 1).val < 1024 * j.val
  · rw [View.read_writes_apply_of_forall_not_mem _ _ _ _ (D_not_mem m c q j arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc4 hc1 hc2 hc3 hc5 o mix y hlt), harg19.read_unread]
    exact hm y hlt
  · exact View.read_writes_apply_of_pieces _ _ (MM m c q) _ (D_piece m c q j arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc4 hc1 hc2 hc3 hc5 o mix) y (D_cover m c q j arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc4 hc1 hc2 hc3 hc5 o mix y (Nat.le_of_not_lt hlt) hy)

end Cert.KernelIdeal.Gmlp

end
-- ==== Proof.GmlpStep.lean ====
module

public import proofs.«01_k».proof.Proof.GmlpCaseD

@[expose] public section

set_option maxRecDepth 16384

noncomputable section

namespace Cert.KernelIdeal.Gmlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-- What the five scratch arrays hold after tile `j` of the row block `q`. -/
def Good (c : Dev nD) (q : Fin 64) (j : ℕ) (h : Vec F S512x2048 .bf16) (v : Vec F S512x4096 .f32) (mix : Vec F S512x4096 .bf16) (mu rs : Vec F S512x1 .f32) : Prop :=
  h = HH m c q ∧ (∀ y : S512x4096.Idx, (y 1).val < 1024 * (j + 1) → v y = VV m c q y)
    ∧ (3 ≤ j → mu = k0_pay4 (VV m c q) ∧ rs = k0_pay5 (VV m c q))
    ∧ (4 ≤ j → ∀ y : S512x4096.Idx, (y 1).val < 1024 * (j - 3) → mix y = MM m c q y)

/-- What they hold before point `n`: nothing is said before the first. -/
def Inv (c : Dev nD) (n : ℕ) (h : Vec F S512x2048 .bf16) (v : Vec F S512x4096 .f32) (mix : Vec F S512x4096 .bf16) (mu rs : Vec F S512x1 .f32) : Prop :=
  ∀ (q : Fin 64) (j : ℕ), j < 12 → 12 * q.val + j + 1 = n → Good m c q j h v mix mu rs

theorem Inv_of_good {c : Dev nD} {q : Fin 64} {j : ℕ} (hj : j < 12) {h : Vec F S512x2048 .bf16} {v : Vec F S512x4096 .f32} {mix : Vec F S512x4096 .bf16} {mu rs : Vec F S512x1 .f32}
    (H : Good m c q j h v mix mu rs) : Inv m c (12 * q.val + j + 1) h v mix mu rs := by
  intro q' j' hj' heq
  have hq : q' = q := Fin.ext (by omega)
  have hjj : j' = j := by omega
  subst hq hjj; exact H

theorem good_of_inv {c : Dev nD} {q : Fin 64} {j : ℕ} (hj : j < 12) (h0 : 0 < j) {h : Vec F S512x2048 .bf16} {v : Vec F S512x4096 .f32} {mix : Vec F S512x4096 .bf16} {mu rs : Vec F S512x1 .f32}
    (H : Inv m c (12 * q.val + j) h v mix mu rs) : Good m c q (j - 1) h v mix mu rs :=
  H q (j - 1) (by omega) (by omega)

theorem own_raw (c : Dev nD) {s : Shape} {e : EltTy} (M : Memref sig .tc .vmem s e) (h : M.IsWhole) (x : s.Idx → Elt F e) :
    (owns (c : Thread nD τ) M fullShare x : sProp 𝕄) ⊢ M.view.loc (c : Thread nD τ) ↦[M.view.set]{fullShare} h.unread x := by
  unfold owns
  iintro ⟨%f, %hf, H⟩
  rw [← h.eq_unread hf]; iexact H

theorem raw_own (c : Dev nD) {s : Shape} {e : EltTy} (M : Memref sig .tc .vmem s e) (h : M.IsWhole) (x : s.Idx → Elt F e) :
    (M.view.loc (c : Thread nD τ) ↦[M.view.set]{fullShare} h.unread x : sProp 𝕄) ⊢ owns (c : Thread nD τ) M fullShare x := by
  unfold owns
  iintro H
  iexists _; isplitr
  swap; · iexact H
  ipureintro; exact h.read_unread x

theorem raw_own_eq (c : Dev nD) {s : Shape} {e : EltTy} (M : Memref sig .tc .vmem s e) (f : M.view.ty.Contents (Elt F)) (x : s.Idx → Elt F e)
    (hx : M.view.read (Elt F) f = x) :
    (M.view.loc (c : Thread nD τ) ↦[M.view.set]{fullShare} f : sProp 𝕄) ⊢ owns (c : Thread nD τ) M fullShare x := by
  subst hx; exact owns_intro _ _ _ _

/-- The five scratch arrays before point `n`. -/
def Sc (c : Dev nD) (n : ℕ) (arg17 : Memref sig .tc .vmem S512x2048 .bf16) (arg18 : Memref sig .tc .vmem S512x4096 .f32) (arg19 : Memref sig .tc .vmem S512x4096 .bf16) (arg20 : Memref sig .tc .vmem S512x1 .f32) (arg21 : Memref sig .tc .vmem S512x1 .f32) : sProp 𝕄 :=
  iprop(∃ h v mix mu rs, ⌜Inv m c n h v mix mu rs⌝ ∗ owns (c : Thread nD τ) arg17 fullShare h ∗ owns (c : Thread nD τ) arg18 fullShare v
    ∗ owns (c : Thread nD τ) arg19 fullShare mix ∗ owns (c : Thread nD τ) arg20 fullShare mu ∗ owns (c : Thread nD τ) arg21 fullShare rs)

set_option maxHeartbeats 2000000 in
/-- The body at a point of case A. -/
theorem step_A (c : Dev nD) (q : Fin 64) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x512 .f32) (harg7 : arg7.IsWhole) (arg8 : Memref sig .tc .vmem S2048x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S16x128x128 .f32) (harg12 : arg12.IsWhole) (arg13 : Memref sig .tc .vmem S16x128x1 .f32) (harg13 : arg13.IsWhole) (arg14 : Memref sig .tc .vmem S4096x512 .bf16) (harg14 : arg14.IsWhole) (arg15 : Memref sig .tc .vmem S1x512 .f32) (harg15 : arg15.IsWhole) (arg16 : Memref sig .tc .vmem S1x512x512 .f32) (harg16 : arg16.IsWhole) (arg17 : Memref sig .tc .vmem S512x2048 .bf16) (harg17 : arg17.IsWhole) (arg18 : Memref sig .tc .vmem S512x4096 .f32) (harg18 : arg18.IsWhole) (arg19 : Memref sig .tc .vmem S512x4096 .bf16) (harg19 : arg19.IsWhole) (arg20 : Memref sig .tc .vmem S512x1 .f32) (harg20 : arg20.IsWhole) (arg21 : Memref sig .tc .vmem S512x1 .f32) (harg21 : arg21.IsWhole) (hc1 : cond1 (grid0.coords (pt q 0))) (hc2 : cond2 (grid0.coords (pt q 0))) (hc3 : ¬cond3 (grid0.coords (pt q 0))) (hc4 : ¬cond4 (grid0.coords (pt q 0))) (hc5 : ¬cond5 (grid0.coords (pt q 0))) (o : Vec F S1x512x512 .f32)  (E : Set ℕ) (K : PUnit → sProp 𝕄) :
    iprop(owns (c : Thread nD τ) arg3 fullShare (iblk m c 0 (pt q 0)) ∗ owns (c : Thread nD τ) arg4 fullShare (iblk m c 1 (pt q 0)) ∗ owns (c : Thread nD τ) arg5 fullShare (iblk m c 2 (pt q 0)) ∗ owns (c : Thread nD τ) arg6 fullShare (iblk m c 3 (pt q 0)) ∗ owns (c : Thread nD τ) arg7 fullShare (iblk m c 4 (pt q 0)) ∗ owns (c : Thread nD τ) arg8 fullShare (iblk m c 5 (pt q 0)) ∗ owns (c : Thread nD τ) arg9 fullShare (iblk m c 6 (pt q 0)) ∗ owns (c : Thread nD τ) arg10 fullShare (iblk m c 7 (pt q 0)) ∗ owns (c : Thread nD τ) arg11 fullShare (iblk m c 8 (pt q 0)) ∗ owns (c : Thread nD τ) arg12 fullShare (iblk m c 9 (pt q 0)) ∗ owns (c : Thread nD τ) arg13 fullShare (iblk m c 10 (pt q 0)) ∗ owns (c : Thread nD τ) arg14 fullShare (iblk m c 11 (pt q 0)) ∗ owns (c : Thread nD τ) arg15 fullShare (iblk m c 12 (pt q 0)) ∗ owns (c : Thread nD τ) arg16 fullShare o ∗ Sc m c (12 * q.val + 0) arg17 arg18 arg19 arg20 arg21
        ∗ (iprop(owns (c : Thread nD τ) arg3 fullShare (iblk m c 0 (pt q 0)) ∗ owns (c : Thread nD τ) arg4 fullShare (iblk m c 1 (pt q 0)) ∗ owns (c : Thread nD τ) arg5 fullShare (iblk m c 2 (pt q 0)) ∗ owns (c : Thread nD τ) arg6 fullShare (iblk m c 3 (pt q 0)) ∗ owns (c : Thread nD τ) arg7 fullShare (iblk m c 4 (pt q 0)) ∗ owns (c : Thread nD τ) arg8 fullShare (iblk m c 5 (pt q 0)) ∗ owns (c : Thread nD τ) arg9 fullShare (iblk m c 6 (pt q 0)) ∗ owns (c : Thread nD τ) arg10 fullShare (iblk m c 7 (pt q 0)) ∗ owns (c : Thread nD τ) arg11 fullShare (iblk m c 8 (pt q 0)) ∗ owns (c : Thread nD τ) arg12 fullShare (iblk m c 9 (pt q 0)) ∗ owns (c : Thread nD τ) arg13 fullShare (iblk m c 10 (pt q 0)) ∗ owns (c : Thread nD τ) arg14 fullShare (iblk m c 11 (pt q 0)) ∗ owns (c : Thread nD τ) arg15 fullShare (iblk m c 12 (pt q 0)) ∗ owns (c : Thread nD τ) arg16 fullShare o ∗ Sc m c (12 * q.val + 0 + 1) arg17 arg18 arg19 arg20 arg21) -∗ K ⟨⟩))
      ⊢ wp frame (wpE (defs₀ (F := F)) Variants.none c none) E (cc0_gmlp (grid0.coords (pt q 0)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold Sc
  iintro ⟨H3, H4, H5, H6, H7, H8, H9, H10, H11, H12, H13, H14, H15, H16, ⟨%h, %v, %mix, %mu, %rs, %hI, H17, H18, H19, H20, H21⟩, Hk⟩
  iapply ((runA c (grid0.coords (pt q 0)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc1 hc2 hc3 hc4 hc5 (iblk m c 0 (pt q 0)) (iblk m c 1 (pt q 0)) (iblk m c 2 (pt q 0)) (iblk m c 3 (pt q 0)) (iblk m c 4 (pt q 0)) (iblk m c 5 (pt q 0)) (iblk m c 6 (pt q 0)) (iblk m c 7 (pt q 0)) (iblk m c 8 (pt q 0)) (iblk m c 9 (pt q 0)) (iblk m c 10 (pt q 0)) (iblk m c 11 (pt q 0)) (iblk m c 12 (pt q 0)) o h v mix mu rs).2.2 E K)
  isplitl [H3]; · iapply (own_raw c arg3 harg3 _); iexact H3
  isplitl [H4]; · iapply (own_raw c arg4 harg4 _); iexact H4
  isplitl [H5]; · iapply (own_raw c arg5 harg5 _); iexact H5
  isplitl [H6]; · iapply (own_raw c arg6 harg6 _); iexact H6
  isplitl [H7]; · iapply (own_raw c arg7 harg7 _); iexact H7
  isplitl [H8]; · iapply (own_raw c arg8 harg8 _); iexact H8
  isplitl [H9]; · iapply (own_raw c arg9 harg9 _); iexact H9
  isplitl [H10]; · iapply (own_raw c arg10 harg10 _); iexact H10
  isplitl [H11]; · iapply (own_raw c arg11 harg11 _); iexact H11
  isplitl [H12]; · iapply (own_raw c arg12 harg12 _); iexact H12
  isplitl [H13]; · iapply (own_raw c arg13 harg13 _); iexact H13
  isplitl [H14]; · iapply (own_raw c arg14 harg14 _); iexact H14
  isplitl [H15]; · iapply (own_raw c arg15 harg15 _); iexact H15
  isplitl [H16]; · iapply (own_raw c arg16 harg16 _); iexact H16
  isplitl [H17]; · iapply (own_raw c arg17 harg17 _); iexact H17
  isplitl [H18]; · iapply (own_raw c arg18 harg18 _); iexact H18
  isplitl [H19]; · iapply (own_raw c arg19 harg19 _); iexact H19
  isplitl [H20]; · iapply (own_raw c arg20 harg20 _); iexact H20
  isplitl [H21]; · iapply (own_raw c arg21 harg21 _); iexact H21
  iintro ⟨H3, H4, H5, H6, H7, H8, H9, H10, H11, H12, H13, H14, H15, H16, H17, H18, H19, H20, H21⟩
  iapply Hk
  isplitl [H3]; · iapply (raw_own c arg3 harg3 _); iexact H3
  isplitl [H4]; · iapply (raw_own c arg4 harg4 _); iexact H4
  isplitl [H5]; · iapply (raw_own c arg5 harg5 _); iexact H5
  isplitl [H6]; · iapply (raw_own c arg6 harg6 _); iexact H6
  isplitl [H7]; · iapply (raw_own c arg7 harg7 _); iexact H7
  isplitl [H8]; · iapply (raw_own c arg8 harg8 _); iexact H8
  isplitl [H9]; · iapply (raw_own c arg9 harg9 _); iexact H9
  isplitl [H10]; · iapply (raw_own c arg10 harg10 _); iexact H10
  isplitl [H11]; · iapply (raw_own c arg11 harg11 _); iexact H11
  isplitl [H12]; · iapply (raw_own c arg12 harg12 _); iexact H12
  isplitl [H13]; · iapply (raw_own c arg13 harg13 _); iexact H13
  isplitl [H14]; · iapply (raw_own c arg14 harg14 _); iexact H14
  isplitl [H15]; · iapply (raw_own c arg15 harg15 _); iexact H15
  isplitl [H16]; · iapply (raw_own c arg16 harg16 _); iexact H16
  iexists (HH m c q)
  iexists (arg18.view.read (Elt F) (arg18.view.writes (Elt F) (harg18.unread v) (runA c (grid0.coords (pt q 0)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc1 hc2 hc3 hc4 hc5 (iblk m c 0 (pt q 0)) (iblk m c 1 (pt q 0)) (iblk m c 2 (pt q 0)) (iblk m c 3 (pt q 0)) (iblk m c 4 (pt q 0)) (iblk m c 5 (pt q 0)) (iblk m c 6 (pt q 0)) (iblk m c 7 (pt q 0)) (iblk m c 8 (pt q 0)) (iblk m c 9 (pt q 0)) (iblk m c 10 (pt q 0)) (iblk m c 11 (pt q 0)) (iblk m c 12 (pt q 0)) o h v mix mu rs).2.1))
  iexists mix
  iexists mu
  iexists rs
  isplitr; · ipureintro; exact Inv_of_good m (j := 0) (by omega) ⟨rfl, fun y hy => (A_v m c q arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc1 hc2 hc3 hc4 hc5 o h v mix mu rs) y (by show (y 1).val < 1024 * 0 + 1024; omega), fun h3 => absurd h3 (by decide), fun h4 => absurd h4 (by decide)⟩
  isplitl [H17]; · iapply (raw_own_eq c arg17 _ _ (A_h m c q arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc1 hc2 hc3 hc4 hc5 o h v mix mu rs)); iexact H17
  isplitl [H18]; · iapply (raw_own_eq c arg18 _ _ rfl); iexact H18
  isplitl [H19]; · iapply (raw_own c arg19 harg19 _); iexact H19
  isplitl [H20]; · iapply (raw_own c arg20 harg20 _); iexact H20
  iapply (raw_own c arg21 harg21 _); iexact H21

set_option maxHeartbeats 2000000 in
/-- The body at a point of case B. -/
theorem step_B (c : Dev nD) (q : Fin 64) (j : Fin 4) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x512 .f32) (harg7 : arg7.IsWhole) (arg8 : Memref sig .tc .vmem S2048x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S16x128x128 .f32) (harg12 : arg12.IsWhole) (arg13 : Memref sig .tc .vmem S16x128x1 .f32) (harg13 : arg13.IsWhole) (arg14 : Memref sig .tc .vmem S4096x512 .bf16) (harg14 : arg14.IsWhole) (arg15 : Memref sig .tc .vmem S1x512 .f32) (harg15 : arg15.IsWhole) (arg16 : Memref sig .tc .vmem S1x512x512 .f32) (harg16 : arg16.IsWhole) (arg17 : Memref sig .tc .vmem S512x2048 .bf16) (harg17 : arg17.IsWhole) (arg18 : Memref sig .tc .vmem S512x4096 .f32) (harg18 : arg18.IsWhole) (arg19 : Memref sig .tc .vmem S512x4096 .bf16) (harg19 : arg19.IsWhole) (arg20 : Memref sig .tc .vmem S512x1 .f32) (harg20 : arg20.IsWhole) (arg21 : Memref sig .tc .vmem S512x1 .f32) (harg21 : arg21.IsWhole) (hc2 : cond2 (grid0.coords (pt q ⟨j.val, by omega⟩))) (hc1 : ¬cond1 (grid0.coords (pt q ⟨j.val, by omega⟩))) (hc3 : ¬cond3 (grid0.coords (pt q ⟨j.val, by omega⟩))) (hc4 : ¬cond4 (grid0.coords (pt q ⟨j.val, by omega⟩))) (hc5 : ¬cond5 (grid0.coords (pt q ⟨j.val, by omega⟩))) (o : Vec F S1x512x512 .f32)  (E : Set ℕ) (K : PUnit → sProp 𝕄) :
    iprop(owns (c : Thread nD τ) arg3 fullShare (iblk m c 0 (pt q ⟨j.val, by omega⟩)) ∗ owns (c : Thread nD τ) arg4 fullShare (iblk m c 1 (pt q ⟨j.val, by omega⟩)) ∗ owns (c : Thread nD τ) arg5 fullShare (iblk m c 2 (pt q ⟨j.val, by omega⟩)) ∗ owns (c : Thread nD τ) arg6 fullShare (iblk m c 3 (pt q ⟨j.val, by omega⟩)) ∗ owns (c : Thread nD τ) arg7 fullShare (iblk m c 4 (pt q ⟨j.val, by omega⟩)) ∗ owns (c : Thread nD τ) arg8 fullShare (iblk m c 5 (pt q ⟨j.val, by omega⟩)) ∗ owns (c : Thread nD τ) arg9 fullShare (iblk m c 6 (pt q ⟨j.val, by omega⟩)) ∗ owns (c : Thread nD τ) arg10 fullShare (iblk m c 7 (pt q ⟨j.val, by omega⟩)) ∗ owns (c : Thread nD τ) arg11 fullShare (iblk m c 8 (pt q ⟨j.val, by omega⟩)) ∗ owns (c : Thread nD τ) arg12 fullShare (iblk m c 9 (pt q ⟨j.val, by omega⟩)) ∗ owns (c : Thread nD τ) arg13 fullShare (iblk m c 10 (pt q ⟨j.val, by omega⟩)) ∗ owns (c : Thread nD τ) arg14 fullShare (iblk m c 11 (pt q ⟨j.val, by omega⟩)) ∗ owns (c : Thread nD τ) arg15 fullShare (iblk m c 12 (pt q ⟨j.val, by omega⟩)) ∗ owns (c : Thread nD τ) arg16 fullShare o ∗ Sc m c (12 * q.val + j.val) arg17 arg18 arg19 arg20 arg21
        ∗ (iprop(owns (c : Thread nD τ) arg3 fullShare (iblk m c 0 (pt q ⟨j.val, by omega⟩)) ∗ owns (c : Thread nD τ) arg4 fullShare (iblk m c 1 (pt q ⟨j.val, by omega⟩)) ∗ owns (c : Thread nD τ) arg5 fullShare (iblk m c 2 (pt q ⟨j.val, by omega⟩)) ∗ owns (c : Thread nD τ) arg6 fullShare (iblk m c 3 (pt q ⟨j.val, by omega⟩)) ∗ owns (c : Thread nD τ) arg7 fullShare (iblk m c 4 (pt q ⟨j.val, by omega⟩)) ∗ owns (c : Thread nD τ) arg8 fullShare (iblk m c 5 (pt q ⟨j.val, by omega⟩)) ∗ owns (c : Thread nD τ) arg9 fullShare (iblk m c 6 (pt q ⟨j.val, by omega⟩)) ∗ owns (c : Thread nD τ) arg10 fullShare (iblk m c 7 (pt q ⟨j.val, by omega⟩)) ∗ owns (c : Thread nD τ) arg11 fullShare (iblk m c 8 (pt q ⟨j.val, by omega⟩)) ∗ owns (c : Thread nD τ) arg12 fullShare (iblk m c 9 (pt q ⟨j.val, by omega⟩)) ∗ owns (c : Thread nD τ) arg13 fullShare (iblk m c 10 (pt q ⟨j.val, by omega⟩)) ∗ owns (c : Thread nD τ) arg14 fullShare (iblk m c 11 (pt q ⟨j.val, by omega⟩)) ∗ owns (c : Thread nD τ) arg15 fullShare (iblk m c 12 (pt q ⟨j.val, by omega⟩)) ∗ owns (c : Thread nD τ) arg16 fullShare o ∗ Sc m c (12 * q.val + j.val + 1) arg17 arg18 arg19 arg20 arg21) -∗ K ⟨⟩))
      ⊢ wp frame (wpE (defs₀ (F := F)) Variants.none c none) E (cc0_gmlp (grid0.coords (pt q ⟨j.val, by omega⟩)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold Sc
  iintro ⟨H3, H4, H5, H6, H7, H8, H9, H10, H11, H12, H13, H14, H15, H16, ⟨%h, %v, %mix, %mu, %rs, %hI, H17, H18, H19, H20, H21⟩, Hk⟩
  have hj0 : 0 < j.val := by
    rcases Nat.eq_zero_or_pos j.val with h0 | h0
    · exact absurd ((hcond1 _).mpr (by rw [pt_mod]; exact h0)) hc1
    · exact h0
  have hj12 : j.val < 12 := by omega
  obtain ⟨hh, hv, -, -⟩ := good_of_inv m hj12 hj0 hI
  subst hh
  have hv' : ∀ y : S512x4096.Idx, (y 1).val < 1024 * j.val → v y = VV m c q y := fun y hy => hv y (by omega)
  have hj3 : ¬ 3 ≤ j.val := fun h3 => hc3 ((hcond3 _).mpr (by rw [pt_mod]; show j.val = 3; omega))
  iapply ((runB c (grid0.coords (pt q ⟨j.val, hj12⟩)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc2 hc1 hc3 hc4 hc5 (iblk m c 0 (pt q ⟨j.val, hj12⟩)) (iblk m c 1 (pt q ⟨j.val, hj12⟩)) (iblk m c 2 (pt q ⟨j.val, hj12⟩)) (iblk m c 3 (pt q ⟨j.val, hj12⟩)) (iblk m c 4 (pt q ⟨j.val, hj12⟩)) (iblk m c 5 (pt q ⟨j.val, hj12⟩)) (iblk m c 6 (pt q ⟨j.val, hj12⟩)) (iblk m c 7 (pt q ⟨j.val, hj12⟩)) (iblk m c 8 (pt q ⟨j.val, hj12⟩)) (iblk m c 9 (pt q ⟨j.val, hj12⟩)) (iblk m c 10 (pt q ⟨j.val, hj12⟩)) (iblk m c 11 (pt q ⟨j.val, hj12⟩)) (iblk m c 12 (pt q ⟨j.val, hj12⟩)) o (HH m c q) v mix mu rs).2 E K)
  isplitl [H3]; · iapply (own_raw c arg3 harg3 _); iexact H3
  isplitl [H4]; · iapply (own_raw c arg4 harg4 _); iexact H4
  isplitl [H5]; · iapply (own_raw c arg5 harg5 _); iexact H5
  isplitl [H6]; · iapply (own_raw c arg6 harg6 _); iexact H6
  isplitl [H7]; · iapply (own_raw c arg7 harg7 _); iexact H7
  isplitl [H8]; · iapply (own_raw c arg8 harg8 _); iexact H8
  isplitl [H9]; · iapply (own_raw c arg9 harg9 _); iexact H9
  isplitl [H10]; · iapply (own_raw c arg10 harg10 _); iexact H10
  isplitl [H11]; · iapply (own_raw c arg11 harg11 _); iexact H11
  isplitl [H12]; · iapply (own_raw c arg12 harg12 _); iexact H12
  isplitl [H13]; · iapply (own_raw c arg13 harg13 _); iexact H13
  isplitl [H14]; · iapply (own_raw c arg14 harg14 _); iexact H14
  isplitl [H15]; · iapply (own_raw c arg15 harg15 _); iexact H15
  isplitl [H16]; · iapply (own_raw c arg16 harg16 _); iexact H16
  isplitl [H17]; · iapply (own_raw c arg17 harg17 _); iexact H17
  isplitl [H18]; · iapply (own_raw c arg18 harg18 _); iexact H18
  isplitl [H19]; · iapply (own_raw c arg19 harg19 _); iexact H19
  isplitl [H20]; · iapply (own_raw c arg20 harg20 _); iexact H20
  isplitl [H21]; · iapply (own_raw c arg21 harg21 _); iexact H21
  iintro ⟨H3, H4, H5, H6, H7, H8, H9, H10, H11, H12, H13, H14, H15, H16, H17, H18, H19, H20, H21⟩
  iapply Hk
  isplitl [H3]; · iapply (raw_own c arg3 harg3 _); iexact H3
  isplitl [H4]; · iapply (raw_own c arg4 harg4 _); iexact H4
  isplitl [H5]; · iapply (raw_own c arg5 harg5 _); iexact H5
  isplitl [H6]; · iapply (raw_own c arg6 harg6 _); iexact H6
  isplitl [H7]; · iapply (raw_own c arg7 harg7 _); iexact H7
  isplitl [H8]; · iapply (raw_own c arg8 harg8 _); iexact H8
  isplitl [H9]; · iapply (raw_own c arg9 harg9 _); iexact H9
  isplitl [H10]; · iapply (raw_own c arg10 harg10 _); iexact H10
  isplitl [H11]; · iapply (raw_own c arg11 harg11 _); iexact H11
  isplitl [H12]; · iapply (raw_own c arg12 harg12 _); iexact H12
  isplitl [H13]; · iapply (raw_own c arg13 harg13 _); iexact H13
  isplitl [H14]; · iapply (raw_own c arg14 harg14 _); iexact H14
  isplitl [H15]; · iapply (raw_own c arg15 harg15 _); iexact H15
  isplitl [H16]; · iapply (raw_own c arg16 harg16 _); iexact H16
  iexists (HH m c q)
  iexists (arg18.view.read (Elt F) (arg18.view.writes (Elt F) (harg18.unread v) (runB c (grid0.coords (pt q ⟨j.val, by omega⟩)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc2 hc1 hc3 hc4 hc5 (iblk m c 0 (pt q ⟨j.val, by omega⟩)) (iblk m c 1 (pt q ⟨j.val, by omega⟩)) (iblk m c 2 (pt q ⟨j.val, by omega⟩)) (iblk m c 3 (pt q ⟨j.val, by omega⟩)) (iblk m c 4 (pt q ⟨j.val, by omega⟩)) (iblk m c 5 (pt q ⟨j.val, by omega⟩)) (iblk m c 6 (pt q ⟨j.val, by omega⟩)) (iblk m c 7 (pt q ⟨j.val, by omega⟩)) (iblk m c 8 (pt q ⟨j.val, by omega⟩)) (iblk m c 9 (pt q ⟨j.val, by omega⟩)) (iblk m c 10 (pt q ⟨j.val, by omega⟩)) (iblk m c 11 (pt q ⟨j.val, by omega⟩)) (iblk m c 12 (pt q ⟨j.val, by omega⟩)) o (HH m c q) v mix mu rs).1))
  iexists mix
  iexists mu
  iexists rs
  isplitr; · ipureintro; exact Inv_of_good m (j := j.val) (by omega) ⟨rfl, fun y hy => (B_v m c q j arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc2 hc1 hc3 hc4 hc5 o v mix mu rs hv') y (by omega), fun h3 => absurd h3 hj3, fun h4 => absurd (Nat.le_trans (by decide) h4) hj3⟩
  isplitl [H17]; · iapply (raw_own c arg17 harg17 _); iexact H17
  isplitl [H18]; · iapply (raw_own_eq c arg18 _ _ rfl); iexact H18
  isplitl [H19]; · iapply (raw_own c arg19 harg19 _); iexact H19
  isplitl [H20]; · iapply (raw_own c arg20 harg20 _); iexact H20
  iapply (raw_own c arg21 harg21 _); iexact H21

set_option maxHeartbeats 2000000 in
/-- The body at a point of case C. -/
theorem step_C (c : Dev nD) (q : Fin 64) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x512 .f32) (harg7 : arg7.IsWhole) (arg8 : Memref sig .tc .vmem S2048x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S16x128x128 .f32) (harg12 : arg12.IsWhole) (arg13 : Memref sig .tc .vmem S16x128x1 .f32) (harg13 : arg13.IsWhole) (arg14 : Memref sig .tc .vmem S4096x512 .bf16) (harg14 : arg14.IsWhole) (arg15 : Memref sig .tc .vmem S1x512 .f32) (harg15 : arg15.IsWhole) (arg16 : Memref sig .tc .vmem S1x512x512 .f32) (harg16 : arg16.IsWhole) (arg17 : Memref sig .tc .vmem S512x2048 .bf16) (harg17 : arg17.IsWhole) (arg18 : Memref sig .tc .vmem S512x4096 .f32) (harg18 : arg18.IsWhole) (arg19 : Memref sig .tc .vmem S512x4096 .bf16) (harg19 : arg19.IsWhole) (arg20 : Memref sig .tc .vmem S512x1 .f32) (harg20 : arg20.IsWhole) (arg21 : Memref sig .tc .vmem S512x1 .f32) (harg21 : arg21.IsWhole) (hc2 : cond2 (grid0.coords (pt q 3))) (hc3 : cond3 (grid0.coords (pt q 3))) (hc1 : ¬cond1 (grid0.coords (pt q 3))) (hc4 : ¬cond4 (grid0.coords (pt q 3))) (hc5 : ¬cond5 (grid0.coords (pt q 3))) (o : Vec F S1x512x512 .f32)  (E : Set ℕ) (K : PUnit → sProp 𝕄) :
    iprop(owns (c : Thread nD τ) arg3 fullShare (iblk m c 0 (pt q 3)) ∗ owns (c : Thread nD τ) arg4 fullShare (iblk m c 1 (pt q 3)) ∗ owns (c : Thread nD τ) arg5 fullShare (iblk m c 2 (pt q 3)) ∗ owns (c : Thread nD τ) arg6 fullShare (iblk m c 3 (pt q 3)) ∗ owns (c : Thread nD τ) arg7 fullShare (iblk m c 4 (pt q 3)) ∗ owns (c : Thread nD τ) arg8 fullShare (iblk m c 5 (pt q 3)) ∗ owns (c : Thread nD τ) arg9 fullShare (iblk m c 6 (pt q 3)) ∗ owns (c : Thread nD τ) arg10 fullShare (iblk m c 7 (pt q 3)) ∗ owns (c : Thread nD τ) arg11 fullShare (iblk m c 8 (pt q 3)) ∗ owns (c : Thread nD τ) arg12 fullShare (iblk m c 9 (pt q 3)) ∗ owns (c : Thread nD τ) arg13 fullShare (iblk m c 10 (pt q 3)) ∗ owns (c : Thread nD τ) arg14 fullShare (iblk m c 11 (pt q 3)) ∗ owns (c : Thread nD τ) arg15 fullShare (iblk m c 12 (pt q 3)) ∗ owns (c : Thread nD τ) arg16 fullShare o ∗ Sc m c (12 * q.val + 3) arg17 arg18 arg19 arg20 arg21
        ∗ (iprop(owns (c : Thread nD τ) arg3 fullShare (iblk m c 0 (pt q 3)) ∗ owns (c : Thread nD τ) arg4 fullShare (iblk m c 1 (pt q 3)) ∗ owns (c : Thread nD τ) arg5 fullShare (iblk m c 2 (pt q 3)) ∗ owns (c : Thread nD τ) arg6 fullShare (iblk m c 3 (pt q 3)) ∗ owns (c : Thread nD τ) arg7 fullShare (iblk m c 4 (pt q 3)) ∗ owns (c : Thread nD τ) arg8 fullShare (iblk m c 5 (pt q 3)) ∗ owns (c : Thread nD τ) arg9 fullShare (iblk m c 6 (pt q 3)) ∗ owns (c : Thread nD τ) arg10 fullShare (iblk m c 7 (pt q 3)) ∗ owns (c : Thread nD τ) arg11 fullShare (iblk m c 8 (pt q 3)) ∗ owns (c : Thread nD τ) arg12 fullShare (iblk m c 9 (pt q 3)) ∗ owns (c : Thread nD τ) arg13 fullShare (iblk m c 10 (pt q 3)) ∗ owns (c : Thread nD τ) arg14 fullShare (iblk m c 11 (pt q 3)) ∗ owns (c : Thread nD τ) arg15 fullShare (iblk m c 12 (pt q 3)) ∗ owns (c : Thread nD τ) arg16 fullShare o ∗ Sc m c (12 * q.val + 3 + 1) arg17 arg18 arg19 arg20 arg21) -∗ K ⟨⟩))
      ⊢ wp frame (wpE (defs₀ (F := F)) Variants.none c none) E (cc0_gmlp (grid0.coords (pt q 3)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold Sc
  iintro ⟨H3, H4, H5, H6, H7, H8, H9, H10, H11, H12, H13, H14, H15, H16, ⟨%h, %v, %mix, %mu, %rs, %hI, H17, H18, H19, H20, H21⟩, Hk⟩
  obtain ⟨hh, hv, -, -⟩ := good_of_inv m (j := 3) (by decide) (by decide) hI
  subst hh
  have hv' : ∀ y : S512x4096.Idx, (y 1).val < 1024 * (3 : Fin 4).val → v y = VV m c q y := fun y hy => hv y hy
  iapply ((runC c (grid0.coords (pt q 3)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc2 hc3 hc1 hc4 hc5 (iblk m c 0 (pt q 3)) (iblk m c 1 (pt q 3)) (iblk m c 2 (pt q 3)) (iblk m c 3 (pt q 3)) (iblk m c 4 (pt q 3)) (iblk m c 5 (pt q 3)) (iblk m c 6 (pt q 3)) (iblk m c 7 (pt q 3)) (iblk m c 8 (pt q 3)) (iblk m c 9 (pt q 3)) (iblk m c 10 (pt q 3)) (iblk m c 11 (pt q 3)) (iblk m c 12 (pt q 3)) o (HH m c q) v mix mu rs).2.2.2 E K)
  isplitl [H3]; · iapply (own_raw c arg3 harg3 _); iexact H3
  isplitl [H4]; · iapply (own_raw c arg4 harg4 _); iexact H4
  isplitl [H5]; · iapply (own_raw c arg5 harg5 _); iexact H5
  isplitl [H6]; · iapply (own_raw c arg6 harg6 _); iexact H6
  isplitl [H7]; · iapply (own_raw c arg7 harg7 _); iexact H7
  isplitl [H8]; · iapply (own_raw c arg8 harg8 _); iexact H8
  isplitl [H9]; · iapply (own_raw c arg9 harg9 _); iexact H9
  isplitl [H10]; · iapply (own_raw c arg10 harg10 _); iexact H10
  isplitl [H11]; · iapply (own_raw c arg11 harg11 _); iexact H11
  isplitl [H12]; · iapply (own_raw c arg12 harg12 _); iexact H12
  isplitl [H13]; · iapply (own_raw c arg13 harg13 _); iexact H13
  isplitl [H14]; · iapply (own_raw c arg14 harg14 _); iexact H14
  isplitl [H15]; · iapply (own_raw c arg15 harg15 _); iexact H15
  isplitl [H16]; · iapply (own_raw c arg16 harg16 _); iexact H16
  isplitl [H17]; · iapply (own_raw c arg17 harg17 _); iexact H17
  isplitl [H18]; · iapply (own_raw c arg18 harg18 _); iexact H18
  isplitl [H19]; · iapply (own_raw c arg19 harg19 _); iexact H19
  isplitl [H20]; · iapply (own_raw c arg20 harg20 _); iexact H20
  isplitl [H21]; · iapply (own_raw c arg21 harg21 _); iexact H21
  iintro ⟨H3, H4, H5, H6, H7, H8, H9, H10, H11, H12, H13, H14, H15, H16, H17, H18, H19, H20, H21⟩
  iapply Hk
  isplitl [H3]; · iapply (raw_own c arg3 harg3 _); iexact H3
  isplitl [H4]; · iapply (raw_own c arg4 harg4 _); iexact H4
  isplitl [H5]; · iapply (raw_own c arg5 harg5 _); iexact H5
  isplitl [H6]; · iapply (raw_own c arg6 harg6 _); iexact H6
  isplitl [H7]; · iapply (raw_own c arg7 harg7 _); iexact H7
  isplitl [H8]; · iapply (raw_own c arg8 harg8 _); iexact H8
  isplitl [H9]; · iapply (raw_own c arg9 harg9 _); iexact H9
  isplitl [H10]; · iapply (raw_own c arg10 harg10 _); iexact H10
  isplitl [H11]; · iapply (raw_own c arg11 harg11 _); iexact H11
  isplitl [H12]; · iapply (raw_own c arg12 harg12 _); iexact H12
  isplitl [H13]; · iapply (raw_own c arg13 harg13 _); iexact H13
  isplitl [H14]; · iapply (raw_own c arg14 harg14 _); iexact H14
  isplitl [H15]; · iapply (raw_own c arg15 harg15 _); iexact H15
  isplitl [H16]; · iapply (raw_own c arg16 harg16 _); iexact H16
  iexists (HH m c q)
  iexists (VV m c q)
  iexists mix
  iexists (k0_pay4 (VV m c q))
  iexists (k0_pay5 (VV m c q))
  isplitr; · ipureintro; exact Inv_of_good m (j := 3) (by omega) ⟨rfl, fun y _ => rfl, fun _ => ⟨rfl, rfl⟩, fun h4 => absurd h4 (by decide)⟩
  isplitl [H17]; · iapply (raw_own c arg17 harg17 _); iexact H17
  isplitl [H18]; · iapply (raw_own_eq c arg18 _ _ (C_v m c q arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc2 hc3 hc1 hc4 hc5 o v mix mu rs hv')); iexact H18
  isplitl [H19]; · iapply (raw_own c arg19 harg19 _); iexact H19
  isplitl [H20]; · iapply (raw_own_eq c arg20 _ _ (C_mu m c q arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc2 hc3 hc1 hc4 hc5 o v mix mu rs hv')); iexact H20
  iapply (raw_own_eq c arg21 _ _ (C_rs m c q arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc2 hc3 hc1 hc4 hc5 o v mix mu rs hv')); iexact H21

set_option maxHeartbeats 2000000 in
/-- The body at a point of case D. -/
theorem step_D (c : Dev nD) (q : Fin 64) (j : Fin 4) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x512 .f32) (harg7 : arg7.IsWhole) (arg8 : Memref sig .tc .vmem S2048x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S16x128x128 .f32) (harg12 : arg12.IsWhole) (arg13 : Memref sig .tc .vmem S16x128x1 .f32) (harg13 : arg13.IsWhole) (arg14 : Memref sig .tc .vmem S4096x512 .bf16) (harg14 : arg14.IsWhole) (arg15 : Memref sig .tc .vmem S1x512 .f32) (harg15 : arg15.IsWhole) (arg16 : Memref sig .tc .vmem S1x512x512 .f32) (harg16 : arg16.IsWhole) (arg17 : Memref sig .tc .vmem S512x2048 .bf16) (harg17 : arg17.IsWhole) (arg18 : Memref sig .tc .vmem S512x4096 .f32) (harg18 : arg18.IsWhole) (arg19 : Memref sig .tc .vmem S512x4096 .bf16) (harg19 : arg19.IsWhole) (arg20 : Memref sig .tc .vmem S512x1 .f32) (harg20 : arg20.IsWhole) (arg21 : Memref sig .tc .vmem S512x1 .f32) (harg21 : arg21.IsWhole) (hc4 : cond4 (grid0.coords (pt q ⟨4 + j.val, by omega⟩))) (hc1 : ¬cond1 (grid0.coords (pt q ⟨4 + j.val, by omega⟩))) (hc2 : ¬cond2 (grid0.coords (pt q ⟨4 + j.val, by omega⟩))) (hc3 : ¬cond3 (grid0.coords (pt q ⟨4 + j.val, by omega⟩))) (hc5 : ¬cond5 (grid0.coords (pt q ⟨4 + j.val, by omega⟩))) (o : Vec F S1x512x512 .f32)  (E : Set ℕ) (K : PUnit → sProp 𝕄) :
    iprop(owns (c : Thread nD τ) arg3 fullShare (iblk m c 0 (pt q ⟨4 + j.val, by omega⟩)) ∗ owns (c : Thread nD τ) arg4 fullShare (iblk m c 1 (pt q ⟨4 + j.val, by omega⟩)) ∗ owns (c : Thread nD τ) arg5 fullShare (iblk m c 2 (pt q ⟨4 + j.val, by omega⟩)) ∗ owns (c : Thread nD τ) arg6 fullShare (iblk m c 3 (pt q ⟨4 + j.val, by omega⟩)) ∗ owns (c : Thread nD τ) arg7 fullShare (iblk m c 4 (pt q ⟨4 + j.val, by omega⟩)) ∗ owns (c : Thread nD τ) arg8 fullShare (iblk m c 5 (pt q ⟨4 + j.val, by omega⟩)) ∗ owns (c : Thread nD τ) arg9 fullShare (iblk m c 6 (pt q ⟨4 + j.val, by omega⟩)) ∗ owns (c : Thread nD τ) arg10 fullShare (iblk m c 7 (pt q ⟨4 + j.val, by omega⟩)) ∗ owns (c : Thread nD τ) arg11 fullShare (iblk m c 8 (pt q ⟨4 + j.val, by omega⟩)) ∗ owns (c : Thread nD τ) arg12 fullShare (iblk m c 9 (pt q ⟨4 + j.val, by omega⟩)) ∗ owns (c : Thread nD τ) arg13 fullShare (iblk m c 10 (pt q ⟨4 + j.val, by omega⟩)) ∗ owns (c : Thread nD τ) arg14 fullShare (iblk m c 11 (pt q ⟨4 + j.val, by omega⟩)) ∗ owns (c : Thread nD τ) arg15 fullShare (iblk m c 12 (pt q ⟨4 + j.val, by omega⟩)) ∗ owns (c : Thread nD τ) arg16 fullShare o ∗ Sc m c (12 * q.val + (4 + j.val)) arg17 arg18 arg19 arg20 arg21
        ∗ (iprop(owns (c : Thread nD τ) arg3 fullShare (iblk m c 0 (pt q ⟨4 + j.val, by omega⟩)) ∗ owns (c : Thread nD τ) arg4 fullShare (iblk m c 1 (pt q ⟨4 + j.val, by omega⟩)) ∗ owns (c : Thread nD τ) arg5 fullShare (iblk m c 2 (pt q ⟨4 + j.val, by omega⟩)) ∗ owns (c : Thread nD τ) arg6 fullShare (iblk m c 3 (pt q ⟨4 + j.val, by omega⟩)) ∗ owns (c : Thread nD τ) arg7 fullShare (iblk m c 4 (pt q ⟨4 + j.val, by omega⟩)) ∗ owns (c : Thread nD τ) arg8 fullShare (iblk m c 5 (pt q ⟨4 + j.val, by omega⟩)) ∗ owns (c : Thread nD τ) arg9 fullShare (iblk m c 6 (pt q ⟨4 + j.val, by omega⟩)) ∗ owns (c : Thread nD τ) arg10 fullShare (iblk m c 7 (pt q ⟨4 + j.val, by omega⟩)) ∗ owns (c : Thread nD τ) arg11 fullShare (iblk m c 8 (pt q ⟨4 + j.val, by omega⟩)) ∗ owns (c : Thread nD τ) arg12 fullShare (iblk m c 9 (pt q ⟨4 + j.val, by omega⟩)) ∗ owns (c : Thread nD τ) arg13 fullShare (iblk m c 10 (pt q ⟨4 + j.val, by omega⟩)) ∗ owns (c : Thread nD τ) arg14 fullShare (iblk m c 11 (pt q ⟨4 + j.val, by omega⟩)) ∗ owns (c : Thread nD τ) arg15 fullShare (iblk m c 12 (pt q ⟨4 + j.val, by omega⟩)) ∗ owns (c : Thread nD τ) arg16 fullShare o ∗ Sc m c (12 * q.val + (4 + j.val) + 1) arg17 arg18 arg19 arg20 arg21) -∗ K ⟨⟩))
      ⊢ wp frame (wpE (defs₀ (F := F)) Variants.none c none) E (cc0_gmlp (grid0.coords (pt q ⟨4 + j.val, by omega⟩)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold Sc
  iintro ⟨H3, H4, H5, H6, H7, H8, H9, H10, H11, H12, H13, H14, H15, H16, ⟨%h, %v, %mix, %mu, %rs, %hI, H17, H18, H19, H20, H21⟩, Hk⟩
  have hj12 : (4 + j.val) < 12 := by omega
  have hj0 : 0 < (4 + j.val) := by omega
  obtain ⟨hh, hv, hmr, hmix⟩ := good_of_inv m (j := (4 + j.val)) hj12 hj0 hI
  subst hh
  have hv' : v = VV m c q := funext fun y => hv y (by have h1 : (y 1).val < 4096 := (y 1).isLt; omega)
  subst hv'
  obtain ⟨hmu, hrs⟩ := hmr (by omega)
  subst hmu hrs
  have hm' : ∀ y : S512x4096.Idx, (y 1).val < 1024 * j.val → mix y = MM m c q y := fun y hy => hmix (by omega) y (by omega)
  iapply ((runD c (grid0.coords (pt q ⟨4 + j.val, hj12⟩)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc4 hc1 hc2 hc3 hc5 (iblk m c 0 (pt q ⟨4 + j.val, hj12⟩)) (iblk m c 1 (pt q ⟨4 + j.val, hj12⟩)) (iblk m c 2 (pt q ⟨4 + j.val, hj12⟩)) (iblk m c 3 (pt q ⟨4 + j.val, hj12⟩)) (iblk m c 4 (pt q ⟨4 + j.val, hj12⟩)) (iblk m c 5 (pt q ⟨4 + j.val, hj12⟩)) (iblk m c 6 (pt q ⟨4 + j.val, hj12⟩)) (iblk m c 7 (pt q ⟨4 + j.val, hj12⟩)) (iblk m c 8 (pt q ⟨4 + j.val, hj12⟩)) (iblk m c 9 (pt q ⟨4 + j.val, hj12⟩)) (iblk m c 10 (pt q ⟨4 + j.val, hj12⟩)) (iblk m c 11 (pt q ⟨4 + j.val, hj12⟩)) (iblk m c 12 (pt q ⟨4 + j.val, hj12⟩)) o (HH m c q) (VV m c q) mix (k0_pay4 (VV m c q)) (k0_pay5 (VV m c q))).2 E K)
  isplitl [H3]; · iapply (own_raw c arg3 harg3 _); iexact H3
  isplitl [H4]; · iapply (own_raw c arg4 harg4 _); iexact H4
  isplitl [H5]; · iapply (own_raw c arg5 harg5 _); iexact H5
  isplitl [H6]; · iapply (own_raw c arg6 harg6 _); iexact H6
  isplitl [H7]; · iapply (own_raw c arg7 harg7 _); iexact H7
  isplitl [H8]; · iapply (own_raw c arg8 harg8 _); iexact H8
  isplitl [H9]; · iapply (own_raw c arg9 harg9 _); iexact H9
  isplitl [H10]; · iapply (own_raw c arg10 harg10 _); iexact H10
  isplitl [H11]; · iapply (own_raw c arg11 harg11 _); iexact H11
  isplitl [H12]; · iapply (own_raw c arg12 harg12 _); iexact H12
  isplitl [H13]; · iapply (own_raw c arg13 harg13 _); iexact H13
  isplitl [H14]; · iapply (own_raw c arg14 harg14 _); iexact H14
  isplitl [H15]; · iapply (own_raw c arg15 harg15 _); iexact H15
  isplitl [H16]; · iapply (own_raw c arg16 harg16 _); iexact H16
  isplitl [H17]; · iapply (own_raw c arg17 harg17 _); iexact H17
  isplitl [H18]; · iapply (own_raw c arg18 harg18 _); iexact H18
  isplitl [H19]; · iapply (own_raw c arg19 harg19 _); iexact H19
  isplitl [H20]; · iapply (own_raw c arg20 harg20 _); iexact H20
  isplitl [H21]; · iapply (own_raw c arg21 harg21 _); iexact H21
  iintro ⟨H3, H4, H5, H6, H7, H8, H9, H10, H11, H12, H13, H14, H15, H16, H17, H18, H19, H20, H21⟩
  iapply Hk
  isplitl [H3]; · iapply (raw_own c arg3 harg3 _); iexact H3
  isplitl [H4]; · iapply (raw_own c arg4 harg4 _); iexact H4
  isplitl [H5]; · iapply (raw_own c arg5 harg5 _); iexact H5
  isplitl [H6]; · iapply (raw_own c arg6 harg6 _); iexact H6
  isplitl [H7]; · iapply (raw_own c arg7 harg7 _); iexact H7
  isplitl [H8]; · iapply (raw_own c arg8 harg8 _); iexact H8
  isplitl [H9]; · iapply (raw_own c arg9 harg9 _); iexact H9
  isplitl [H10]; · iapply (raw_own c arg10 harg10 _); iexact H10
  isplitl [H11]; · iapply (raw_own c arg11 harg11 _); iexact H11
  isplitl [H12]; · iapply (raw_own c arg12 harg12 _); iexact H12
  isplitl [H13]; · iapply (raw_own c arg13 harg13 _); iexact H13
  isplitl [H14]; · iapply (raw_own c arg14 harg14 _); iexact H14
  isplitl [H15]; · iapply (raw_own c arg15 harg15 _); iexact H15
  isplitl [H16]; · iapply (raw_own c arg16 harg16 _); iexact H16
  iexists (HH m c q)
  iexists (VV m c q)
  iexists (arg19.view.read (Elt F) (arg19.view.writes (Elt F) (harg19.unread mix) (runD c (grid0.coords (pt q ⟨4 + j.val, by omega⟩)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc4 hc1 hc2 hc3 hc5 (iblk m c 0 (pt q ⟨4 + j.val, by omega⟩)) (iblk m c 1 (pt q ⟨4 + j.val, by omega⟩)) (iblk m c 2 (pt q ⟨4 + j.val, by omega⟩)) (iblk m c 3 (pt q ⟨4 + j.val, by omega⟩)) (iblk m c 4 (pt q ⟨4 + j.val, by omega⟩)) (iblk m c 5 (pt q ⟨4 + j.val, by omega⟩)) (iblk m c 6 (pt q ⟨4 + j.val, by omega⟩)) (iblk m c 7 (pt q ⟨4 + j.val, by omega⟩)) (iblk m c 8 (pt q ⟨4 + j.val, by omega⟩)) (iblk m c 9 (pt q ⟨4 + j.val, by omega⟩)) (iblk m c 10 (pt q ⟨4 + j.val, by omega⟩)) (iblk m c 11 (pt q ⟨4 + j.val, by omega⟩)) (iblk m c 12 (pt q ⟨4 + j.val, by omega⟩)) o (HH m c q) (VV m c q) mix (k0_pay4 (VV m c q)) (k0_pay5 (VV m c q))).1))
  iexists (k0_pay4 (VV m c q))
  iexists (k0_pay5 (VV m c q))
  isplitr; · ipureintro; exact Inv_of_good m (j := (4 + j.val)) (by omega) ⟨rfl, fun y _ => rfl, fun _ => ⟨rfl, rfl⟩, fun _ y hy => (D_mix m c q j arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc4 hc1 hc2 hc3 hc5 o mix hm') y (by omega)⟩
  isplitl [H17]; · iapply (raw_own c arg17 harg17 _); iexact H17
  isplitl [H18]; · iapply (raw_own c arg18 harg18 _); iexact H18
  isplitl [H19]; · iapply (raw_own_eq c arg19 _ _ rfl); iexact H19
  isplitl [H20]; · iapply (raw_own c arg20 harg20 _); iexact H20
  iapply (raw_own c arg21 harg21 _); iexact H21

set_option maxHeartbeats 2000000 in
/-- The body at a point of case E. -/
theorem step_E (c : Dev nD) (q : Fin 64) (j : Fin 4) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x512 .f32) (harg7 : arg7.IsWhole) (arg8 : Memref sig .tc .vmem S2048x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S16x128x128 .f32) (harg12 : arg12.IsWhole) (arg13 : Memref sig .tc .vmem S16x128x1 .f32) (harg13 : arg13.IsWhole) (arg14 : Memref sig .tc .vmem S4096x512 .bf16) (harg14 : arg14.IsWhole) (arg15 : Memref sig .tc .vmem S1x512 .f32) (harg15 : arg15.IsWhole) (arg16 : Memref sig .tc .vmem S1x512x512 .f32) (harg16 : arg16.IsWhole) (arg17 : Memref sig .tc .vmem S512x2048 .bf16) (harg17 : arg17.IsWhole) (arg18 : Memref sig .tc .vmem S512x4096 .f32) (harg18 : arg18.IsWhole) (arg19 : Memref sig .tc .vmem S512x4096 .bf16) (harg19 : arg19.IsWhole) (arg20 : Memref sig .tc .vmem S512x1 .f32) (harg20 : arg20.IsWhole) (arg21 : Memref sig .tc .vmem S512x1 .f32) (harg21 : arg21.IsWhole) (hc5 : cond5 (grid0.coords (pt q ⟨8 + j.val, by omega⟩))) (hc1 : ¬cond1 (grid0.coords (pt q ⟨8 + j.val, by omega⟩))) (hc2 : ¬cond2 (grid0.coords (pt q ⟨8 + j.val, by omega⟩))) (hc3 : ¬cond3 (grid0.coords (pt q ⟨8 + j.val, by omega⟩))) (hc4 : ¬cond4 (grid0.coords (pt q ⟨8 + j.val, by omega⟩))) (o : Vec F S1x512x512 .f32)  (E : Set ℕ) (K : PUnit → sProp 𝕄) :
    iprop(owns (c : Thread nD τ) arg3 fullShare (iblk m c 0 (pt q ⟨8 + j.val, by omega⟩)) ∗ owns (c : Thread nD τ) arg4 fullShare (iblk m c 1 (pt q ⟨8 + j.val, by omega⟩)) ∗ owns (c : Thread nD τ) arg5 fullShare (iblk m c 2 (pt q ⟨8 + j.val, by omega⟩)) ∗ owns (c : Thread nD τ) arg6 fullShare (iblk m c 3 (pt q ⟨8 + j.val, by omega⟩)) ∗ owns (c : Thread nD τ) arg7 fullShare (iblk m c 4 (pt q ⟨8 + j.val, by omega⟩)) ∗ owns (c : Thread nD τ) arg8 fullShare (iblk m c 5 (pt q ⟨8 + j.val, by omega⟩)) ∗ owns (c : Thread nD τ) arg9 fullShare (iblk m c 6 (pt q ⟨8 + j.val, by omega⟩)) ∗ owns (c : Thread nD τ) arg10 fullShare (iblk m c 7 (pt q ⟨8 + j.val, by omega⟩)) ∗ owns (c : Thread nD τ) arg11 fullShare (iblk m c 8 (pt q ⟨8 + j.val, by omega⟩)) ∗ owns (c : Thread nD τ) arg12 fullShare (iblk m c 9 (pt q ⟨8 + j.val, by omega⟩)) ∗ owns (c : Thread nD τ) arg13 fullShare (iblk m c 10 (pt q ⟨8 + j.val, by omega⟩)) ∗ owns (c : Thread nD τ) arg14 fullShare (iblk m c 11 (pt q ⟨8 + j.val, by omega⟩)) ∗ owns (c : Thread nD τ) arg15 fullShare (iblk m c 12 (pt q ⟨8 + j.val, by omega⟩)) ∗ owns (c : Thread nD τ) arg16 fullShare o ∗ Sc m c (12 * q.val + (8 + j.val)) arg17 arg18 arg19 arg20 arg21
        ∗ (iprop(owns (c : Thread nD τ) arg3 fullShare (iblk m c 0 (pt q ⟨8 + j.val, by omega⟩)) ∗ owns (c : Thread nD τ) arg4 fullShare (iblk m c 1 (pt q ⟨8 + j.val, by omega⟩)) ∗ owns (c : Thread nD τ) arg5 fullShare (iblk m c 2 (pt q ⟨8 + j.val, by omega⟩)) ∗ owns (c : Thread nD τ) arg6 fullShare (iblk m c 3 (pt q ⟨8 + j.val, by omega⟩)) ∗ owns (c : Thread nD τ) arg7 fullShare (iblk m c 4 (pt q ⟨8 + j.val, by omega⟩)) ∗ owns (c : Thread nD τ) arg8 fullShare (iblk m c 5 (pt q ⟨8 + j.val, by omega⟩)) ∗ owns (c : Thread nD τ) arg9 fullShare (iblk m c 6 (pt q ⟨8 + j.val, by omega⟩)) ∗ owns (c : Thread nD τ) arg10 fullShare (iblk m c 7 (pt q ⟨8 + j.val, by omega⟩)) ∗ owns (c : Thread nD τ) arg11 fullShare (iblk m c 8 (pt q ⟨8 + j.val, by omega⟩)) ∗ owns (c : Thread nD τ) arg12 fullShare (iblk m c 9 (pt q ⟨8 + j.val, by omega⟩)) ∗ owns (c : Thread nD τ) arg13 fullShare (iblk m c 10 (pt q ⟨8 + j.val, by omega⟩)) ∗ owns (c : Thread nD τ) arg14 fullShare (iblk m c 11 (pt q ⟨8 + j.val, by omega⟩)) ∗ owns (c : Thread nD τ) arg15 fullShare (iblk m c 12 (pt q ⟨8 + j.val, by omega⟩)) ∗ owns (c : Thread nD τ) arg16 fullShare (OO m c q j) ∗ Sc m c (12 * q.val + (8 + j.val) + 1) arg17 arg18 arg19 arg20 arg21) -∗ K ⟨⟩))
      ⊢ wp frame (wpE (defs₀ (F := F)) Variants.none c none) E (cc0_gmlp (grid0.coords (pt q ⟨8 + j.val, by omega⟩)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold Sc
  iintro ⟨H3, H4, H5, H6, H7, H8, H9, H10, H11, H12, H13, H14, H15, H16, ⟨%h, %v, %mix, %mu, %rs, %hI, H17, H18, H19, H20, H21⟩, Hk⟩
  have hj12 : (8 + j.val) < 12 := by omega
  have hj0 : 0 < (8 + j.val) := by omega
  obtain ⟨hh, hv, hmr, hmix⟩ := good_of_inv m (j := (8 + j.val)) hj12 hj0 hI
  subst hh
  have hv' : v = VV m c q := funext fun y => hv y (by have h1 : (y 1).val < 4096 := (y 1).isLt; omega)
  subst hv'
  obtain ⟨hmu, hrs⟩ := hmr (by omega)
  subst hmu hrs
  have hm' : mix = MM m c q := funext fun y => hmix (by omega) y (by have h1 : (y 1).val < 4096 := (y 1).isLt; omega)
  subst hm'
  iapply ((runE c (grid0.coords (pt q ⟨8 + j.val, hj12⟩)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc5 hc1 hc2 hc3 hc4 (iblk m c 0 (pt q ⟨8 + j.val, hj12⟩)) (iblk m c 1 (pt q ⟨8 + j.val, hj12⟩)) (iblk m c 2 (pt q ⟨8 + j.val, hj12⟩)) (iblk m c 3 (pt q ⟨8 + j.val, hj12⟩)) (iblk m c 4 (pt q ⟨8 + j.val, hj12⟩)) (iblk m c 5 (pt q ⟨8 + j.val, hj12⟩)) (iblk m c 6 (pt q ⟨8 + j.val, hj12⟩)) (iblk m c 7 (pt q ⟨8 + j.val, hj12⟩)) (iblk m c 8 (pt q ⟨8 + j.val, hj12⟩)) (iblk m c 9 (pt q ⟨8 + j.val, hj12⟩)) (iblk m c 10 (pt q ⟨8 + j.val, hj12⟩)) (iblk m c 11 (pt q ⟨8 + j.val, hj12⟩)) (iblk m c 12 (pt q ⟨8 + j.val, hj12⟩)) o (HH m c q) (VV m c q) (MM m c q) (k0_pay4 (VV m c q)) (k0_pay5 (VV m c q))).2 E K)
  isplitl [H3]; · iapply (own_raw c arg3 harg3 _); iexact H3
  isplitl [H4]; · iapply (own_raw c arg4 harg4 _); iexact H4
  isplitl [H5]; · iapply (own_raw c arg5 harg5 _); iexact H5
  isplitl [H6]; · iapply (own_raw c arg6 harg6 _); iexact H6
  isplitl [H7]; · iapply (own_raw c arg7 harg7 _); iexact H7
  isplitl [H8]; · iapply (own_raw c arg8 harg8 _); iexact H8
  isplitl [H9]; · iapply (own_raw c arg9 harg9 _); iexact H9
  isplitl [H10]; · iapply (own_raw c arg10 harg10 _); iexact H10
  isplitl [H11]; · iapply (own_raw c arg11 harg11 _); iexact H11
  isplitl [H12]; · iapply (own_raw c arg12 harg12 _); iexact H12
  isplitl [H13]; · iapply (own_raw c arg13 harg13 _); iexact H13
  isplitl [H14]; · iapply (own_raw c arg14 harg14 _); iexact H14
  isplitl [H15]; · iapply (own_raw c arg15 harg15 _); iexact H15
  isplitl [H16]; · iapply (own_raw c arg16 harg16 _); iexact H16
  isplitl [H17]; · iapply (own_raw c arg17 harg17 _); iexact H17
  isplitl [H18]; · iapply (own_raw c arg18 harg18 _); iexact H18
  isplitl [H19]; · iapply (own_raw c arg19 harg19 _); iexact H19
  isplitl [H20]; · iapply (own_raw c arg20 harg20 _); iexact H20
  isplitl [H21]; · iapply (own_raw c arg21 harg21 _); iexact H21
  iintro ⟨H3, H4, H5, H6, H7, H8, H9, H10, H11, H12, H13, H14, H15, H16, H17, H18, H19, H20, H21⟩
  iapply Hk
  isplitl [H3]; · iapply (raw_own c arg3 harg3 _); iexact H3
  isplitl [H4]; · iapply (raw_own c arg4 harg4 _); iexact H4
  isplitl [H5]; · iapply (raw_own c arg5 harg5 _); iexact H5
  isplitl [H6]; · iapply (raw_own c arg6 harg6 _); iexact H6
  isplitl [H7]; · iapply (raw_own c arg7 harg7 _); iexact H7
  isplitl [H8]; · iapply (raw_own c arg8 harg8 _); iexact H8
  isplitl [H9]; · iapply (raw_own c arg9 harg9 _); iexact H9
  isplitl [H10]; · iapply (raw_own c arg10 harg10 _); iexact H10
  isplitl [H11]; · iapply (raw_own c arg11 harg11 _); iexact H11
  isplitl [H12]; · iapply (raw_own c arg12 harg12 _); iexact H12
  isplitl [H13]; · iapply (raw_own c arg13 harg13 _); iexact H13
  isplitl [H14]; · iapply (raw_own c arg14 harg14 _); iexact H14
  isplitl [H15]; · iapply (raw_own c arg15 harg15 _); iexact H15
  isplitl [H16]; · iapply (raw_own_eq c arg16 _ _ (E_out m c q j arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc5 hc1 hc2 hc3 hc4 o (HH m c q) (VV m c q) (k0_pay4 (VV m c q)) (k0_pay5 (VV m c q)))); iexact H16
  iexists (HH m c q)
  iexists (VV m c q)
  iexists (MM m c q)
  iexists (k0_pay4 (VV m c q))
  iexists (k0_pay5 (VV m c q))
  isplitr; · ipureintro; exact Inv_of_good m (j := (8 + j.val)) (by omega) ⟨rfl, fun y _ => rfl, fun _ => ⟨rfl, rfl⟩, fun _ y _ => rfl⟩
  isplitl [H17]; · iapply (raw_own c arg17 harg17 _); iexact H17
  isplitl [H18]; · iapply (raw_own c arg18 harg18 _); iexact H18
  isplitl [H19]; · iapply (raw_own c arg19 harg19 _); iexact H19
  isplitl [H20]; · iapply (raw_own c arg20 harg20 _); iexact H20
  iapply (raw_own c arg21 harg21 _); iexact H21

end Cert.KernelIdeal.Gmlp

end
-- ==== Proof.GmlpFrame.lean ====
module

public import proofs.«01_k».proof.Proof.GmlpStep
public import Idealize.ShloMosaic.Lib.Claim

@[expose] public section

set_option maxRecDepth 16384

noncomputable section

namespace Cert.KernelIdeal.Gmlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five scratch arrays, as the body is handed them. -/
abbrev scM0 : Memref sig .tc .vmem S512x2048 .bf16 := Memref.whole cc0_scratch0
abbrev scM1 : Memref sig .tc .vmem S512x4096 .f32 := Memref.whole cc0_scratch1
abbrev scM2 : Memref sig .tc .vmem S512x4096 .bf16 := Memref.whole cc0_scratch2
abbrev scM3 : Memref sig .tc .vmem S512x1 .f32 := Memref.whole cc0_scratch3
abbrev scM4 : Memref sig .tc .vmem S512x1 .f32 := Memref.whole cc0_scratch4

theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)
          ∗ (∃ d, owns (c : Thread nD τ) scM3 fullShare d) ∗ (∃ d, owns (c : Thread nD τ) scM4 fullShare d)) ∗ (∃ r, prngReg c r)) := by
  unfold Pipeline.ΦA; rw [scopedRest0_eq]; simp only [scM0, scM1, scM2, scM3, scM4, owns_whole]; try rfl

/-- The block of the result that a point leaves (at the points that leave one). -/
def outAt (c : Dev nD) (t : Fin cfg0.N) : Vec F S1x512x512 .f32 :=
  OO m c ⟨t.val / 12, by have h : cfg0.N = 768 := N_0; have := t.isLt; omega⟩ ⟨t.val % 12 - 8, by omega⟩

theorem outAt_pt (c : Dev nD) (q : Fin 64) (j : Fin 4) : outAt m c (pt q ⟨8 + j.val, by omega⟩) = OO m c q j := by
  unfold outAt
  congr 1
  · exact Fin.ext (by show (12 * q.val + (8 + j.val)) / 12 = q.val; omega)
  · exact Fin.ext (by show (12 * q.val + (8 + j.val)) % 12 - 8 = j.val; omega)

/-- What the region carries between points: the scratch arrays and the generator register. -/
def Phi (c : Dev nD) (n : ℕ) : sProp 𝕄 := iprop(Sc m c n scM0 scM1 scM2 scM3 scM4 ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outAt m c t
  Φ t := Phi m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = outAt m c t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d
theorem before_10 (c : Dev nD) (t : Fin cfg0.N) (d) : (dats m 0 c).before 10 t d = iblk m c 10 t := before0_10_of m (dats m 0 c) (A_eq m c 10) (after_10 m c) t d
theorem before_11 (c : Dev nD) (t : Fin cfg0.N) (d) : (dats m 0 c).before 11 t d = iblk m c 11 t := before0_11_of m (dats m 0 c) (A_eq m c 11) (after_11 m c) t d
theorem before_12 (c : Dev nD) (t : Fin cfg0.N) (d) : (dats m 0 c).before 12 t d = iblk m c 12 t := before0_12_of m (dats m 0 c) (A_eq m c 12) (after_12 m c) t d
theorem leaves_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (st0_6 t) fullShare (iblk m c 6 t) := by
  unfold Dat.leavesExact; rw [show cfg0.idle 6 (grid0.coords t) = false from rfl, after_6]
theorem leaves_7 (c : Dev nD) (t : Fin cfg0.N) : (dats m 0 c).leavesExact 7 t = owns (c : Thread nD τ) (st0_7 t) fullShare (iblk m c 7 t) := by
  unfold Dat.leavesExact; rw [show cfg0.idle 7 (grid0.coords t) = false from rfl, after_7]
theorem leaves_8 (c : Dev nD) (t : Fin cfg0.N) : (dats m 0 c).leavesExact 8 t = owns (c : Thread nD τ) (st0_8 t) fullShare (iblk m c 8 t) := by
  unfold Dat.leavesExact; rw [show cfg0.idle 8 (grid0.coords t) = false from rfl, after_8]
theorem leaves_9 (c : Dev nD) (t : Fin cfg0.N) : (dats m 0 c).leavesExact 9 t = owns (c : Thread nD τ) (st0_9 t) fullShare (iblk m c 9 t) := by
  unfold Dat.leavesExact; rw [show cfg0.idle 9 (grid0.coords t) = false from rfl, after_9]
theorem leaves_10 (c : Dev nD) (t : Fin cfg0.N) : (dats m 0 c).leavesExact 10 t = owns (c : Thread nD τ) (st0_10 t) fullShare (iblk m c 10 t) := by
  unfold Dat.leavesExact; rw [show cfg0.idle 10 (grid0.coords t) = false from rfl, after_10]
theorem leaves_11 (c : Dev nD) (t : Fin cfg0.N) : (dats m 0 c).leavesExact 11 t = owns (c : Thread nD τ) (st0_11 t) fullShare (iblk m c 11 t) := by
  unfold Dat.leavesExact; rw [show cfg0.idle 11 (grid0.coords t) = false from rfl, after_11]
theorem leaves_12 (c : Dev nD) (t : Fin cfg0.N) : (dats m 0 c).leavesExact 12 t = owns (c : Thread nD τ) (st0_12 t) fullShare (iblk m c 12 t) := by
  unfold Dat.leavesExact; rw [show cfg0.idle 12 (grid0.coords t) = false from rfl, after_12]

theorem idle13 : ∀ t : Fin cfg0.N, ¬cond5 (grid0.coords t) → cfg0.idle 13 (grid0.coords t) = true := by
  intro t h
  have h' : ¬ (t.val % 12 ≥ 8) := fun hh => h ((hcond5 t).mpr hh)
  revert t; decide +kernel
theorem live13 : ∀ t : Fin cfg0.N, cond5 (grid0.coords t) → cfg0.idle 13 (grid0.coords t) = false := by decide +kernel
theorem noFlush13 (t : Fin cfg0.N) (h : ¬cond5 (grid0.coords t)) : (cfg0.win 13).flush t = false := by
  cases hf : (cfg0.win 13).flush t with
  | false => rfl
  | true => exact absurd ((hcond5 t).mpr ((hflush t).mp hf)) h

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 4000000 in
theorem body_A (c : Dev nD) (q : Fin 64) (hc1 : cond1 (grid0.coords (pt q 0))) (hc2 : cond2 (grid0.coords (pt q 0))) (hc3 : ¬cond3 (grid0.coords (pt q 0))) (hc4 : ¬cond4 (grid0.coords (pt q 0))) (hc5 : ¬cond5 (grid0.coords (pt q 0))) :
    bodyPre m c (pt q 0) ⊢ wp frame (wpE (defs₀ (F := F)) Variants.none c none) Set.univ (bodyAt0 (pt q 0)) (fun _ => bodyPost m c (pt q 0)) := by
  unfold bodyPre bodyPost
  simp only [before_0, before_1, before_2, before_3, before_4, before_5, before_6, before_7, before_8, before_9, before_10, before_11, before_12, leaves_0, leaves_1, leaves_2, leaves_3, leaves_4, leaves_5, leaves_6, leaves_7, leaves_8, leaves_9, leaves_10, leaves_11, leaves_12]
  rw [Dat.leavesExact_idle (dats m 0 c) 13 (pt q 0) (idle13 _ hc5) (noFlush13 _ hc5)]
  rw [show (dats m 0 c).owesAt () (pt q 0).succ = (dats m 0 c).owesAt () (pt q 0).castSucc from rfl]
  rw [show (dats m 0 c).Φ (pt q 0).castSucc = Phi m c (12 * q.val + 0) from rfl, show (dats m 0 c).Φ (pt q 0).succ = Phi m c (12 * q.val + 0 + 1) from rfl]
  unfold Phi
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (step_A m c q (st0_0 (pt q 0)) (hstage0_0 ((cfg0.slots (pt q 0) 0).cast nbuf0_0)) (st0_1 (pt q 0)) (hstage0_1 ((cfg0.slots (pt q 0) 1).cast nbuf0_1)) (st0_2 (pt q 0)) (hstage0_2 ((cfg0.slots (pt q 0) 2).cast nbuf0_2)) (st0_3 (pt q 0)) (hstage0_3 ((cfg0.slots (pt q 0) 3).cast nbuf0_3)) (st0_4 (pt q 0)) (hstage0_4 ((cfg0.slots (pt q 0) 4).cast nbuf0_4)) (st0_5 (pt q 0)) (hstage0_5 ((cfg0.slots (pt q 0) 5).cast nbuf0_5)) (st0_6 (pt q 0)) (hstage0_6 ((cfg0.slots (pt q 0) 6).cast nbuf0_6)) (st0_7 (pt q 0)) (hstage0_7 ((cfg0.slots (pt q 0) 7).cast nbuf0_7)) (st0_8 (pt q 0)) (hstage0_8 ((cfg0.slots (pt q 0) 8).cast nbuf0_8)) (st0_9 (pt q 0)) (hstage0_9 ((cfg0.slots (pt q 0) 9).cast nbuf0_9)) (st0_10 (pt q 0)) (hstage0_10 ((cfg0.slots (pt q 0) 10).cast nbuf0_10)) (st0_11 (pt q 0)) (hstage0_11 ((cfg0.slots (pt q 0) 11).cast nbuf0_11)) (st0_12 (pt q 0)) (hstage0_12 ((cfg0.slots (pt q 0) 12).cast nbuf0_12)) (st0_13 (pt q 0)) (hstage0_13 ((cfg0.slots (pt q 0) 13).cast nbuf0_13)) scM0 (Memref.isWhole_whole _) scM1 (Memref.isWhole_whole _) scM2 (Memref.isWhole_whole _) scM3 (Memref.isWhole_whole _) scM4 (Memref.isWhole_whole _) hc1 hc2 hc3 hc4 hc5 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS]; · iexact HS
  iintro ⟨H0, H1, H2, H3, H4, H5, H6, H7, H8, H9, H10, H11, H12, H13, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists _; iexact H13

set_option maxHeartbeats 4000000 in
theorem body_B (c : Dev nD) (q : Fin 64) (j : Fin 4) (hc2 : cond2 (grid0.coords (pt q ⟨j.val, by omega⟩))) (hc1 : ¬cond1 (grid0.coords (pt q ⟨j.val, by omega⟩))) (hc3 : ¬cond3 (grid0.coords (pt q ⟨j.val, by omega⟩))) (hc4 : ¬cond4 (grid0.coords (pt q ⟨j.val, by omega⟩))) (hc5 : ¬cond5 (grid0.coords (pt q ⟨j.val, by omega⟩))) :
    bodyPre m c (pt q ⟨j.val, by omega⟩) ⊢ wp frame (wpE (defs₀ (F := F)) Variants.none c none) Set.univ (bodyAt0 (pt q ⟨j.val, by omega⟩)) (fun _ => bodyPost m c (pt q ⟨j.val, by omega⟩)) := by
  unfold bodyPre bodyPost
  simp only [before_0, before_1, before_2, before_3, before_4, before_5, before_6, before_7, before_8, before_9, before_10, before_11, before_12, leaves_0, leaves_1, leaves_2, leaves_3, leaves_4, leaves_5, leaves_6, leaves_7, leaves_8, leaves_9, leaves_10, leaves_11, leaves_12]
  rw [Dat.leavesExact_idle (dats m 0 c) 13 (pt q ⟨j.val, by omega⟩) (idle13 _ hc5) (noFlush13 _ hc5)]
  rw [show (dats m 0 c).owesAt () (pt q ⟨j.val, by omega⟩).succ = (dats m 0 c).owesAt () (pt q ⟨j.val, by omega⟩).castSucc from rfl]
  rw [show (dats m 0 c).Φ (pt q ⟨j.val, by omega⟩).castSucc = Phi m c (12 * q.val + j.val) from rfl, show (dats m 0 c).Φ (pt q ⟨j.val, by omega⟩).succ = Phi m c (12 * q.val + j.val + 1) from rfl]
  unfold Phi
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (step_B m c q j (st0_0 (pt q ⟨j.val, Nat.lt_of_lt_of_le j.isLt (by decide)⟩)) (hstage0_0 ((cfg0.slots (pt q ⟨j.val, Nat.lt_of_lt_of_le j.isLt (by decide)⟩) 0).cast nbuf0_0)) (st0_1 (pt q ⟨j.val, Nat.lt_of_lt_of_le j.isLt (by decide)⟩)) (hstage0_1 ((cfg0.slots (pt q ⟨j.val, Nat.lt_of_lt_of_le j.isLt (by decide)⟩) 1).cast nbuf0_1)) (st0_2 (pt q ⟨j.val, Nat.lt_of_lt_of_le j.isLt (by decide)⟩)) (hstage0_2 ((cfg0.slots (pt q ⟨j.val, Nat.lt_of_lt_of_le j.isLt (by decide)⟩) 2).cast nbuf0_2)) (st0_3 (pt q ⟨j.val, Nat.lt_of_lt_of_le j.isLt (by decide)⟩)) (hstage0_3 ((cfg0.slots (pt q ⟨j.val, Nat.lt_of_lt_of_le j.isLt (by decide)⟩) 3).cast nbuf0_3)) (st0_4 (pt q ⟨j.val, Nat.lt_of_lt_of_le j.isLt (by decide)⟩)) (hstage0_4 ((cfg0.slots (pt q ⟨j.val, Nat.lt_of_lt_of_le j.isLt (by decide)⟩) 4).cast nbuf0_4)) (st0_5 (pt q ⟨j.val, Nat.lt_of_lt_of_le j.isLt (by decide)⟩)) (hstage0_5 ((cfg0.slots (pt q ⟨j.val, Nat.lt_of_lt_of_le j.isLt (by decide)⟩) 5).cast nbuf0_5)) (st0_6 (pt q ⟨j.val, Nat.lt_of_lt_of_le j.isLt (by decide)⟩)) (hstage0_6 ((cfg0.slots (pt q ⟨j.val, Nat.lt_of_lt_of_le j.isLt (by decide)⟩) 6).cast nbuf0_6)) (st0_7 (pt q ⟨j.val, Nat.lt_of_lt_of_le j.isLt (by decide)⟩)) (hstage0_7 ((cfg0.slots (pt q ⟨j.val, Nat.lt_of_lt_of_le j.isLt (by decide)⟩) 7).cast nbuf0_7)) (st0_8 (pt q ⟨j.val, Nat.lt_of_lt_of_le j.isLt (by decide)⟩)) (hstage0_8 ((cfg0.slots (pt q ⟨j.val, Nat.lt_of_lt_of_le j.isLt (by decide)⟩) 8).cast nbuf0_8)) (st0_9 (pt q ⟨j.val, Nat.lt_of_lt_of_le j.isLt (by decide)⟩)) (hstage0_9 ((cfg0.slots (pt q ⟨j.val, Nat.lt_of_lt_of_le j.isLt (by decide)⟩) 9).cast nbuf0_9)) (st0_10 (pt q ⟨j.val, Nat.lt_of_lt_of_le j.isLt (by decide)⟩)) (hstage0_10 ((cfg0.slots (pt q ⟨j.val, Nat.lt_of_lt_of_le j.isLt (by decide)⟩) 10).cast nbuf0_10)) (st0_11 (pt q ⟨j.val, Nat.lt_of_lt_of_le j.isLt (by decide)⟩)) (hstage0_11 ((cfg0.slots (pt q ⟨j.val, Nat.lt_of_lt_of_le j.isLt (by decide)⟩) 11).cast nbuf0_11)) (st0_12 (pt q ⟨j.val, Nat.lt_of_lt_of_le j.isLt (by decide)⟩)) (hstage0_12 ((cfg0.slots (pt q ⟨j.val, Nat.lt_of_lt_of_le j.isLt (by decide)⟩) 12).cast nbuf0_12)) (st0_13 (pt q ⟨j.val, Nat.lt_of_lt_of_le j.isLt (by decide)⟩)) (hstage0_13 ((cfg0.slots (pt q ⟨j.val, Nat.lt_of_lt_of_le j.isLt (by decide)⟩) 13).cast nbuf0_13)) scM0 (Memref.isWhole_whole _) scM1 (Memref.isWhole_whole _) scM2 (Memref.isWhole_whole _) scM3 (Memref.isWhole_whole _) scM4 (Memref.isWhole_whole _) hc2 hc1 hc3 hc4 hc5 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS]; · iexact HS
  iintro ⟨H0, H1, H2, H3, H4, H5, H6, H7, H8, H9, H10, H11, H12, H13, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists _; iexact H13

set_option maxHeartbeats 4000000 in
theorem body_C (c : Dev nD) (q : Fin 64) (hc2 : cond2 (grid0.coords (pt q 3))) (hc3 : cond3 (grid0.coords (pt q 3))) (hc1 : ¬cond1 (grid0.coords (pt q 3))) (hc4 : ¬cond4 (grid0.coords (pt q 3))) (hc5 : ¬cond5 (grid0.coords (pt q 3))) :
    bodyPre m c (pt q 3) ⊢ wp frame (wpE (defs₀ (F := F)) Variants.none c none) Set.univ (bodyAt0 (pt q 3)) (fun _ => bodyPost m c (pt q 3)) := by
  unfold bodyPre bodyPost
  simp only [before_0, before_1, before_2, before_3, before_4, before_5, before_6, before_7, before_8, before_9, before_10, before_11, before_12, leaves_0, leaves_1, leaves_2, leaves_3, leaves_4, leaves_5, leaves_6, leaves_7, leaves_8, leaves_9, leaves_10, leaves_11, leaves_12]
  rw [Dat.leavesExact_idle (dats m 0 c) 13 (pt q 3) (idle13 _ hc5) (noFlush13 _ hc5)]
  rw [show (dats m 0 c).owesAt () (pt q 3).succ = (dats m 0 c).owesAt () (pt q 3).castSucc from rfl]
  rw [show (dats m 0 c).Φ (pt q 3).castSucc = Phi m c (12 * q.val + 3) from rfl, show (dats m 0 c).Φ (pt q 3).succ = Phi m c (12 * q.val + 3 + 1) from rfl]
  unfold Phi
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (step_C m c q (st0_0 (pt q 3)) (hstage0_0 ((cfg0.slots (pt q 3) 0).cast nbuf0_0)) (st0_1 (pt q 3)) (hstage0_1 ((cfg0.slots (pt q 3) 1).cast nbuf0_1)) (st0_2 (pt q 3)) (hstage0_2 ((cfg0.slots (pt q 3) 2).cast nbuf0_2)) (st0_3 (pt q 3)) (hstage0_3 ((cfg0.slots (pt q 3) 3).cast nbuf0_3)) (st0_4 (pt q 3)) (hstage0_4 ((cfg0.slots (pt q 3) 4).cast nbuf0_4)) (st0_5 (pt q 3)) (hstage0_5 ((cfg0.slots (pt q 3) 5).cast nbuf0_5)) (st0_6 (pt q 3)) (hstage0_6 ((cfg0.slots (pt q 3) 6).cast nbuf0_6)) (st0_7 (pt q 3)) (hstage0_7 ((cfg0.slots (pt q 3) 7).cast nbuf0_7)) (st0_8 (pt q 3)) (hstage0_8 ((cfg0.slots (pt q 3) 8).cast nbuf0_8)) (st0_9 (pt q 3)) (hstage0_9 ((cfg0.slots (pt q 3) 9).cast nbuf0_9)) (st0_10 (pt q 3)) (hstage0_10 ((cfg0.slots (pt q 3) 10).cast nbuf0_10)) (st0_11 (pt q 3)) (hstage0_11 ((cfg0.slots (pt q 3) 11).cast nbuf0_11)) (st0_12 (pt q 3)) (hstage0_12 ((cfg0.slots (pt q 3) 12).cast nbuf0_12)) (st0_13 (pt q 3)) (hstage0_13 ((cfg0.slots (pt q 3) 13).cast nbuf0_13)) scM0 (Memref.isWhole_whole _) scM1 (Memref.isWhole_whole _) scM2 (Memref.isWhole_whole _) scM3 (Memref.isWhole_whole _) scM4 (Memref.isWhole_whole _) hc2 hc3 hc1 hc4 hc5 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS]; · iexact HS
  iintro ⟨H0, H1, H2, H3, H4, H5, H6, H7, H8, H9, H10, H11, H12, H13, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists _; iexact H13

set_option maxHeartbeats 4000000 in
theorem body_D (c : Dev nD) (q : Fin 64) (j : Fin 4) (hc4 : cond4 (grid0.coords (pt q ⟨4 + j.val, by omega⟩))) (hc1 : ¬cond1 (grid0.coords (pt q ⟨4 + j.val, by omega⟩))) (hc2 : ¬cond2 (grid0.coords (pt q ⟨4 + j.val, by omega⟩))) (hc3 : ¬cond3 (grid0.coords (pt q ⟨4 + j.val, by omega⟩))) (hc5 : ¬cond5 (grid0.coords (pt q ⟨4 + j.val, by omega⟩))) :
    bodyPre m c (pt q ⟨4 + j.val, by omega⟩) ⊢ wp frame (wpE (defs₀ (F := F)) Variants.none c none) Set.univ (bodyAt0 (pt q ⟨4 + j.val, by omega⟩)) (fun _ => bodyPost m c (pt q ⟨4 + j.val, by omega⟩)) := by
  unfold bodyPre bodyPost
  simp only [before_0, before_1, before_2, before_3, before_4, before_5, before_6, before_7, before_8, before_9, before_10, before_11, before_12, leaves_0, leaves_1, leaves_2, leaves_3, leaves_4, leaves_5, leaves_6, leaves_7, leaves_8, leaves_9, leaves_10, leaves_11, leaves_12]
  rw [Dat.leavesExact_idle (dats m 0 c) 13 (pt q ⟨4 + j.val, by omega⟩) (idle13 _ hc5) (noFlush13 _ hc5)]
  rw [show (dats m 0 c).owesAt () (pt q ⟨4 + j.val, by omega⟩).succ = (dats m 0 c).owesAt () (pt q ⟨4 + j.val, by omega⟩).castSucc from rfl]
  rw [show (dats m 0 c).Φ (pt q ⟨4 + j.val, by omega⟩).castSucc = Phi m c (12 * q.val + (4 + j.val)) from rfl, show (dats m 0 c).Φ (pt q ⟨4 + j.val, by omega⟩).succ = Phi m c (12 * q.val + (4 + j.val) + 1) from rfl]
  unfold Phi
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (step_D m c q j (st0_0 (pt q ⟨4 + j.val, Nat.lt_of_lt_of_le (Nat.add_lt_add_left j.isLt _) (by decide)⟩)) (hstage0_0 ((cfg0.slots (pt q ⟨4 + j.val, Nat.lt_of_lt_of_le (Nat.add_lt_add_left j.isLt _) (by decide)⟩) 0).cast nbuf0_0)) (st0_1 (pt q ⟨4 + j.val, Nat.lt_of_lt_of_le (Nat.add_lt_add_left j.isLt _) (by decide)⟩)) (hstage0_1 ((cfg0.slots (pt q ⟨4 + j.val, Nat.lt_of_lt_of_le (Nat.add_lt_add_left j.isLt _) (by decide)⟩) 1).cast nbuf0_1)) (st0_2 (pt q ⟨4 + j.val, Nat.lt_of_lt_of_le (Nat.add_lt_add_left j.isLt _) (by decide)⟩)) (hstage0_2 ((cfg0.slots (pt q ⟨4 + j.val, Nat.lt_of_lt_of_le (Nat.add_lt_add_left j.isLt _) (by decide)⟩) 2).cast nbuf0_2)) (st0_3 (pt q ⟨4 + j.val, Nat.lt_of_lt_of_le (Nat.add_lt_add_left j.isLt _) (by decide)⟩)) (hstage0_3 ((cfg0.slots (pt q ⟨4 + j.val, Nat.lt_of_lt_of_le (Nat.add_lt_add_left j.isLt _) (by decide)⟩) 3).cast nbuf0_3)) (st0_4 (pt q ⟨4 + j.val, Nat.lt_of_lt_of_le (Nat.add_lt_add_left j.isLt _) (by decide)⟩)) (hstage0_4 ((cfg0.slots (pt q ⟨4 + j.val, Nat.lt_of_lt_of_le (Nat.add_lt_add_left j.isLt _) (by decide)⟩) 4).cast nbuf0_4)) (st0_5 (pt q ⟨4 + j.val, Nat.lt_of_lt_of_le (Nat.add_lt_add_left j.isLt _) (by decide)⟩)) (hstage0_5 ((cfg0.slots (pt q ⟨4 + j.val, Nat.lt_of_lt_of_le (Nat.add_lt_add_left j.isLt _) (by decide)⟩) 5).cast nbuf0_5)) (st0_6 (pt q ⟨4 + j.val, Nat.lt_of_lt_of_le (Nat.add_lt_add_left j.isLt _) (by decide)⟩)) (hstage0_6 ((cfg0.slots (pt q ⟨4 + j.val, Nat.lt_of_lt_of_le (Nat.add_lt_add_left j.isLt _) (by decide)⟩) 6).cast nbuf0_6)) (st0_7 (pt q ⟨4 + j.val, Nat.lt_of_lt_of_le (Nat.add_lt_add_left j.isLt _) (by decide)⟩)) (hstage0_7 ((cfg0.slots (pt q ⟨4 + j.val, Nat.lt_of_lt_of_le (Nat.add_lt_add_left j.isLt _) (by decide)⟩) 7).cast nbuf0_7)) (st0_8 (pt q ⟨4 + j.val, Nat.lt_of_lt_of_le (Nat.add_lt_add_left j.isLt _) (by decide)⟩)) (hstage0_8 ((cfg0.slots (pt q ⟨4 + j.val, Nat.lt_of_lt_of_le (Nat.add_lt_add_left j.isLt _) (by decide)⟩) 8).cast nbuf0_8)) (st0_9 (pt q ⟨4 + j.val, Nat.lt_of_lt_of_le (Nat.add_lt_add_left j.isLt _) (by decide)⟩)) (hstage0_9 ((cfg0.slots (pt q ⟨4 + j.val, Nat.lt_of_lt_of_le (Nat.add_lt_add_left j.isLt _) (by decide)⟩) 9).cast nbuf0_9)) (st0_10 (pt q ⟨4 + j.val, Nat.lt_of_lt_of_le (Nat.add_lt_add_left j.isLt _) (by decide)⟩)) (hstage0_10 ((cfg0.slots (pt q ⟨4 + j.val, Nat.lt_of_lt_of_le (Nat.add_lt_add_left j.isLt _) (by decide)⟩) 10).cast nbuf0_10)) (st0_11 (pt q ⟨4 + j.val, Nat.lt_of_lt_of_le (Nat.add_lt_add_left j.isLt _) (by decide)⟩)) (hstage0_11 ((cfg0.slots (pt q ⟨4 + j.val, Nat.lt_of_lt_of_le (Nat.add_lt_add_left j.isLt _) (by decide)⟩) 11).cast nbuf0_11)) (st0_12 (pt q ⟨4 + j.val, Nat.lt_of_lt_of_le (Nat.add_lt_add_left j.isLt _) (by decide)⟩)) (hstage0_12 ((cfg0.slots (pt q ⟨4 + j.val, Nat.lt_of_lt_of_le (Nat.add_lt_add_left j.isLt _) (by decide)⟩) 12).cast nbuf0_12)) (st0_13 (pt q ⟨4 + j.val, Nat.lt_of_lt_of_le (Nat.add_lt_add_left j.isLt _) (by decide)⟩)) (hstage0_13 ((cfg0.slots (pt q ⟨4 + j.val, Nat.lt_of_lt_of_le (Nat.add_lt_add_left j.isLt _) (by decide)⟩) 13).cast nbuf0_13)) scM0 (Memref.isWhole_whole _) scM1 (Memref.isWhole_whole _) scM2 (Memref.isWhole_whole _) scM3 (Memref.isWhole_whole _) scM4 (Memref.isWhole_whole _) hc4 hc1 hc2 hc3 hc5 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS]; · iexact HS
  iintro ⟨H0, H1, H2, H3, H4, H5, H6, H7, H8, H9, H10, H11, H12, H13, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists _; iexact H13

set_option maxHeartbeats 4000000 in
theorem body_E (c : Dev nD) (q : Fin 64) (j : Fin 4) (hc5 : cond5 (grid0.coords (pt q ⟨8 + j.val, by omega⟩))) (hc1 : ¬cond1 (grid0.coords (pt q ⟨8 + j.val, by omega⟩))) (hc2 : ¬cond2 (grid0.coords (pt q ⟨8 + j.val, by omega⟩))) (hc3 : ¬cond3 (grid0.coords (pt q ⟨8 + j.val, by omega⟩))) (hc4 : ¬cond4 (grid0.coords (pt q ⟨8 + j.val, by omega⟩))) :
    bodyPre m c (pt q ⟨8 + j.val, by omega⟩) ⊢ wp frame (wpE (defs₀ (F := F)) Variants.none c none) Set.univ (bodyAt0 (pt q ⟨8 + j.val, by omega⟩)) (fun _ => bodyPost m c (pt q ⟨8 + j.val, by omega⟩)) := by
  unfold bodyPre bodyPost
  simp only [before_0, before_1, before_2, before_3, before_4, before_5, before_6, before_7, before_8, before_9, before_10, before_11, before_12, leaves_0, leaves_1, leaves_2, leaves_3, leaves_4, leaves_5, leaves_6, leaves_7, leaves_8, leaves_9, leaves_10, leaves_11, leaves_12]
  rw [show (dats m 0 c).leavesExact 13 (pt q ⟨8 + j.val, by omega⟩) = owns (c : Thread nD τ) (st0_13 (pt q ⟨8 + j.val, by omega⟩)) fullShare (OO m c q j) from by
    unfold Dat.leavesExact; rw [live13 _ hc5, after_13, outAt_pt]]
  rw [show (dats m 0 c).owesAt () (pt q ⟨8 + j.val, by omega⟩).succ = (dats m 0 c).owesAt () (pt q ⟨8 + j.val, by omega⟩).castSucc from rfl]
  rw [show (dats m 0 c).Φ (pt q ⟨8 + j.val, by omega⟩).castSucc = Phi m c (12 * q.val + (8 + j.val)) from rfl, show (dats m 0 c).Φ (pt q ⟨8 + j.val, by omega⟩).succ = Phi m c (12 * q.val + (8 + j.val) + 1) from rfl]
  unfold Phi
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (step_E m c q j (st0_0 (pt q ⟨8 + j.val, Nat.lt_of_lt_of_le (Nat.add_lt_add_left j.isLt _) (by decide)⟩)) (hstage0_0 ((cfg0.slots (pt q ⟨8 + j.val, Nat.lt_of_lt_of_le (Nat.add_lt_add_left j.isLt _) (by decide)⟩) 0).cast nbuf0_0)) (st0_1 (pt q ⟨8 + j.val, Nat.lt_of_lt_of_le (Nat.add_lt_add_left j.isLt _) (by decide)⟩)) (hstage0_1 ((cfg0.slots (pt q ⟨8 + j.val, Nat.lt_of_lt_of_le (Nat.add_lt_add_left j.isLt _) (by decide)⟩) 1).cast nbuf0_1)) (st0_2 (pt q ⟨8 + j.val, Nat.lt_of_lt_of_le (Nat.add_lt_add_left j.isLt _) (by decide)⟩)) (hstage0_2 ((cfg0.slots (pt q ⟨8 + j.val, Nat.lt_of_lt_of_le (Nat.add_lt_add_left j.isLt _) (by decide)⟩) 2).cast nbuf0_2)) (st0_3 (pt q ⟨8 + j.val, Nat.lt_of_lt_of_le (Nat.add_lt_add_left j.isLt _) (by decide)⟩)) (hstage0_3 ((cfg0.slots (pt q ⟨8 + j.val, Nat.lt_of_lt_of_le (Nat.add_lt_add_left j.isLt _) (by decide)⟩) 3).cast nbuf0_3)) (st0_4 (pt q ⟨8 + j.val, Nat.lt_of_lt_of_le (Nat.add_lt_add_left j.isLt _) (by decide)⟩)) (hstage0_4 ((cfg0.slots (pt q ⟨8 + j.val, Nat.lt_of_lt_of_le (Nat.add_lt_add_left j.isLt _) (by decide)⟩) 4).cast nbuf0_4)) (st0_5 (pt q ⟨8 + j.val, Nat.lt_of_lt_of_le (Nat.add_lt_add_left j.isLt _) (by decide)⟩)) (hstage0_5 ((cfg0.slots (pt q ⟨8 + j.val, Nat.lt_of_lt_of_le (Nat.add_lt_add_left j.isLt _) (by decide)⟩) 5).cast nbuf0_5)) (st0_6 (pt q ⟨8 + j.val, Nat.lt_of_lt_of_le (Nat.add_lt_add_left j.isLt _) (by decide)⟩)) (hstage0_6 ((cfg0.slots (pt q ⟨8 + j.val, Nat.lt_of_lt_of_le (Nat.add_lt_add_left j.isLt _) (by decide)⟩) 6).cast nbuf0_6)) (st0_7 (pt q ⟨8 + j.val, Nat.lt_of_lt_of_le (Nat.add_lt_add_left j.isLt _) (by decide)⟩)) (hstage0_7 ((cfg0.slots (pt q ⟨8 + j.val, Nat.lt_of_lt_of_le (Nat.add_lt_add_left j.isLt _) (by decide)⟩) 7).cast nbuf0_7)) (st0_8 (pt q ⟨8 + j.val, Nat.lt_of_lt_of_le (Nat.add_lt_add_left j.isLt _) (by decide)⟩)) (hstage0_8 ((cfg0.slots (pt q ⟨8 + j.val, Nat.lt_of_lt_of_le (Nat.add_lt_add_left j.isLt _) (by decide)⟩) 8).cast nbuf0_8)) (st0_9 (pt q ⟨8 + j.val, Nat.lt_of_lt_of_le (Nat.add_lt_add_left j.isLt _) (by decide)⟩)) (hstage0_9 ((cfg0.slots (pt q ⟨8 + j.val, Nat.lt_of_lt_of_le (Nat.add_lt_add_left j.isLt _) (by decide)⟩) 9).cast nbuf0_9)) (st0_10 (pt q ⟨8 + j.val, Nat.lt_of_lt_of_le (Nat.add_lt_add_left j.isLt _) (by decide)⟩)) (hstage0_10 ((cfg0.slots (pt q ⟨8 + j.val, Nat.lt_of_lt_of_le (Nat.add_lt_add_left j.isLt _) (by decide)⟩) 10).cast nbuf0_10)) (st0_11 (pt q ⟨8 + j.val, Nat.lt_of_lt_of_le (Nat.add_lt_add_left j.isLt _) (by decide)⟩)) (hstage0_11 ((cfg0.slots (pt q ⟨8 + j.val, Nat.lt_of_lt_of_le (Nat.add_lt_add_left j.isLt _) (by decide)⟩) 11).cast nbuf0_11)) (st0_12 (pt q ⟨8 + j.val, Nat.lt_of_lt_of_le (Nat.add_lt_add_left j.isLt _) (by decide)⟩)) (hstage0_12 ((cfg0.slots (pt q ⟨8 + j.val, Nat.lt_of_lt_of_le (Nat.add_lt_add_left j.isLt _) (by decide)⟩) 12).cast nbuf0_12)) (st0_13 (pt q ⟨8 + j.val, Nat.lt_of_lt_of_le (Nat.add_lt_add_left j.isLt _) (by decide)⟩)) (hstage0_13 ((cfg0.slots (pt q ⟨8 + j.val, Nat.lt_of_lt_of_le (Nat.add_lt_add_left j.isLt _) (by decide)⟩) 13).cast nbuf0_13)) scM0 (Memref.isWhole_whole _) scM1 (Memref.isWhole_whole _) scM2 (Memref.isWhole_whole _) scM3 (Memref.isWhole_whole _) scM4 (Memref.isWhole_whole _) hc5 hc1 hc2 hc3 hc4 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS]; · iexact HS
  iintro ⟨H0, H1, H2, H3, H4, H5, H6, H7, H8, H9, H10, H11, H12, H13, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem exists_pt (t : Fin cfg0.N) : ∃ (q : Fin 64) (j : Fin 12), t = pt q j := by
  have h : cfg0.N = 768 := N_0
  have ht := t.isLt
  refine ⟨⟨t.val / 12, by omega⟩, ⟨t.val % 12, by omega⟩, Fin.ext ?_⟩
  show t.val = 12 * (t.val / 12) + t.val % 12; omega

/-- The body at any point. -/
theorem sound_body (c : Dev nD) (t : Fin cfg0.N) :
    bodyPre m c t ⊢ wp frame (wpE (defs₀ (F := F)) Variants.none c none) Set.univ (bodyAt0 t) (fun _ => bodyPost m c t) := by
  have n1 : ¬ t.val % 12 = 0 → ¬cond1 (grid0.coords t) := fun h hc => h ((hcond1 t).mp hc)
  have n2 : ¬ t.val % 12 < 4 → ¬cond2 (grid0.coords t) := fun h hc => h ((hcond2 t).mp hc)
  have n3 : ¬ t.val % 12 = 3 → ¬cond3 (grid0.coords t) := fun h hc => h ((hcond3 t).mp hc)
  have n4 : ¬ (4 ≤ t.val % 12 ∧ t.val % 12 < 8) → ¬cond4 (grid0.coords t) := fun h hc => h ((hcond4 t).mp hc)
  have n5 : ¬ 8 ≤ t.val % 12 → ¬cond5 (grid0.coords t) := fun h hc => h ((hcond5 t).mp hc)
  have p1 := (hcond1 t).mpr
  have p2 := (hcond2 t).mpr
  have p3 := (hcond3 t).mpr
  have p4 := (hcond4 t).mpr
  have p5 := (hcond5 t).mpr
  obtain ⟨q, j, rfl⟩ := exists_pt t
  rw [pt_mod] at n1 n2 n3 n4 n5 p1 p2 p3 p4 p5
  obtain ⟨j, hj⟩ := j
  dsimp only at n1 n2 n3 n4 n5 p1 p2 p3 p4 p5
  by_cases h0 : j = 0
  · subst h0
    exact body_A m c q (p1 rfl) (p2 (by decide)) (n3 (by decide)) (n4 (by decide)) (n5 (by decide))
  by_cases h3 : j = 3
  · subst h3
    exact body_C m c q (p2 (by decide)) (p3 rfl) (n1 (by decide)) (n4 (by decide)) (n5 (by decide))
  by_cases h4 : j < 4
  · exact body_B m c q ⟨j, h4⟩ (p2 h4) (n1 h0) (n3 h3) (n4 (by omega)) (n5 (by omega))
  by_cases h8 : j < 8
  · obtain ⟨k, rfl⟩ : ∃ k, j = 4 + k := ⟨j - 4, by omega⟩
    exact body_D m c q ⟨k, by omega⟩ (p4 ⟨by omega, h8⟩) (n1 h0) (n2 h4) (n3 h3) (n5 (by omega))
  · obtain ⟨k, rfl⟩ : ∃ k, j = 8 + k := ⟨j - 8, by omega⟩
    exact body_E m c q ⟨k, by omega⟩ (p5 (by omega)) (n1 h0) (n2 h4) (n3 h3) (n4 (by omega))

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, PhiA_eq]
  unfold Phi Sc
  iintro ⟨⟨⟨%d0, H0⟩, ⟨%d1, H1⟩, ⟨%d2, H2⟩, ⟨%d3, H3⟩, ⟨%d4, H4⟩⟩, Hg⟩
  isplitr [Hg]
  · iexists d0; iexists d1; iexists d2; iexists d3; iexists d4
    isplitr; · ipureintro; exact fun q j _ h => absurd h (by omega)
    isplitl [H0]; · iexact H0
    isplitl [H1]; · iexact H1
    isplitl [H2]; · iexact H2
    isplitl [H3]; · iexact H3
    iexact H4
  iexact Hg

theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi Sc
  iintro ⟨⟨%d0, %d1, %d2, %d3, %d4, %hI, H0, H1, H2, H3, H4⟩, Hg⟩
  isplitr [Hg]
  · isplitl [H0]; · iexists _; iexact H0
    isplitl [H1]; · iexists _; iexact H1
    isplitl [H2]; · iexists _; iexact H2
    isplitl [H3]; · iexists _; iexact H3
    iexists _; iexact H4
  iexact Hg

set_option backward.isDefEq.respectTransparency.types false in
/-- The launch: every array ends at what the proof data computes, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame of the ideal kernel, at any interpretation of its floats. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.KernelIdeal.Gmlp

end
-- ==== Proof.GmlpRef.lean ====
/-
  The first reference's result (`x + gate · gmlp(modulate(rms_norm x))`) as named stages.
-/
module

public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.ReferenceIdeal.Gmlp

open Cert.ReferenceIdeal Cert.ReferenceIdeal.Gen
open Idealize.ShloMosaic Idealize.ShloMosaic.TcCoe Idealize.SL.Sem

variable {F : FTy → Type} [FloatOps F]

/-- `modulate(rms_norm(x, g), shift, scale)` -/
def HR (A0 : FVec F S16x2048x2048 .f32) (A1 : FVec F S2048 .f32) (A2 A3 : FVec F S16x2048 .f32) : FVec F S16x2048x2048 .f32 :=
  addf (mulf (mulf (mulf A0 (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf A0 A0) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 A1))) (broadcastInDim S16x2048x2048 ![0, 1, 2] bcast_S16x1x2048_S16x2048x2048_0_1_2 (addf (broadcastInDim S16x1x2048 ![] bcast_S_S16x1x2048 (constant S_ .f32 0x3F800000#32)) (broadcastInDim S16x1x2048 ![0, 2] bcast_S16x2048_S16x1x2048_0_2 A3)))) (broadcastInDim S16x2048x2048 ![0, 1, 2] bcast_S16x1x2048_S16x2048x2048_0_1_2 (broadcastInDim S16x1x2048 ![0, 2] bcast_S16x2048_S16x1x2048_0_2 A2))

/-- `h @ w_in + b_in` -/
def PR (H : FVec F S16x2048x2048 .f32) (A5 : FVec F S2048x8192 .f32) (A6 : FVec F S8192 .f32) : FVec F S16x2048x8192 .f32 :=
  addf (Host.dotGeneral dot_S16x2048x2048_S2048x8192_S16x2048x8192_2_0_01_1_n_n none H A5) (broadcastInDim S16x2048x8192 ![0, 1, 2] bcast_S1x1x8192_S16x2048x8192_0_1_2 (broadcastInDim S1x1x8192 ![2] bcast_S8192_S1x1x8192_2 A6))

/-- `gelu(p)` -/
def GR (P : FVec F S16x2048x8192 .f32) : FVec F S16x2048x8192 .f32 :=
  mulf P (mulf (broadcastInDim S16x2048x8192 ![] bcast_S_S16x2048x8192 (constant S_ .f32 0x3F000000#32)) (addf (broadcastInDim S16x2048x8192 ![] bcast_S_S16x2048x8192 (constant S_ .f32 0x3F800000#32)) (Host.tanh (mulf (broadcastInDim S16x2048x8192 ![] bcast_S_S16x2048x8192 (constant S_ .f32 0x3F4C422A#32)) (addf P (mulf (broadcastInDim S16x2048x8192 ![] bcast_S_S16x2048x8192 (constant S_ .f32 0x3D372713#32)) (mulf (mulf P P) P)))))))

/-- The first half of the columns. -/
def UR (Z : FVec F S16x2048x8192 .f32) : FVec F S16x2048x4096 .f32 :=
  extractStridedSlice S16x2048x4096 ![0, 0, 0] Z slices_S16x2048x8192_S16x2048x4096_0_0_0

/-- The second half of the columns. -/
def VR (Z : FVec F S16x2048x8192 .f32) : FVec F S16x2048x4096 .f32 :=
  extractStridedSlice S16x2048x4096 ![0, 0, 4096] Z slices_S16x2048x8192_S16x2048x4096_0_0_4096

/-- The mean of a row. -/
def MUR (V : FVec F S16x2048x4096 .f32) : FVec F S16x2048x1 .f32 :=
  Host.divf (broadcastInDim S16x2048x1 ![0, 1] bcast_S16x2048_S16x2048x1_0_1 (Host.reduceAdd V (constant S_ .f32 0x00000000#32) reducesTo_S16x2048x4096_S16x2048_d2 h_S_)) (broadcastInDim S16x2048x1 ![] bcast_S_S16x2048x1 (constant S_ .f32 0x45800000#32))

/-- `layer_norm(v, ln_g, ln_b)` -/
def NR (V : FVec F S16x2048x4096 .f32) (A7 A8 : FVec F S4096 .f32) : FVec F S16x2048x4096 .f32 :=
  addf (mulf (mulf (subf V (broadcastInDim S16x2048x4096 ![0, 1, 2] bcast_S16x2048x1_S16x2048x4096_0_1_2 (MUR V))) (broadcastInDim S16x2048x4096 ![0, 1, 2] bcast_S16x2048x1_S16x2048x4096_0_1_2 (Host.rsqrt (addf (Host.divf (broadcastInDim S16x2048x1 ![0, 1] bcast_S16x2048_S16x2048x1_0_1 (Host.reduceAdd (mulf (subf V (broadcastInDim S16x2048x4096 ![0, 1, 2] bcast_S16x2048x1_S16x2048x4096_0_1_2 (MUR V))) (subf V (broadcastInDim S16x2048x4096 ![0, 1, 2] bcast_S16x2048x1_S16x2048x4096_0_1_2 (MUR V)))) (constant S_ .f32 0x00000000#32) reducesTo_S16x2048x4096_S16x2048_d2 h_S_)) (broadcastInDim S16x2048x1 ![] bcast_S_S16x2048x1 (constant S_ .f32 0x45800000#32))) (broadcastInDim S16x2048x1 ![] bcast_S_S16x2048x1 (constant S_ .f32 0x358637BD#32)))))) (broadcastInDim S16x2048x4096 ![0, 1, 2] bcast_S1x1x4096_S16x2048x4096_0_1_2 (broadcastInDim S1x1x4096 ![2] bcast_S4096_S1x1x4096_2 A7))) (broadcastInDim S16x2048x4096 ![0, 1, 2] bcast_S1x1x4096_S16x2048x4096_0_1_2 (broadcastInDim S1x1x4096 ![2] bcast_S4096_S1x1x4096_2 A8))

/-- The spatial mixing: each chunk of 128 rows is multiplied by a lower triangular matrix of its group. -/
def MXR (N : FVec F S16x2048x4096 .f32) (A9 : FVec F S16x128x128 .f32) (A10 : FVec F S16x128 .f32) : FVec F S16x2048x4096 .f32 :=
  shapeCast _ (addf (transpose S16x16x128x16x256 [1, 2, 4, 0, 3] (Host.dotGeneral dot_S16x16x128x16x256_S16x128x128_S16x16x16x256x128_2_2_014_1_3_0 none (shapeCast _ N shapeCasts_S16x2048x4096_S16x16x128x16x256) (select (broadcastInDim S16x128x128 ![0, 1, 2] bcast_S1x128x128_S16x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) A9 (broadcastInDim S16x128x128 ![] bcast_S_S16x128x128 (id (constant S_ .f32 0x00000000#32))))) transposes_S16x16x16x256x128_S16x16x128x16x256_1_2_4_0_3) (broadcastInDim S16x16x128x16x256 ![0, 1, 2, 3, 4] bcast_S1x1x128x16x1_S16x16x128x16x256_0_1_2_3_4 (broadcastInDim S1x1x128x16x1 ![2, 3] bcast_S128x16_S1x1x128x16x1_2_3 (transpose S128x16 [1, 0] A10 transposes_S16x128_S128x16_1_0)))) shapeCasts_S16x16x128x16x256_S16x2048x4096

/-- `(u * v) @ w_out + b_out` -/
def YR (U M : FVec F S16x2048x4096 .f32) (A11 : FVec F S4096x2048 .f32) (A12 : FVec F S2048 .f32) : FVec F S16x2048x2048 .f32 :=
  addf (Host.dotGeneral dot_S16x2048x4096_S4096x2048_S16x2048x2048_2_0_01_1_n_n none (mulf U M) A11) (broadcastInDim S16x2048x2048 ![0, 1, 2] bcast_S1x1x2048_S16x2048x2048_0_1_2 (broadcastInDim S1x1x2048 ![2] bcast_S2048_S1x1x2048_2 A12))

/-- `x + gate * y` -/
def XR (A0 : FVec F S16x2048x2048 .f32) (A4 : FVec F S16x2048 .f32) (Y : FVec F S16x2048x2048 .f32) : FVec F S16x2048x2048 .f32 :=
  addf A0 (mulf (broadcastInDim S16x2048x2048 ![0, 1, 2] bcast_S16x1x2048_S16x2048x2048_0_1_2 (broadcastInDim S16x1x2048 ![0, 2] bcast_S16x2048_S16x1x2048_0_2 A4)) Y)

/-- The gated half before the last product, from the two halves of `gelu`. -/
def ZZ (A0 : FVec F S16x2048x2048 .f32) (A1 : FVec F S2048 .f32) (A2 A3 : FVec F S16x2048 .f32) (A5 : FVec F S2048x8192 .f32) (A6 : FVec F S8192 .f32) : FVec F S16x2048x8192 .f32 := GR (PR (HR A0 A1 A2 A3) A5 A6)

/-- The whole result. -/
def REF (A0 : FVec F S16x2048x2048 .f32) (A1 : FVec F S2048 .f32) (A2 A3 A4 : FVec F S16x2048 .f32) (A5 : FVec F S2048x8192 .f32) (A6 : FVec F S8192 .f32) (A7 A8 : FVec F S4096 .f32) (A9 : FVec F S16x128x128 .f32) (A10 : FVec F S16x128 .f32) (A11 : FVec F S4096x2048 .f32) (A12 : FVec F S2048 .f32) : FVec F S16x2048x2048 .f32 :=
  XR A0 A4 (YR (UR (ZZ A0 A1 A2 A3 A5 A6)) (MXR (NR (VR (ZZ A0 A1 A2 A3 A5 A6)) A7 A8) A9 A10) A11 A12)

/-- The reference's composed term is `REF` of its arguments. -/
theorem res_eq (m : (ℓ : Loc nD τ sig) → Buf (Elt F) ℓ) (c : Dev nD) :
    Value.res_main_v84 m c = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Value.res_main_v84 REF XR YR MXR NR MUR VR UR ZZ GR PR HR
  rfl

theorem PR_apply (H : FVec Ideal S16x2048x2048 .f32) (W : FVec Ideal S2048x8192 .f32) (B : FVec Ideal S8192 .f32) (b : Fin 16) (r : Fin 2048) (f : Fin 8192) :
    PR H W B (ix3 b r f) = (∑ d : Fin 2048, H (ix3 b r d) * W (ix2 d f)) + B (ix1 f) := by
  pointwise [PR]

theorem UR_apply (Z : FVec Ideal S16x2048x8192 .f32) (b : Fin 16) (r : Fin 2048) (f : Fin 4096) (f' : Fin 8192) (hf : f'.val = f.val) :
    UR Z (ix3 b r f) = Z (ix3 b r f') := by
  rw [show f' = (⟨f.val, by omega⟩ : Fin 8192) from Fin.ext hf]
  pointwise [UR]

theorem VR_apply (Z : FVec Ideal S16x2048x8192 .f32) (b : Fin 16) (r : Fin 2048) (f : Fin 4096) (f' : Fin 8192) (hf : f'.val = 4096 + f.val) :
    VR Z (ix3 b r f) = Z (ix3 b r f') := by
  rw [show f' = (⟨4096 + f.val, by omega⟩ : Fin 8192) from Fin.ext hf]
  pointwise [VR]

theorem YR_apply (U M : FVec Ideal S16x2048x4096 .f32) (W : FVec Ideal S4096x2048 .f32) (B : FVec Ideal S2048 .f32) (b : Fin 16) (r e : Fin 2048) :
    YR U M W B (ix3 b r e) = (∑ f : Fin 4096, U (ix3 b r f) * M (ix3 b r f) * W (ix2 f e)) + B (ix1 e) := by
  pointwise [YR]

theorem mask_bit : ∀ t s : Fin 128,
    Scalar.select (IntOp.cmpi CmpIPredicate.sge (IntOp.addi (BitVec.ofNat 32 t.val) 0#32) (BitVec.ofNat 32 s.val)) 1#1 0#1
      = if s.val ≤ t.val then 1#1 else 0#1 := by
  decide +kernel

theorem mask_zero : id (constant (F := Ideal) S_ FTy.f32 0#32) ix0 = 0 := by
  show constant (F := Ideal) S_ FTy.f32 0#32 ix0 = 0
  pointwise

theorem mask_sel (t s : Fin 128) (a : EReal) :
    Scalar.select (Scalar.select (IntOp.cmpi CmpIPredicate.sge (IntOp.addi (BitVec.ofNat 32 t.val) 0#32) (BitVec.ofNat 32 s.val)) 1#1 0#1)
        a (id (constant (F := Ideal) S_ FTy.f32 0#32) ix0)
      = if s.val ≤ t.val then a else 0 := by
  rw [mask_bit]
  split
  · exact if_pos rfl
  · exact (if_neg (by decide)).trans mask_zero

theorem MXR_apply (N : FVec Ideal S16x2048x4096 .f32) (W : FVec Ideal S16x128x128 .f32) (B : FVec Ideal S16x128 .f32) (b : Fin 16) (n : Fin 16) (t : Fin 128) (g : Fin 16) (k : Fin 256)
    (r : Fin 2048) (f : Fin 4096) (hr : r.val = 128 * n.val + t.val) (hf : f.val = 256 * g.val + k.val) :
    MXR N W B (ix3 b r f) = (∑ s : Fin 128, N (ix3 b ⟨128 * n.val + s.val, by omega⟩ f) * (if s.val ≤ t.val then W (ix3 g t s) else 0)) + B (ix2 g t) := by
  have e1 : r.val / 128 = n.val := by omega
  have e2 : r.val % 128 = t.val := by omega
  have e3 : f.val / 256 = g.val := by omega
  pointwise [MXR]
  simp only [e1, e2, e3, Nat.mul_comm n.val 128]
  refine congrArg (· + _) (Finset.sum_congr rfl fun s _ => congrArg (_ * ·) ?_)
  exact mask_sel t s _

end Cert.ReferenceIdeal.Gmlp

end
-- ==== Proof.GmlpValue.lean ====
/-
  The values of the gated-MLP call: what its scratch buffers and its result array hold, as the reference's stages.
-/
module

public import proofs.«01_k».proof.Proof.GmlpFrame
public import proofs.«01_k».proof.Proof.GmlpRef
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Gmlp

open Cert.KernelIdeal Cert.KernelIdeal.Gen
open Idealize.ShloMosaic Idealize.ShloMosaic.TcCoe Idealize.SL.Sem
open Idealize.ShloMosaic.Pipeline (Dat)
open Cert.ReferenceIdeal.Gmlp (HR PR GR UR VR MUR NR MXR YR XR ZZ REF)

/-! ## The payloads and the reference's stages at an index -/

/-- The activation on one number. -/
def ge (p : EReal) : EReal :=
  p * (Ideal.ofBits FTy.f32 1056964608#32 * (1 + Ideal.tanh (Ideal.ofBits FTy.f32 1061962282#32 *
    (p + Ideal.ofBits FTy.f32 1027024659#32 * (p * (p * p))))))

theorem gate_pay (h : FVec Ideal S512x2048 .bf16) (w : FVec Ideal S2048x512 .bf16) (b : FVec Ideal S1x512 .f32) (r k : Fin 512) :
    k0_pay8 (F := Ideal) h w b (ix2 r k) = ge (∑ d : Fin 2048, h (ix2 r d) * w (ix2 d k) + b (ix2 0 k)) := by
  pointwise [k0_pay8, ge]

theorem GR_apply (P : FVec Ideal Cert.ReferenceIdeal.S16x2048x8192 .f32) (b : Fin 16) (r : Fin 2048) (f : Fin 8192) :
    GR (F := Ideal) P (ix3 b r f) = ge (P (ix3 b r f)) := by
  pointwise [GR, ge]
  rw [mul_comm (P (ix3 b r f) * P (ix3 b r f)) (P (ix3 b r f))]

theorem mean_pay (v : FVec Ideal S512x4096 .f32) (r : Fin 512) :
    k0_pay4 (F := Ideal) v (ix2 r 0) = Ideal.div (∑ x : Fin 4096, v (ix2 r x)) (Ideal.ofBits FTy.f32 1166016512#32) := by
  pointwise [k0_pay4, k0_pay3]

theorem rs_pay (v : FVec Ideal S512x4096 .f32) (r : Fin 512) :
    k0_pay5 (F := Ideal) v (ix2 r 0) = Ideal.rsqrt (Ideal.div (∑ x : Fin 4096,
        (v (ix2 r x) - Ideal.div (∑ x : Fin 4096, v (ix2 r x)) (Ideal.ofBits FTy.f32 1166016512#32))
          * (v (ix2 r x) - Ideal.div (∑ x : Fin 4096, v (ix2 r x)) (Ideal.ofBits FTy.f32 1166016512#32)))
        (Ideal.ofBits FTy.f32 1166016512#32) + Ideal.ofBits FTy.f32 897988541#32) := by
  pointwise [k0_pay5, k0_pay3]

theorem mean_ref (V : FVec Ideal Cert.ReferenceIdeal.S16x2048x4096 .f32) (b : Fin 16) (r : Fin 2048) :
    MUR (F := Ideal) V (ix3 b r 0) = Ideal.div (∑ x : Fin 4096, V (ix3 b r x)) (Ideal.ofBits FTy.f32 1166016512#32) := by
  pointwise [MUR]

theorem norm_ref (V : FVec Ideal Cert.ReferenceIdeal.S16x2048x4096 .f32) (G B : FVec Ideal Cert.ReferenceIdeal.S4096 .f32) (b : Fin 16) (r : Fin 2048) (f : Fin 4096) :
    NR (F := Ideal) V G B (ix3 b r f) = (V (ix3 b r f) - MUR V (ix3 b r 0)) * Ideal.rsqrt (Ideal.div (∑ x : Fin 4096,
        (V (ix3 b r x) - MUR V (ix3 b r 0)) * (V (ix3 b r x) - MUR V (ix3 b r 0))) (Ideal.ofBits FTy.f32 1166016512#32)
          + Ideal.ofBits FTy.f32 897988541#32) * G (ix1 f) + B (ix1 f) := by
  pointwise [NR]

theorem XR_apply (x : FVec Ideal Cert.ReferenceIdeal.S16x2048x2048 .f32) (g : FVec Ideal Cert.ReferenceIdeal.S16x2048 .f32) (y : FVec Ideal Cert.ReferenceIdeal.S16x2048x2048 .f32) (b : Fin 16) (r e : Fin 2048) :
    XR (F := Ideal) x g y (ix3 b r e) = x (ix3 b r e) + g (ix2 b e) * y (ix3 b r e) := by
  pointwise [XR]

theorem out_pay (x : FVec Ideal S512x4096 .bf16) (w : FVec Ideal S4096x256 .bf16) (r : FVec Ideal S1x512x256 .f32) (g : FVec Ideal S1x1x256 .f32) (b : FVec Ideal S1x256 .f32) (p : Fin 512) (k : Fin 256) :
    k0_pay53 (F := Ideal) x w r g b (ix3 0 p k) = r (ix3 0 p k) + g (ix3 0 0 k) * (∑ f : Fin 4096, x (ix2 p f) * w (ix2 f k) + b (ix2 0 k)) := by
  pointwise [k0_pay53]

theorem tri_bit : ∀ s t : Fin 128, IntOp.cmpi CmpIPredicate.sle (BitVec.ofNat 32 s.val) (BitVec.ofNat 32 t.val) = if s.val ≤ t.val then 1#1 else 0#1 := by
  decide +kernel

theorem tri_sel (s t : Fin 128) (a : EReal) :
    Scalar.select (IntOp.cmpi CmpIPredicate.sle (BitVec.ofNat 32 s.val) (BitVec.ofNat 32 t.val)) a 0 = if s.val ≤ t.val then a else 0 := by
  rw [tri_bit]
  split
  · exact if_pos rfl
  · exact if_neg (by decide)

/-- What a row chunk of a group is at an index, the rows of the chunk being `R`. -/
abbrev MixAt (R : Fin 128 → Fin 512) (h : FVec Ideal S512x2048 .bf16) (w : FVec Ideal S2048x256 .bf16) (b : FVec Ideal S1x256 .f32) (v : FVec Ideal S512x256 .f32) (mu rs : FVec Ideal S512x1 .f32) (lg lb : FVec Ideal S1x256 .f32) (ws : FVec Ideal S1x128x128 .f32) (bs : FVec Ideal S1x128x1 .f32)
    (t : Fin 128) (k : Fin 256) : EReal :=
  ge (∑ d : Fin 2048, h (ix2 (R t) d) * w (ix2 d k) + b (ix2 0 k)) *
    (∑ s : Fin 128, (if s.val ≤ t.val then ws (ix3 0 t s) * ((v (ix2 (R s) k) - mu (ix2 (R s) 0)) * rs (ix2 (R s) 0) * lg (ix2 0 k) + lb (ix2 0 k)) else 0)
      + bs (ix3 0 t 0))

section
variable (h : FVec Ideal S512x2048 .bf16) (w : FVec Ideal S2048x256 .bf16) (b : FVec Ideal S1x256 .f32) (v : FVec Ideal S512x256 .f32) (mu rs : FVec Ideal S512x1 .f32) (lg lb : FVec Ideal S1x256 .f32) (ws : FVec Ideal S1x128x128 .f32) (bs : FVec Ideal S1x128x1 .f32) (t : Fin 128) (k : Fin 256)

theorem mix_0 (R : Fin 128 → Fin 512) (hR : ∀ s, R s = ⟨s.val, by omega⟩) : mixP (F := Ideal) 0 h w b v mu rs lg lb ws bs (ix2 t k) = MixAt R h w b v mu rs lg lb ws bs t k := by
  show k0_pay17 (F := Ideal) k0_pay11 (k0_pay12 h w b) (k0_pay13 v mu rs) (k0_pay14 lg) lb ws bs (ix2 t k) = _
  pointwise [k0_pay11, k0_pay12, k0_pay13, k0_pay14, k0_pay15, k0_pay16, k0_pay17, k0_pay18, k0_pay19, k0_pay20, k0_pay21, MixAt, ge]
  simp only [hR, tri_sel]

theorem mix_1 (R : Fin 128 → Fin 512) (hR : ∀ s, R s = ⟨128 + s.val, by omega⟩) : mixP (F := Ideal) 1 h w b v mu rs lg lb ws bs (ix2 t k) = MixAt R h w b v mu rs lg lb ws bs t k := by
  show k0_pay18 (F := Ideal) k0_pay11 (k0_pay12 h w b) (k0_pay13 v mu rs) (k0_pay14 lg) lb ws bs (ix2 t k) = _
  pointwise [k0_pay11, k0_pay12, k0_pay13, k0_pay14, k0_pay15, k0_pay16, k0_pay17, k0_pay18, k0_pay19, k0_pay20, k0_pay21, MixAt, ge]
  simp only [hR, tri_sel]

theorem mix_2 (R : Fin 128 → Fin 512) (hR : ∀ s, R s = ⟨256 + s.val, by omega⟩) : mixP (F := Ideal) 2 h w b v mu rs lg lb ws bs (ix2 t k) = MixAt R h w b v mu rs lg lb ws bs t k := by
  show k0_pay20 (F := Ideal) (k0_pay12 h w b) (k0_pay16 k0_pay11 ws) (k0_pay19 (k0_pay13 v mu rs) (k0_pay14 lg) lb) bs (ix2 t k) = _
  pointwise [k0_pay11, k0_pay12, k0_pay13, k0_pay14, k0_pay15, k0_pay16, k0_pay17, k0_pay18, k0_pay19, k0_pay20, k0_pay21, MixAt, ge]
  simp only [hR, tri_sel]

theorem mix_3 (R : Fin 128 → Fin 512) (hR : ∀ s, R s = ⟨384 + s.val, by omega⟩) : mixP (F := Ideal) 3 h w b v mu rs lg lb ws bs (ix2 t k) = MixAt R h w b v mu rs lg lb ws bs t k := by
  show k0_pay21 (F := Ideal) (k0_pay12 h w b) (k0_pay15 (k0_pay13 v mu rs) (k0_pay14 lg) lb) (k0_pay16 k0_pay11 ws) bs (ix2 t k) = _
  pointwise [k0_pay11, k0_pay12, k0_pay13, k0_pay14, k0_pay15, k0_pay16, k0_pay17, k0_pay18, k0_pay19, k0_pay20, k0_pay21, MixAt, ge]
  simp only [hR, tri_sel]

theorem mix_pay (r : Fin 4) (R : Fin 128 → Fin 512) (hR : ∀ s, (R s).val = 128 * r.val + s.val) : mixP (F := Ideal) r h w b v mu rs lg lb ws bs (ix2 t k) = MixAt R h w b v mu rs lg lb ws bs t k :=
  match r, hR with
  | 0, hR => mix_0 h w b v mu rs lg lb ws bs t k R fun s => Fin.ext ((hR s).trans (by show 128 * 0 + s.val = s.val; omega))
  | 1, hR => mix_1 h w b v mu rs lg lb ws bs t k R fun s => Fin.ext ((hR s).trans (by show 128 * 1 + s.val = 128 + s.val; omega))
  | 2, hR => mix_2 h w b v mu rs lg lb ws bs t k R fun s => Fin.ext ((hR s).trans (by show 128 * 2 + s.val = 256 + s.val; omega))
  | 3, hR => mix_3 h w b v mu rs lg lb ws bs t k R fun s => Fin.ext ((hR s).trans (by show 128 * 3 + s.val = 384 + s.val; omega))

end

/-! ## The windows' blocks -/

theorem idx : ∀ t : Fin cfg0.N,
    win0_0.index t = ![t.val / 48, t.val / 12 % 4, 0] ∧ win0_1.index t = ![0, 0]
    ∧ win0_2.index t = ![t.val / 48, 0, 0] ∧ win0_3.index t = ![t.val / 48, 0, 0] ∧ win0_4.index t = ![t.val / 48, 0, t.val % 12 - 8]
    ∧ win0_9.index t = ![0, 0, 0] ∧ win0_10.index t = ![0, 0, 0]
    ∧ win0_11.index t = ![0, t.val % 12 - 8] ∧ win0_12.index t = ![0, t.val % 12 - 8]
    ∧ win0_13.index t = ![t.val / 48, t.val / 12 % 4, t.val % 12 - 8] := (by decide +kernel : ∀ t : Fin grid0.N, _)
theorem idxV : ∀ t : Fin cfg0.N, t.val % 12 < 4 → win0_5.index t = ![0, t.val % 12 + 4] ∧ win0_6.index t = ![0, t.val % 12 + 4] :=
  (by decide +kernel : ∀ t : Fin grid0.N, _)
theorem idxU : ∀ t : Fin cfg0.N, 4 ≤ t.val % 12 → t.val % 12 < 8 → win0_5.index t = ![0, t.val % 12 - 4] ∧ win0_6.index t = ![0, t.val % 12 - 4]
    ∧ win0_7.index t = ![0, t.val % 12 - 4] ∧ win0_8.index t = ![0, t.val % 12 - 4] :=
  (by decide +kernel : ∀ t : Fin grid0.N, _)

variable (m : (ℓ : Loc nD τ sig) → Buf (Elt Ideal) ℓ)

theorem ib0 (c : Dev nD) (t : Fin cfg0.N) (r : Fin 512) (d : Fin 2048) (b : Fin 16) (q : Fin 2048) (hb : (b : ℕ) = t.val / 48) (hq : (q : ℕ) = t.val / 12 % 4 * 512 + r) :
    iblk m c 0 t (ix3 0 r d) = m ((c.tc : Thread nD τ).loc main_arg0) (ix3 b q d) := by
  blk_point [iblk, V, idx t]
theorem ib1 (c : Dev nD) (t : Fin cfg0.N) (d : Fin 2048) :
    iblk m c 1 t (ix2 0 d) = m ((c.tc : Thread nD τ).loc main_arg1) (ix1 d) := by
  simp only [iblk]
  entry_read
  blk_simp [idx t]
  pointwise
  blk_ext [idx t]
theorem ib2 (c : Dev nD) (t : Fin cfg0.N) (d : Fin 2048) (b : Fin 16) (hb : (b : ℕ) = t.val / 48) :
    iblk m c 2 t (ix3 0 0 d) = m ((c.tc : Thread nD τ).loc main_arg2) (ix2 b d) := by
  simp only [iblk]
  entry_read
  blk_simp [idx t]
  pointwise
  blk_ext [idx t]
theorem ib3 (c : Dev nD) (t : Fin cfg0.N) (d : Fin 2048) (b : Fin 16) (hb : (b : ℕ) = t.val / 48) :
    iblk m c 3 t (ix3 0 0 d) = m ((c.tc : Thread nD τ).loc main_arg3) (ix2 b d) := by
  simp only [iblk]
  entry_read
  blk_simp [idx t]
  pointwise
  blk_ext [idx t]
theorem ib4 (c : Dev nD) (t : Fin cfg0.N) (d : Fin 512) (b : Fin 16) (e : Fin 2048) (hb : (b : ℕ) = t.val / 48) (he : (e : ℕ) = (t.val % 12 - 8) * 512 + d) :
    iblk m c 4 t (ix3 0 0 d) = m ((c.tc : Thread nD τ).loc main_arg4) (ix2 b e) := by
  simp only [iblk]
  entry_read
  blk_simp [idx t]
  pointwise
  blk_ext [idx t]
theorem ib5v (c : Dev nD) (t : Fin cfg0.N) (h : t.val % 12 < 4) (d : Fin 2048) (k : Fin 1024) (f : Fin 8192) (hf : (f : ℕ) = (t.val % 12 + 4) * 1024 + k) :
    iblk m c 5 t (ix2 d k) = m ((c.tc : Thread nD τ).loc main_arg5) (ix2 d f) := by
  simp only [iblk]
  entry_read
  blk_point [iblk, V, idxV t h]
theorem ib6v (c : Dev nD) (t : Fin cfg0.N) (h : t.val % 12 < 4) (k : Fin 1024) (f : Fin 8192) (hf : (f : ℕ) = (t.val % 12 + 4) * 1024 + k) :
    iblk m c 6 t (ix2 0 k) = m ((c.tc : Thread nD τ).loc main_arg6) (ix1 f) := by
  simp only [iblk]
  entry_read
  blk_simp [idxV t h]
  pointwise
  blk_ext [idxV t h]
theorem ib5u (c : Dev nD) (t : Fin cfg0.N) (h : 4 ≤ t.val % 12) (h8 : t.val % 12 < 8) (d : Fin 2048) (k : Fin 1024) (f : Fin 8192) (hf : (f : ℕ) = (t.val % 12 - 4) * 1024 + k) :
    iblk m c 5 t (ix2 d k) = m ((c.tc : Thread nD τ).loc main_arg5) (ix2 d f) := by
  simp only [iblk]
  entry_read
  blk_point [iblk, V, idxU t h h8]
theorem ib6u (c : Dev nD) (t : Fin cfg0.N) (h : 4 ≤ t.val % 12) (h8 : t.val % 12 < 8) (k : Fin 1024) (f : Fin 8192) (hf : (f : ℕ) = (t.val % 12 - 4) * 1024 + k) :
    iblk m c 6 t (ix2 0 k) = m ((c.tc : Thread nD τ).loc main_arg6) (ix1 f) := by
  simp only [iblk]
  entry_read
  blk_simp [idxU t h h8]
  pointwise
  blk_ext [idxU t h h8]
theorem ib7 (c : Dev nD) (t : Fin cfg0.N) (h : 4 ≤ t.val % 12) (h8 : t.val % 12 < 8) (k : Fin 1024) (f : Fin 4096) (hf : (f : ℕ) = (t.val % 12 - 4) * 1024 + k) :
    iblk m c 7 t (ix2 0 k) = m ((c.tc : Thread nD τ).loc main_arg7) (ix1 f) := by
  simp only [iblk]
  entry_read
  blk_simp [idxU t h h8]
  pointwise
  blk_ext [idxU t h h8]
theorem ib8 (c : Dev nD) (t : Fin cfg0.N) (h : 4 ≤ t.val % 12) (h8 : t.val % 12 < 8) (k : Fin 1024) (f : Fin 4096) (hf : (f : ℕ) = (t.val % 12 - 4) * 1024 + k) :
    iblk m c 8 t (ix2 0 k) = m ((c.tc : Thread nD τ).loc main_arg8) (ix1 f) := by
  simp only [iblk]
  entry_read
  blk_simp [idxU t h h8]
  pointwise
  blk_ext [idxU t h h8]
theorem ib9 (c : Dev nD) (t : Fin cfg0.N) (g : Fin 16) (a k : Fin 128) :
    iblk m c 9 t (ix3 g a k) = m ((c.tc : Thread nD τ).loc main_arg9) (ix3 g a k) := by
  blk_point [iblk, V, idx t]
theorem ib10 (c : Dev nD) (t : Fin cfg0.N) (g : Fin 16) (a : Fin 128) :
    iblk m c 10 t (ix3 g a 0) = m ((c.tc : Thread nD τ).loc main_arg10) (ix2 g a) := by
  simp only [iblk]
  entry_read
  blk_simp [idx t]
  pointwise
  blk_ext [idx t]
theorem ib11 (c : Dev nD) (t : Fin cfg0.N) (f : Fin 4096) (k : Fin 512) (e : Fin 2048) (he : (e : ℕ) = (t.val % 12 - 8) * 512 + k) :
    iblk m c 11 t (ix2 f k) = m ((c.tc : Thread nD τ).loc main_arg11) (ix2 f e) := by
  simp only [iblk]
  entry_read
  blk_point [iblk, V, idx t]
theorem ib12 (c : Dev nD) (t : Fin cfg0.N) (k : Fin 512) (e : Fin 2048) (he : (e : ℕ) = (t.val % 12 - 8) * 512 + k) :
    iblk m c 12 t (ix2 0 k) = m ((c.tc : Thread nD τ).loc main_arg12) (ix1 e) := by
  simp only [iblk]
  entry_read
  blk_simp [idx t]
  pointwise
  blk_ext [idx t]

end Cert.KernelIdeal.Gmlp

end
-- ==== Proof.GmlpFinal.lean ====
/-
  The result array of the gated-MLP call is the reference's function of the argument arrays.
-/
module

public import proofs.«01_k».proof.Proof.GmlpValue
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Gmlp

open Cert.KernelIdeal Cert.KernelIdeal.Gen
open Idealize.ShloMosaic Idealize.ShloMosaic.TcCoe Idealize.SL.Sem
open Idealize.ShloMosaic.Pipeline (Dat)
open Cert.ReferenceIdeal.Gmlp (HR PR GR UR VR MUR NR MXR YR XR ZZ REF)

variable (m : (ℓ : Loc nD τ sig) → Buf (Elt Ideal) ℓ)

theorem sub_at {F : FTy → Type} [FloatOps F] {s : Shape} {e : EltTy} (x : Vec F s e) {off size : Fin s.rank → ℕ} {inb : ∀ a, off a + size a ≤ s.size a}
    (k : (Rect.unit off size inb).shape.Idx) (y : s.Idx) (h : ∀ a, (y a).val = off a + (k a).val) : sub x off size inb k = x y :=
  congrArg x (funext fun a => Fin.ext (by
    show off a + 1 * (k a).val = _
    rw [h, one_mul]))

theorem forall3 (P : Fin 3 → Prop) (h0 : P 0) (h1 : P 1) (h2 : P 2) : ∀ a, P a := by
  intro a
  fin_cases a
  · exact h0
  · exact h1
  · exact h2

theorem if_mul (p : Prop) [Decidable p] (a a' n n' : EReal) (ha : a = a') (hn : n = n') : (if p then a * n else 0) = n' * (if p then a' else 0) := by
  subst ha hn
  split
  · exact mul_comm _ _
  · exact (mul_zero _).symm

/-- The reference's activated rows. -/
abbrev ZZm (c : Dev nD) : FVec Ideal Cert.ReferenceIdeal.S16x2048x8192 .f32 := ZZ (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6))

theorem pt_div (q : Fin 64) (j : Fin 12) : (pt q j).val / 48 = q.val / 4 := by show (12 * q.val + j.val) / 48 = _; omega
theorem pt_rows (q : Fin 64) (j : Fin 12) : (pt q j).val / 12 % 4 = q.val % 4 := by show (12 * q.val + j.val) / 12 % 4 = _; omega
theorem pt_col (q : Fin 64) (j : Fin 12) : (pt q j).val % 12 = j.val := by show (12 * q.val + j.val) % 12 = _; omega

/-- The stored rows are the reference's modulated rows. -/
theorem HH_eq (c : Dev nD) (q : Fin 64) (r : Fin 512) (d : Fin 2048) (b : Fin 16) (n : Fin 2048) (hb : (b : ℕ) = q.val / 4) (hn : (n : ℕ) = q.val % 4 * 512 + r.val) :
    HH m c q (ix2 r d) = HR (F := Ideal) (m ((c.tc : Thread nD τ).loc main_arg0)) (m ((c.tc : Thread nD τ).loc main_arg1)) (m ((c.tc : Thread nD τ).loc main_arg2)) (m ((c.tc : Thread nD τ).loc main_arg3)) (ix3 b n d) := by
  have e1 : (b : ℕ) = (pt q 0).val / 48 := by rw [pt_div]; exact hb
  have e2 : (n : ℕ) = (pt q 0).val / 12 % 4 * 512 + r.val := by rw [pt_rows]; exact hn
  pointwise [HH, k0_pay1, HR]
  simp only [ib0 m c (pt q 0) r _ b n e1 e2, ib1 m c (pt q 0), ib2 m c (pt q 0) _ b e1, ib3 m c (pt q 0) _ b e1]

/-- A tile of the second half. -/
theorem VVt_eq (c : Dev nD) (q : Fin 64) (j : Fin 4) (e : Fin 2) (r k : Fin 512) (b : Fin 16) (n : Fin 2048) (f : Fin 4096) (hb : (b : ℕ) = q.val / 4) (hn : (n : ℕ) = q.val % 4 * 512 + r.val)
    (hf : f.val = 1024 * j.val + 512 * e.val + k.val) :
    VVt m c q j e (ix2 r k) = VR (F := Ideal) (ZZm m c) (ix3 b n f) := by
  have hj : (pt q ⟨j.val, by omega⟩).val % 12 = j.val := pt_col q _
  have hlt : (pt q ⟨j.val, by omega⟩).val % 12 < 4 := by rw [hj]; exact j.isLt
  unfold VVt
  rw [gate_pay, Cert.ReferenceIdeal.Gmlp.VR_apply _ b n f ⟨4096 + f.val, by omega⟩ rfl, ZZm, ZZ, GR_apply, Cert.ReferenceIdeal.Gmlp.PR_apply]
  refine congrArg ge (congrArg₂ (· + ·) (Finset.sum_congr rfl fun d _ => congrArg₂ (· * ·) (HH_eq m c q r d b n hb hn) ?_) ?_)
  · exact (sub_at _ _ (ix2 d ⟨512 * e.val + k.val, by omega⟩) (Fin.forall_fin_two.mpr ⟨by show d.val = 0 + d.val; omega, rfl⟩)).trans
      (ib5v m c _ hlt d _ _ (by rw [hj]; show 4096 + f.val = _ + (512 * e.val + k.val); omega))
  · exact (sub_at _ _ (ix2 0 ⟨512 * e.val + k.val, by omega⟩) (Fin.forall_fin_two.mpr ⟨rfl, rfl⟩)).trans
      (ib6v m c _ hlt _ _ (by rw [hj]; show 4096 + f.val = _ + (512 * e.val + k.val); omega))

theorem VV_eq (c : Dev nD) (q : Fin 64) (r : Fin 512) (f : Fin 4096) (b : Fin 16) (n : Fin 2048) (hb : (b : ℕ) = q.val / 4) (hn : (n : ℕ) = q.val % 4 * 512 + r.val) :
    VV m c q (ix2 r f) = VR (F := Ideal) (ZZm m c) (ix3 b n f) :=
  VVt_eq m c q _ _ r _ b n f hb hn (by show f.val = 1024 * (f.val / 1024) + 512 * (f.val / 512 % 2) + f.val % 512; omega)

/-- A row of the second half, normalized. -/
theorem norm_eq (c : Dev nD) (q : Fin 64) (r : Fin 512) (f : Fin 4096) (b : Fin 16) (n : Fin 2048) (hb : (b : ℕ) = q.val / 4) (hn : (n : ℕ) = q.val % 4 * 512 + r.val)
    (G B : FVec Ideal Cert.ReferenceIdeal.S4096 .f32) :
    NR (F := Ideal) (VR (F := Ideal) (ZZm m c)) G B (ix3 b n f)
      = (VV m c q (ix2 r f) - k0_pay4 (F := Ideal) (VV m c q) (ix2 r 0)) * k0_pay5 (F := Ideal) (VV m c q) (ix2 r 0) * G (ix1 f) + B (ix1 f) := by
  rw [norm_ref, mean_ref, mean_pay, rs_pay]
  simp only [VV_eq m c q r _ b n hb hn]

/-- A tile of the mixed rows. -/
theorem MMt_eq (c : Dev nD) (q : Fin 64) (r j g : Fin 4) (t : Fin 128) (k : Fin 256) (b : Fin 16) (n : Fin 2048) (f : Fin 4096) (hb : (b : ℕ) = q.val / 4)
    (hn : (n : ℕ) = q.val % 4 * 512 + (128 * r.val + t.val)) (hf : f.val = 1024 * j.val + 256 * g.val + k.val) :
    MMt m c q r j g (ix2 t k) = UR (F := Ideal) (ZZm m c) (ix3 b n f)
      * MXR (F := Ideal) (NR (F := Ideal) (VR (F := Ideal) (ZZm m c)) (m ((c.tc : Thread nD τ).loc main_arg7)) (m ((c.tc : Thread nD τ).loc main_arg8))) (m ((c.tc : Thread nD τ).loc main_arg9)) (m ((c.tc : Thread nD τ).loc main_arg10)) (ix3 b n f) := by
  have hj : (pt q ⟨4 + j.val, by omega⟩).val % 12 = 4 + j.val := pt_col q _
  have h4 : 4 ≤ (pt q ⟨4 + j.val, by omega⟩).val % 12 := by rw [hj]; omega
  have h8 : (pt q ⟨4 + j.val, by omega⟩).val % 12 < 8 := by rw [hj]; omega
  have hk : 256 * g.val + k.val < 1024 := by omega
  have hcol : f.val = ((pt q ⟨4 + j.val, by omega⟩).val % 12 - 4) * 1024 + (⟨256 * g.val + k.val, hk⟩ : Fin 1024).val := by rw [hj]; show _ = _ + (256 * g.val + k.val); omega
  have hg : 4 * j.val + g.val < 16 := by omega
  have hr4 : q.val % 4 * 4 + r.val < 16 := by omega
  unfold MMt
  rw [mix_pay _ _ _ _ _ _ _ _ _ _ t k r (fun s => ⟨128 * r.val + s.val, by omega⟩) (fun _ => rfl),
    Cert.ReferenceIdeal.Gmlp.MXR_apply _ _ _ b ⟨q.val % 4 * 4 + r.val, hr4⟩ t ⟨4 * j.val + g.val, hg⟩ k n f
      (by show n.val = 128 * (q.val % 4 * 4 + r.val) + t.val; omega) (by show f.val = 256 * (4 * j.val + g.val) + k.val; omega),
    Cert.ReferenceIdeal.Gmlp.UR_apply _ b n f ⟨f.val, by omega⟩ rfl, ZZm, ZZ, GR_apply, Cert.ReferenceIdeal.Gmlp.PR_apply]
  refine congrArg₂ (· * ·) (congrArg ge (congrArg₂ (· + ·) (Finset.sum_congr rfl fun d _ => congrArg₂ (· * ·) (HH_eq m c q _ d b n hb hn) ?_) ?_))
    (congrArg₂ (· + ·) (Finset.sum_congr rfl fun s _ => ?_) ?_)
  · exact (sub_at _ _ (ix2 d ⟨256 * g.val + k.val, hk⟩) (Fin.forall_fin_two.mpr ⟨by show d.val = 0 + d.val; omega, rfl⟩)).trans (ib5u m c _ h4 h8 d _ _ hcol)
  · exact (sub_at _ _ (ix2 0 ⟨256 * g.val + k.val, hk⟩) (Fin.forall_fin_two.mpr ⟨rfl, rfl⟩)).trans (ib6u m c _ h4 h8 _ _ hcol)
  · refine if_mul _ _ _ _ _ ?_ ?_
    · refine (sub_at _ _ (ix3 ⟨4 * j.val + g.val, hg⟩ t s) (forall3 _ rfl ?_ ?_)).trans (ib9 m c _ _ t s)
      · show t.val = 0 + t.val; omega
      · show s.val = 0 + s.val; omega
    · refine Eq.trans ?_ (norm_eq m c q ⟨128 * r.val + s.val, by omega⟩ f b _ hb (by show 128 * (q.val % 4 * 4 + r.val) + s.val = q.val % 4 * 512 + (128 * r.val + s.val); omega) _ _).symm
      refine congrArg₂ (· + ·) (congrArg₂ (· * ·) (congrArg₂ (· * ·) (congrArg₂ (· - ·) ?_ rfl) rfl) ?_) ?_
      · exact sub_at _ _ (ix2 ⟨128 * r.val + s.val, by omega⟩ f) (Fin.forall_fin_two.mpr ⟨by show 128 * r.val + s.val = 0 + (128 * r.val + s.val); omega, by show f.val = 256 * (4 * j.val + g.val) + k.val; omega⟩)
      · exact (sub_at _ _ (ix2 0 ⟨256 * g.val + k.val, hk⟩) (Fin.forall_fin_two.mpr ⟨rfl, rfl⟩)).trans (ib7 m c _ h4 h8 _ f hcol)
      · exact (sub_at _ _ (ix2 0 ⟨256 * g.val + k.val, hk⟩) (Fin.forall_fin_two.mpr ⟨rfl, rfl⟩)).trans (ib8 m c _ h4 h8 _ f hcol)
  · refine (sub_at _ _ (ix3 ⟨4 * j.val + g.val, hg⟩ t 0) (forall3 _ rfl ?_ rfl)).trans (ib10 m c _ _ t)
    show t.val = 0 + t.val; omega

theorem MM_eq (c : Dev nD) (q : Fin 64) (r : Fin 512) (f : Fin 4096) (b : Fin 16) (n : Fin 2048) (hb : (b : ℕ) = q.val / 4) (hn : (n : ℕ) = q.val % 4 * 512 + r.val) :
    MM m c q (ix2 r f) = UR (F := Ideal) (ZZm m c) (ix3 b n f)
      * MXR (F := Ideal) (NR (F := Ideal) (VR (F := Ideal) (ZZm m c)) (m ((c.tc : Thread nD τ).loc main_arg7)) (m ((c.tc : Thread nD τ).loc main_arg8))) (m ((c.tc : Thread nD τ).loc main_arg9)) (m ((c.tc : Thread nD τ).loc main_arg10)) (ix3 b n f) :=
  MMt_eq m c q _ _ _ _ _ b n f hb (by show n.val = q.val % 4 * 512 + (128 * (r.val / 128) + r.val % 128); omega)
    (by show f.val = 1024 * (f.val / 1024) + 256 * (f.val / 256 % 4) + f.val % 256; omega)

/-- The reference's result of the argument arrays. -/
abbrev REFm (c : Dev nD) : FVec Ideal Cert.ReferenceIdeal.S16x2048x2048 .f32 := REF (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

/-- A tile of an output block. -/
theorem OOt_eq (c : Dev nD) (q : Fin 64) (jj : Fin 4) (e : Fin 2) (r : Fin 512) (k : Fin 256) (b : Fin 16) (n x : Fin 2048) (hb : (b : ℕ) = q.val / 4) (hn : (n : ℕ) = q.val % 4 * 512 + r.val)
    (hx : x.val = 512 * jj.val + 256 * e.val + k.val) : OOt m c q jj e (ix3 0 r k) = REFm m c (ix3 b n x) := by
  have hj : (pt q ⟨8 + jj.val, by omega⟩).val % 12 = 8 + jj.val := pt_col q _
  have e1 : (b : ℕ) = (pt q ⟨8 + jj.val, by omega⟩).val / 48 := by rw [pt_div]; exact hb
  have e2 : (n : ℕ) = (pt q ⟨8 + jj.val, by omega⟩).val / 12 % 4 * 512 + r.val := by rw [pt_rows]; exact hn
  have hk : 256 * e.val + k.val < 512 := by omega
  have hcol : x.val = ((pt q ⟨8 + jj.val, by omega⟩).val % 12 - 8) * 512 + (⟨256 * e.val + k.val, hk⟩ : Fin 512).val := by rw [hj]; show _ = _ + (256 * e.val + k.val); omega
  unfold OOt REFm REF
  rw [out_pay, XR_apply, Cert.ReferenceIdeal.Gmlp.YR_apply]
  refine congrArg₂ (· + ·) ?_ (congrArg₂ (· * ·) ?_ (congrArg₂ (· + ·) (Finset.sum_congr rfl fun f _ => congrArg₂ (· * ·) (MM_eq m c q r f b n hb hn) ?_) ?_))
  · refine (sub_at _ _ (ix3 0 r x) (forall3 _ rfl ?_ ?_)).trans (ib0 m c _ r x b n e1 e2)
    · show r.val = 0 + r.val; omega
    · show x.val = 512 * jj.val + 256 * e.val + k.val; omega
  · exact (sub_at _ _ (ix3 0 0 ⟨256 * e.val + k.val, hk⟩) (forall3 _ rfl rfl rfl)).trans (ib4 m c _ _ b x e1 hcol)
  · exact (sub_at _ _ (ix2 f ⟨256 * e.val + k.val, hk⟩) (Fin.forall_fin_two.mpr ⟨by show f.val = 0 + f.val; omega, rfl⟩)).trans (ib11 m c _ f _ x hcol)
  · exact (sub_at _ _ (ix2 0 ⟨256 * e.val + k.val, hk⟩) (Fin.forall_fin_two.mpr ⟨rfl, rfl⟩)).trans (ib12 m c _ _ x hcol)

/-- An output block. -/
theorem OO_eq (c : Dev nD) (q : Fin 64) (jj : Fin 4) (r k : Fin 512) (b : Fin 16) (n x : Fin 2048) (hb : (b : ℕ) = q.val / 4) (hn : (n : ℕ) = q.val % 4 * 512 + r.val)
    (hx : x.val = jj.val * 512 + k.val) : OO m c q jj (ix3 0 r k) = REFm m c (ix3 b n x) :=
  OOt_eq m c q jj _ r _ b n x hb hn (by show x.val = 512 * jj.val + 256 * (k.val / 256) + k.val % 256; omega)

/-- The result array after the run is any array whose blocks the output blocks are. -/
theorem final_of (c : Dev nD) (R : FVec Ideal S16x2048x2048 .f32)
    (h : ∀ (q : Fin 64) (jj : Fin 4) (r k : Fin 512) (b : Fin 16) (n x : Fin 2048), (b : ℕ) = q.val / 4 → (n : ℕ) = q.val % 4 * 512 + r.val → x.val = jj.val * 512 + k.val →
      OO m c q jj (ix3 0 r k) = R (ix3 b n x)) : (dats m 0 c).arrAt 13 (cfgs 0).N = R := by
  refine (dats m 0 c).arrAt_eq_of_covers 13 _ (by decide +kernel) fun t hf y => ?_
  have h8 : 8 ≤ t.val % 12 := (hflush t).mp hf
  blk_simp
  rw [after_13]
  idx_vars y
  have ht : t.val < 768 := lt_of_lt_of_eq t.isLt N_0
  have hy := y1.isLt
  have hy2 := y2.isLt
  obtain rfl : y0 = 0 := Subsingleton.elim _ _
  refine (h ⟨t.val / 12, by omega⟩ ⟨t.val % 12 - 8, by omega⟩ y1 y2 ⟨t.val / 48, by omega⟩ ⟨t.val / 12 % 4 * 512 + y1.val, by omega⟩ ⟨(t.val % 12 - 8) * 512 + y2.val, by omega⟩
    (by show t.val / 48 = t.val / 12 / 4; omega) rfl rfl).trans ?_
  blk_ext [idx t]

/-- The result array after the run is the reference's function of the argument arrays. -/
theorem final (c : Dev nD) : (dats m 0 c).arrAt 13 (cfgs 0).N = REFm m c :=
  final_of m c (REFm m c) (OO_eq m c)

end Cert.KernelIdeal.Gmlp

end
-- ==== Proof.GmlpKernel.lean ====
/-
  The gated-MLP call's frame read at the machine's floats is the frame of the kernel's own program: the two programs are the same text.
-/
module

public import proofs.«01_k».proof.Defs
public import proofs.«01_k».proof.Proof.Gen.Kernel
public import proofs.«01_k».proof.Proof.Gen.KernelIdeal
public import proofs.«01_k».proof.Proof.GmlpFrame

@[expose] public section

noncomputable section

namespace Cert.Proof

open Idealize.ShloMosaic Idealize.SL.Sem

/-- Both programs print the same body. -/
theorem body_eq : Cert.Kernel.cc0_gmlp (F := Bits) = Cert.KernelIdeal.cc0_gmlp (F := Bits) := rfl

set_option maxHeartbeats 1000000 in
/-- Both programs' body tables are the same. -/
theorem defs₀_eq : Cert.Kernel.defs₀ (F := Bits) = Cert.KernelIdeal.defs₀ (F := Bits) := by
  unfold Cert.Kernel.defs₀ Cert.KernelIdeal.defs₀
  rw [body_eq]
  generalize Cert.KernelIdeal.cc0_gmlp (F := Bits) = B
  refine congrArg Defs.onTc (funext fun l => funext fun a => ?_)
  obtain rfl : l = 0 := Subsingleton.elim _ _
  obtain ⟨t, s⟩ := a
  rfl

theorem defs_eq : Cert.Kernel.defs (F := Bits) = Cert.KernelIdeal.defs (F := Bits) := by
  unfold Cert.Kernel.defs Cert.KernelIdeal.defs
  exact congrArg (Pipeline.defs Cert.KernelIdeal.pcfgs) defs₀_eq

theorem kernel : Cert.quiescent_Kernel := by
  intro m ρ _
  rw [defs_eq]
  exact Cert.KernelIdeal.Gmlp.frame (F := Bits) m ρ

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal.Run
public import proofs.«01_k».proof.Proof.Mlp
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal.Run
public import proofs.«01_k».proof.Proof.Res
public import proofs.«01_k».proof.Proof.KvValue
public import proofs.«01_k».proof.Proof.KvKernel
public import proofs.«01_k».proof.Proof.GmlpFinal
public import proofs.«01_k».proof.Proof.GmlpKernel
public import Idealize.ShloMosaic.Lib.Claim
public import Idealize.ShloMosaic.Lib.Quiescent

@[expose] public section

noncomputable section

namespace Cert.Proof

open Idealize.ShloMosaic Idealize.SL.Sem

theorem kernelIdeal : Cert.quiescent_KernelIdeal := fun m ρ _ => Cert.KernelIdeal.Gmlp.frame m ρ

theorem reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

/-- Two results that are one array are equal. -/
theorem close (m : (ℓ : Loc Cert.KernelIdeal.nD Cert.KernelIdeal.τ Cert.KernelIdeal.sig) → Buf (Elt Ideal) ℓ) (c : Dev Cert.KernelIdeal.nD)
    (m' : (ℓ : Loc Cert.ReferenceIdeal.nD Cert.ReferenceIdeal.τ Cert.ReferenceIdeal.sig) → Buf (Elt Ideal) ℓ)
    (X : FVec Ideal Cert.KernelIdeal.S16x2048x2048 .f32) (hr : Cert.ReferenceIdeal.Value.res_main_v84 m' c = X)
    (hf : (Cert.KernelIdeal.Gmlp.dats m 0 c).arrAt 13 (Cert.KernelIdeal.cfgs 0).N = X) :
    @Eq (FVec Ideal Cert.KernelIdeal.S16x2048x2048 .f32) (Cert.ReferenceIdeal.Value.res_main_v84 m' c)
      ((Cert.KernelIdeal.Gmlp.dats m 0 c).arrAt 13 (Cert.KernelIdeal.cfgs 0).N) := by
  refine Eq.trans (b := X) ?_ ?_
  · exact hr
  · exact hf.symm

/-- From equal arguments the reference's result is its function of the kernel's arguments. -/
theorem ref_eq (m : (ℓ : Loc Cert.KernelIdeal.nD Cert.KernelIdeal.τ Cert.KernelIdeal.sig) → Buf (Elt Ideal) ℓ) (c : Dev Cert.KernelIdeal.nD)
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Value.res_main_v84 m' c = Cert.KernelIdeal.Gmlp.REFm m c := by
  rw [Cert.ReferenceIdeal.Gmlp.res_eq, h0, h1, h2, h3, h4, h5, h6, h7, h8, h9, h10, h11, h12]

theorem algebraic : Cert.algebraic_KernelIdeal_ReferenceIdeal := by
  pair_intro
  · run_from Cert.KernelIdeal.Gmlp.run_main m g
  · run_from Cert.ReferenceIdeal.Value.run m' g'
    obtain ⟨h0, h1, h2, h3, h4, h5, h6, h7, h8, h9, h10, h11, h12⟩ := hagree c
    exact close m c m' _ (ref_eq m c m' h0 h1 h2 h3 h4 h5 h6 h7 h8 h9 h10 h11 h12) (Cert.KernelIdeal.Gmlp.final m c)

theorem reference2 : Cert.quiescent_Reference2Ideal := fun m ρ _ =>
  (θ_run Cert.Reference2Ideal.defs _ _).mono (fun r h => ⟨fun c => (h c).2, sem_eq_zero_of_no_sems rfl r.2⟩)
    (Cert.Reference2Ideal.Value.run m ρ)

theorem algebraic2 : Cert.algebraic_Kernel2Ideal_Reference2Ideal := by
  pair_intro
  · run_from Cert.Kernel2Ideal.Gen.run_main m g
  · run_from Cert.Reference2Ideal.Value.run m' g'
    rw [Cert.Reference2Ideal.Mlp.res_eq, Cert.Kernel2Ideal.Mlp.final m c]
    obtain ⟨h0, h1, h2, h3, h4, h5, h6, h7⟩ := hagree c
    rw [h0, h1, h2, h3, h4, h5, h6, h7]

theorem reference3 : Cert.quiescent_Reference3Ideal := fun m ρ _ =>
  (θ_run Cert.Reference3Ideal.defs _ _).mono (fun r h => ⟨fun c => (h c).2, sem_eq_zero_of_no_sems rfl r.2⟩)
    (Cert.Reference3Ideal.Value.run m ρ)

theorem algebraic3 : Cert.algebraic_Kernel3Ideal_Reference3Ideal := by
  pair_intro
  · run_from Cert.Kernel3Ideal.Gen.run_main m g
  · run_from Cert.Reference3Ideal.Value.run m' g'
    rw [Cert.Kernel3Ideal.Res.final m c]
    rfl

theorem kernel4Ideal : Cert.quiescent_Kernel4Ideal := fun m ρ _ => Cert.Kernel4Ideal.Kv.frame m ρ

theorem reference4 : Cert.quiescent_Reference4Ideal := fun m ρ _ =>
  (θ_run Cert.Reference4Ideal.defs _ _).mono (fun r h => ⟨fun c => (h c).2.2, sem_eq_zero_of_no_sems rfl r.2⟩)
    (Cert.Reference4Ideal.Value.run m ρ)

theorem algebraic4 : Cert.algebraic_Kernel4Ideal_Reference4Ideal := by
  pair_intro
  · run_from Cert.Kernel4Ideal.Kv.run_main m g
  · run_from Cert.Reference4Ideal.Value.run m' g'
    · obtain ⟨h0, h1, h2, h3, h4⟩ := hagree c
      rw [Cert.Reference4Ideal.Kv.res_eq0, Cert.Kernel4Ideal.Kv.final7 m c, h0, h1, h2, h3, h4]
    · obtain ⟨h0, h1, h2, h3, h4⟩ := hagree c
      rw [Cert.Reference4Ideal.Kv.res_eq1, Cert.Kernel4Ideal.Kv.final8 m c, h0, h1, h2, h3, h4]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  kernel, kernelIdeal, reference,
  fun m ρ _ => Cert.Kernel2.Gen.frame m ρ, fun m ρ _ => Cert.Kernel2Ideal.Gen.frame m ρ, reference2,
  fun m ρ _ => Cert.Kernel3.Gen.frame m ρ, fun m ρ _ => Cert.Kernel3Ideal.Gen.frame m ρ, reference3,
  kernel4, kernel4Ideal, reference4,
  trivial, algebraic, trivial, algebraic2, trivial, algebraic3, trivial, algebraic4⟩

end Cert.Proof

end
